-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Repair (m : (ℓ : Loc Cert.Repair.nD Cert.Repair.τ Cert.Repair.sig) → Buf (Elt Bits) ℓ) : Prop :=
  True

def Pre_RepairIdeal (m : (ℓ : Loc Cert.RepairIdeal.nD Cert.RepairIdeal.τ Cert.RepairIdeal.sig) → Buf (Elt Ideal) ℓ) : Prop :=
  True

def Pre_RepairedIdeal (m : (ℓ : Loc Cert.RepairedIdeal.nD Cert.RepairedIdeal.τ Cert.RepairedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Repair [hRepair : Cert.Repair.Facts] : Prop :=
  ∀ (m : (ℓ : Loc Cert.Repair.nD Cert.Repair.τ Cert.Repair.sig) → Buf (Elt Bits) ℓ) (g : Dev Cert.Repair.nD → PrngReg), Pre_Repair m →
    θ_run (Cert.Repair.defs (F := Bits)) (onTc (τ := Cert.Repair.τ) (Cert.Repair.main (F := Bits))) ⟨m, fun _ => 0, g⟩ (fun r => (∀ c : Dev Cert.Repair.nD,
      r.2.mem ((c.tc : Thread Cert.Repair.nD Cert.Repair.τ).loc Cert.Repair.main_arg0) = m ((c.tc : Thread Cert.Repair.nD Cert.Repair.τ).loc Cert.Repair.main_arg0)
      ∧ r.2.mem ((c.tc : Thread Cert.Repair.nD Cert.Repair.τ).loc Cert.Repair.main_arg1) = m ((c.tc : Thread Cert.Repair.nD Cert.Repair.τ).loc Cert.Repair.main_arg1)
      ∧ r.2.mem ((c.tc : Thread Cert.Repair.nD Cert.Repair.τ).loc Cert.Repair.main_arg2) = m ((c.tc : Thread Cert.Repair.nD Cert.Repair.τ).loc Cert.Repair.main_arg2)
      ∧ r.2.mem ((c.tc : Thread Cert.Repair.nD Cert.Repair.τ).loc Cert.Repair.main_arg3) = m ((c.tc : Thread Cert.Repair.nD Cert.Repair.τ).loc Cert.Repair.main_arg3)
      ∧ r.2.mem ((c.tc : Thread Cert.Repair.nD Cert.Repair.τ).loc Cert.Repair.main_arg4) = m ((c.tc : Thread Cert.Repair.nD Cert.Repair.τ).loc Cert.Repair.main_arg4)
      ∧ r.2.mem ((c.tc : Thread Cert.Repair.nD Cert.Repair.τ).loc Cert.Repair.main_arg5) = m ((c.tc : Thread Cert.Repair.nD Cert.Repair.τ).loc Cert.Repair.main_arg5))
      ∧ r.2.sem = fun _ => 0)

def quiescent_RepairIdeal [hRepairIdeal : Cert.RepairIdeal.Facts] : Prop :=
  ∀ (m : (ℓ : Loc Cert.RepairIdeal.nD Cert.RepairIdeal.τ Cert.RepairIdeal.sig) → Buf (Elt Ideal) ℓ) (g : Dev Cert.RepairIdeal.nD → PrngReg), Pre_RepairIdeal m →
    θ_run (Cert.RepairIdeal.defs (F := Ideal)) (onTc (τ := Cert.RepairIdeal.τ) (Cert.RepairIdeal.main (F := Ideal))) ⟨m, fun _ => 0, g⟩ (fun r => (∀ c : Dev Cert.RepairIdeal.nD,
      r.2.mem ((c.tc : Thread Cert.RepairIdeal.nD Cert.RepairIdeal.τ).loc Cert.RepairIdeal.main_arg0) = m ((c.tc : Thread Cert.RepairIdeal.nD Cert.RepairIdeal.τ).loc Cert.RepairIdeal.main_arg0)
      ∧ r.2.mem ((c.tc : Thread Cert.RepairIdeal.nD Cert.RepairIdeal.τ).loc Cert.RepairIdeal.main_arg1) = m ((c.tc : Thread Cert.RepairIdeal.nD Cert.RepairIdeal.τ).loc Cert.RepairIdeal.main_arg1)
      ∧ r.2.mem ((c.tc : Thread Cert.RepairIdeal.nD Cert.RepairIdeal.τ).loc Cert.RepairIdeal.main_arg2) = m ((c.tc : Thread Cert.RepairIdeal.nD Cert.RepairIdeal.τ).loc Cert.RepairIdeal.main_arg2)
      ∧ r.2.mem ((c.tc : Thread Cert.RepairIdeal.nD Cert.RepairIdeal.τ).loc Cert.RepairIdeal.main_arg3) = m ((c.tc : Thread Cert.RepairIdeal.nD Cert.RepairIdeal.τ).loc Cert.RepairIdeal.main_arg3)
      ∧ r.2.mem ((c.tc : Thread Cert.RepairIdeal.nD Cert.RepairIdeal.τ).loc Cert.RepairIdeal.main_arg4) = m ((c.tc : Thread Cert.RepairIdeal.nD Cert.RepairIdeal.τ).loc Cert.RepairIdeal.main_arg4)
      ∧ r.2.mem ((c.tc : Thread Cert.RepairIdeal.nD Cert.RepairIdeal.τ).loc Cert.RepairIdeal.main_arg5) = m ((c.tc : Thread Cert.RepairIdeal.nD Cert.RepairIdeal.τ).loc Cert.RepairIdeal.main_arg5))
      ∧ r.2.sem = fun _ => 0)

def quiescent_RepairedIdeal [hRepairedIdeal : Cert.RepairedIdeal.Facts] : Prop :=
  ∀ (m : (ℓ : Loc Cert.RepairedIdeal.nD Cert.RepairedIdeal.τ Cert.RepairedIdeal.sig) → Buf (Elt Ideal) ℓ) (g : Dev Cert.RepairedIdeal.nD → PrngReg), Pre_RepairedIdeal m →
    θ_run (Cert.RepairedIdeal.defs (F := Ideal)) (onTc (τ := Cert.RepairedIdeal.τ) (Cert.RepairedIdeal.main (F := Ideal))) ⟨m, fun _ => 0, g⟩ (fun r => (∀ c : Dev Cert.RepairedIdeal.nD,
      r.2.mem ((c.tc : Thread Cert.RepairedIdeal.nD Cert.RepairedIdeal.τ).loc Cert.RepairedIdeal.main_arg0) = m ((c.tc : Thread Cert.RepairedIdeal.nD Cert.RepairedIdeal.τ).loc Cert.RepairedIdeal.main_arg0)
      ∧ r.2.mem ((c.tc : Thread Cert.RepairedIdeal.nD Cert.RepairedIdeal.τ).loc Cert.RepairedIdeal.main_arg1) = m ((c.tc : Thread Cert.RepairedIdeal.nD Cert.RepairedIdeal.τ).loc Cert.RepairedIdeal.main_arg1)
      ∧ r.2.mem ((c.tc : Thread Cert.RepairedIdeal.nD Cert.RepairedIdeal.τ).loc Cert.RepairedIdeal.main_arg2) = m ((c.tc : Thread Cert.RepairedIdeal.nD Cert.RepairedIdeal.τ).loc Cert.RepairedIdeal.main_arg2)
      ∧ r.2.mem ((c.tc : Thread Cert.RepairedIdeal.nD Cert.RepairedIdeal.τ).loc Cert.RepairedIdeal.main_arg3) = m ((c.tc : Thread Cert.RepairedIdeal.nD Cert.RepairedIdeal.τ).loc Cert.RepairedIdeal.main_arg3)
      ∧ r.2.mem ((c.tc : Thread Cert.RepairedIdeal.nD Cert.RepairedIdeal.τ).loc Cert.RepairedIdeal.main_arg4) = m ((c.tc : Thread Cert.RepairedIdeal.nD Cert.RepairedIdeal.τ).loc Cert.RepairedIdeal.main_arg4)
      ∧ r.2.mem ((c.tc : Thread Cert.RepairedIdeal.nD Cert.RepairedIdeal.τ).loc Cert.RepairedIdeal.main_arg5) = m ((c.tc : Thread Cert.RepairedIdeal.nD Cert.RepairedIdeal.τ).loc Cert.RepairedIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_4)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_4) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Repair_RepairIdeal : Prop :=
  True

def algebraic_RepairIdeal_RepairedIdeal [hRepairIdeal : Cert.RepairIdeal.Facts] [hRepairedIdeal : Cert.RepairedIdeal.Facts] : Prop :=
  ∀ (m : (ℓ : Loc Cert.RepairIdeal.nD Cert.RepairIdeal.τ Cert.RepairIdeal.sig) → Buf (Elt Ideal) ℓ) (g : Dev Cert.RepairIdeal.nD → PrngReg)
    (m' : (ℓ : Loc Cert.RepairedIdeal.nD Cert.RepairedIdeal.τ Cert.RepairedIdeal.sig) → Buf (Elt Ideal) ℓ) (g' : Dev Cert.RepairedIdeal.nD → PrngReg), Pre_RepairIdeal m →
    (∀ c : Dev Cert.RepairIdeal.nD,
      m' ((c.tc : Thread Cert.RepairedIdeal.nD Cert.RepairedIdeal.τ).loc Cert.RepairedIdeal.main_arg0) = m ((c.tc : Thread Cert.RepairIdeal.nD Cert.RepairIdeal.τ).loc Cert.RepairIdeal.main_arg0)
      ∧ m' ((c.tc : Thread Cert.RepairedIdeal.nD Cert.RepairedIdeal.τ).loc Cert.RepairedIdeal.main_arg1) = m ((c.tc : Thread Cert.RepairIdeal.nD Cert.RepairIdeal.τ).loc Cert.RepairIdeal.main_arg1)
      ∧ m' ((c.tc : Thread Cert.RepairedIdeal.nD Cert.RepairedIdeal.τ).loc Cert.RepairedIdeal.main_arg2) = m ((c.tc : Thread Cert.RepairIdeal.nD Cert.RepairIdeal.τ).loc Cert.RepairIdeal.main_arg2)
      ∧ m' ((c.tc : Thread Cert.RepairedIdeal.nD Cert.RepairedIdeal.τ).loc Cert.RepairedIdeal.main_arg3) = m ((c.tc : Thread Cert.RepairIdeal.nD Cert.RepairIdeal.τ).loc Cert.RepairIdeal.main_arg3)
      ∧ m' ((c.tc : Thread Cert.RepairedIdeal.nD Cert.RepairedIdeal.τ).loc Cert.RepairedIdeal.main_arg4) = m ((c.tc : Thread Cert.RepairIdeal.nD Cert.RepairIdeal.τ).loc Cert.RepairIdeal.main_arg4)
      ∧ m' ((c.tc : Thread Cert.RepairedIdeal.nD Cert.RepairedIdeal.τ).loc Cert.RepairedIdeal.main_arg5) = m ((c.tc : Thread Cert.RepairIdeal.nD Cert.RepairIdeal.τ).loc Cert.RepairIdeal.main_arg5)) →
    ∃ (v0 : (c : Dev Cert.RepairIdeal.nD) → Buf (Elt Ideal) ((c.tc : Thread Cert.RepairIdeal.nD Cert.RepairIdeal.τ).loc Cert.RepairIdeal.main_v1)),
      θ_run (Cert.RepairIdeal.defs (F := Ideal)) (onTc (τ := Cert.RepairIdeal.τ) (Cert.RepairIdeal.main (F := Ideal))) ⟨m, fun _ => 0, g⟩ (fun r => ∀ c : Dev Cert.RepairIdeal.nD,
          r.2.mem ((c.tc : Thread Cert.RepairIdeal.nD Cert.RepairIdeal.τ).loc Cert.RepairIdeal.main_v1) = v0 c
          ∧ r.2.mem ((c.tc : Thread Cert.RepairIdeal.nD Cert.RepairIdeal.τ).loc Cert.RepairIdeal.main_arg0) = m ((c.tc : Thread Cert.RepairIdeal.nD Cert.RepairIdeal.τ).loc Cert.RepairIdeal.main_arg0)
          ∧ r.2.mem ((c.tc : Thread Cert.RepairIdeal.nD Cert.RepairIdeal.τ).loc Cert.RepairIdeal.main_arg1) = m ((c.tc : Thread Cert.RepairIdeal.nD Cert.RepairIdeal.τ).loc Cert.RepairIdeal.main_arg1)
          ∧ r.2.mem ((c.tc : Thread Cert.RepairIdeal.nD Cert.RepairIdeal.τ).loc Cert.RepairIdeal.main_arg2) = m ((c.tc : Thread Cert.RepairIdeal.nD Cert.RepairIdeal.τ).loc Cert.RepairIdeal.main_arg2)
          ∧ r.2.mem ((c.tc : Thread Cert.RepairIdeal.nD Cert.RepairIdeal.τ).loc Cert.RepairIdeal.main_arg3) = m ((c.tc : Thread Cert.RepairIdeal.nD Cert.RepairIdeal.τ).loc Cert.RepairIdeal.main_arg3)
          ∧ r.2.mem ((c.tc : Thread Cert.RepairIdeal.nD Cert.RepairIdeal.τ).loc Cert.RepairIdeal.main_arg4) = m ((c.tc : Thread Cert.RepairIdeal.nD Cert.RepairIdeal.τ).loc Cert.RepairIdeal.main_arg4)
          ∧ r.2.mem ((c.tc : Thread Cert.RepairIdeal.nD Cert.RepairIdeal.τ).loc Cert.RepairIdeal.main_arg5) = m ((c.tc : Thread Cert.RepairIdeal.nD Cert.RepairIdeal.τ).loc Cert.RepairIdeal.main_arg5))
      ∧ θ_run (Cert.RepairedIdeal.defs (F := Ideal)) (onTc (τ := Cert.RepairedIdeal.τ) (Cert.RepairedIdeal.main (F := Ideal))) ⟨m', fun _ => 0, g'⟩ (fun r => ∀ c : Dev Cert.RepairedIdeal.nD,
          r.2.mem ((c.tc : Thread Cert.RepairedIdeal.nD Cert.RepairedIdeal.τ).loc Cert.RepairedIdeal.main_v8) = v0 c
          ∧ r.2.mem ((c.tc : Thread Cert.RepairedIdeal.nD Cert.RepairedIdeal.τ).loc Cert.RepairedIdeal.main_arg0) = m' ((c.tc : Thread Cert.RepairedIdeal.nD Cert.RepairedIdeal.τ).loc Cert.RepairedIdeal.main_arg0)
          ∧ r.2.mem ((c.tc : Thread Cert.RepairedIdeal.nD Cert.RepairedIdeal.τ).loc Cert.RepairedIdeal.main_arg1) = m' ((c.tc : Thread Cert.RepairedIdeal.nD Cert.RepairedIdeal.τ).loc Cert.RepairedIdeal.main_arg1)
          ∧ r.2.mem ((c.tc : Thread Cert.RepairedIdeal.nD Cert.RepairedIdeal.τ).loc Cert.RepairedIdeal.main_arg2) = m' ((c.tc : Thread Cert.RepairedIdeal.nD Cert.RepairedIdeal.τ).loc Cert.RepairedIdeal.main_arg2)
          ∧ r.2.mem ((c.tc : Thread Cert.RepairedIdeal.nD Cert.RepairedIdeal.τ).loc Cert.RepairedIdeal.main_arg3) = m' ((c.tc : Thread Cert.RepairedIdeal.nD Cert.RepairedIdeal.τ).loc Cert.RepairedIdeal.main_arg3)
          ∧ r.2.mem ((c.tc : Thread Cert.RepairedIdeal.nD Cert.RepairedIdeal.τ).loc Cert.RepairedIdeal.main_arg4) = m' ((c.tc : Thread Cert.RepairedIdeal.nD Cert.RepairedIdeal.τ).loc Cert.RepairedIdeal.main_arg4)
          ∧ r.2.mem ((c.tc : Thread Cert.RepairedIdeal.nD Cert.RepairedIdeal.τ).loc Cert.RepairedIdeal.main_arg5) = m' ((c.tc : Thread Cert.RepairedIdeal.nD Cert.RepairedIdeal.τ).loc Cert.RepairedIdeal.main_arg5))

def Claim : Prop :=
  ∃ (hKernel : Cert.Kernel.Facts) (hKernelIdeal : Cert.KernelIdeal.Facts) (hReferenceIdeal : Cert.ReferenceIdeal.Facts) (hRepair : Cert.Repair.Facts) (hRepairIdeal : Cert.RepairIdeal.Facts) (hRepairedIdeal : Cert.RepairedIdeal.Facts),
    quiescent_Kernel (hKernel := hKernel)
    ∧ quiescent_KernelIdeal (hKernelIdeal := hKernelIdeal)
    ∧ quiescent_ReferenceIdeal (hReferenceIdeal := hReferenceIdeal)
    ∧ quiescent_Repair (hRepair := hRepair)
    ∧ quiescent_RepairIdeal (hRepairIdeal := hRepairIdeal)
    ∧ quiescent_RepairedIdeal (hRepairedIdeal := hRepairedIdeal)
    ∧ preserves_Kernel_KernelIdeal
    ∧ algebraic_KernelIdeal_ReferenceIdeal (hKernelIdeal := hKernelIdeal) (hReferenceIdeal := hReferenceIdeal)
    ∧ preserves_Repair_RepairIdeal
    ∧ algebraic_RepairIdeal_RepairedIdeal (hRepairIdeal := hRepairIdeal) (hRepairedIdeal := hRepairedIdeal)
-- ==== Kernel.lean ====
abbrev S24x1024x2048 : Shape := ⟨3, ![24, 1024, 2048]⟩
abbrev S2048x5632 : Shape := ⟨2, ![2048, 5632]⟩
abbrev S5632 : Shape := ⟨1, ![5632]⟩
abbrev S1x5632 : Shape := ⟨2, ![1, 5632]⟩
abbrev S24576x2048 : Shape := ⟨2, ![24576, 2048]⟩
abbrev S24576x5632 : Shape := ⟨2, ![24576, 5632]⟩
abbrev S48x1x512 : Shape := ⟨3, ![48, 1, 512]⟩
abbrev S49 : Shape := ⟨1, ![49]⟩
abbrev S2 : Shape := ⟨1, ![2]⟩
abbrev S512x2048 : Shape := ⟨2, ![512, 2048]⟩
abbrev S512x5632 : Shape := ⟨2, ![512, 5632]⟩
abbrev S1x1x512 : Shape := ⟨3, ![1, 1, 512]⟩
abbrev S2x512x2048 : Shape := ⟨3, ![2, 512, 2048]⟩
abbrev S2x512x128 : Shape := ⟨3, ![2, 512, 128]⟩
abbrev S8x512 : Shape := ⟨2, ![8, 512]⟩
abbrev S512x128 : Shape := ⟨2, ![512, 128]⟩
abbrev S512 : Shape := ⟨1, ![512]⟩
abbrev S512x1 : Shape := ⟨2, ![512, 1]⟩
abbrev S1x512x2048 : Shape := ⟨3, ![1, 512, 2048]⟩
abbrev S1x512x128 : Shape := ⟨3, ![1, 512, 128]⟩
abbrev S128x512 : Shape := ⟨2, ![128, 512]⟩
abbrev S1x512 : Shape := ⟨2, ![1, 512]⟩
abbrev S1x8x512 : Shape := ⟨3, ![1, 8, 512]⟩
abbrev S1 : Shape := ⟨1, ![1]⟩
abbrev S1x1x1 : Shape := ⟨3, ![1, 1, 1]⟩
abbrev S2048x512 : Shape := ⟨2, ![2048, 512]⟩
abbrev S512x512 : Shape := ⟨2, ![512, 512]⟩
abbrev S64x8x512 : Shape := ⟨3, ![64, 8, 512]⟩

abbrev nBuf : Space → Nat
  | .hbm => 10
  | .vmem => 13
  | .smem => 2
  | _ => 0

abbrev bufTy : (tb : Table) → Fin (tcTables nBuf tb) → BufTy
  | .hbm, ⟨0, _⟩ => ⟨S24x1024x2048, .bf16⟩
  | .hbm, ⟨1, _⟩ => ⟨S2048x5632, .fp8e4m3⟩
  | .hbm, ⟨2, _⟩ => ⟨S5632, .f32⟩
  | .hbm, ⟨3, _⟩ => ⟨S1x5632, .f32⟩
  | .hbm, ⟨4, _⟩ => ⟨S24576x2048, .bf16⟩
  | .hbm, ⟨5, _⟩ => ⟨S24576x5632, .fp8e4m3⟩
  | .hbm, ⟨6, _⟩ => ⟨S24576x2048, .fp8e4m3⟩
  | .hbm, ⟨7, _⟩ => ⟨S48x1x512, .f32⟩
  | .hbm, ⟨8, _⟩ => ⟨S49, .i32⟩
  | .hbm, ⟨9, _⟩ => ⟨S2, .f32⟩
  | .local _ .vmem, ⟨0, _⟩ => ⟨S512x2048, .bf16⟩
  | .local _ .vmem, ⟨1, _⟩ => ⟨S512x2048, .bf16⟩
  | .local _ .vmem, ⟨2, _⟩ => ⟨S2048x5632, .fp8e4m3⟩
  | .local _ .vmem, ⟨3, _⟩ => ⟨S1x5632, .f32⟩
  | .local _ .vmem, ⟨4, _⟩ => ⟨S512x5632, .fp8e4m3⟩
  | .local _ .vmem, ⟨5, _⟩ => ⟨S512x5632, .fp8e4m3⟩
  | .local _ .vmem, ⟨6, _⟩ => ⟨S512x2048, .fp8e4m3⟩
  | .local _ .vmem, ⟨7, _⟩ => ⟨S512x2048, .fp8e4m3⟩
  | .local _ .vmem, ⟨8, _⟩ => ⟨S1x1x512, .f32⟩
  | .local _ .vmem, ⟨9, _⟩ => ⟨S1x1x512, .f32⟩
  | .local _ .vmem, ⟨10, _⟩ => ⟨S2x512x2048, .fp8e4m3⟩
  | .local _ .vmem, ⟨11, _⟩ => ⟨S2x512x128, .f32⟩
  | .local _ .vmem, ⟨12, _⟩ => ⟨S8x512, .f32⟩
  | .local _ .smem, ⟨0, _⟩ => ⟨S49, .i32⟩
  | .local _ .smem, ⟨1, _⟩ => ⟨S2, .f32⟩
  | _, _ => ⟨S24x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg6_0 : Ref sig .tc := ⟨.smem, 0, rfl⟩
abbrev cc0_stg7_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![49], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 3 → Nat :=
  let arg0 : BitVec 32 := BitVec.ofNat 32 (i 0).val
  let c2_i32 : BitVec 32 := 2#32
  let v0 : BitVec 32 := Scalar.remsi arg0 c2_i32
  let v182 : Index := Scalar.indexCast v0
  let c0_49 : Index := 0#32
  let c0_50 : Index := 0#32
  ![v182.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v189 : Index := Scalar.indexCast v0
  let c0_53 : Index := 0#32
  let c0_54 : Index := 0#32
  ![v189.toNat, 0, 0]
def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .ne v5 c0_i32_2
  v6

def k0_off3 (i : grid0.Coords) : Fin 1 → Nat :=
  let arg0 : BitVec 32 := BitVec.ofNat 32 (i 0).val
  let c1_i32_25 : BitVec 32 := 1#32
  let v69 : BitVec 32 := Scalar.subi arg0 c1_i32_25
  let v70 : Index := Scalar.indexCast v69
  ![v70.toNat]
def k0_off4 (i : grid0.Coords) : Fin 3 → Nat :=
  let c1_i32_27 : BitVec 32 := 1#32
  let arg0 : BitVec 32 := BitVec.ofNat 32 (i 0).val
  let c2_i32 : BitVec 32 := 2#32
  let v0 : BitVec 32 := Scalar.remsi arg0 c2_i32
  let v73 : BitVec 32 := Scalar.subi c1_i32_27 v0
  let v76 : Index := Scalar.indexCast v73
  let c0_30 : Index := 0#32
  let c0_31 : Index := 0#32
  ![v76.toNat, 0, 0]
def k0_off5 (i : grid0.Coords) : Fin 3 → Nat :=
  let c1_i32_26 : BitVec 32 := 1#32
  let arg0 : BitVec 32 := BitVec.ofNat 32 (i 0).val
  let c2_i32 : BitVec 32 := 2#32
  let v0 : BitVec 32 := Scalar.remsi arg0 c2_i32
  let v72 : BitVec 32 := Scalar.subi c1_i32_26 v0
  let v80 : Index := Scalar.indexCast v72
  let c0_32 : Index := 0#32
  let c0_33 : Index := 0#32
  ![v80.toNat, 0, 0]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v504 : Index := Scalar.indexCast v0
  let c0_215 : Index := 0#32
  let c0_216 : Index := 0#32
  ![v504.toNat, 0, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v511 : Index := Scalar.indexCast v0
  let c0_219 : Index := 0#32
  let c0_220 : Index := 0#32
  ![v511.toNat, 0, 0]
def k0_cond3 (i : grid0.Coords) : BitVec 1 :=
  let arg0 : BitVec 32 := BitVec.ofNat 32 (i 0).val
  let c48_i32 : BitVec 32 := 48#32
  let v7 : BitVec 1 := Scalar.cmpi .eq arg0 c48_i32
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x5632 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S49 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S24x1024x2048 : Shape := ⟨3, ![24, 1024, 2048]⟩
abbrev S2048x5632 : Shape := ⟨2, ![2048, 5632]⟩
abbrev S5632 : Shape := ⟨1, ![5632]⟩
abbrev S24576x2048 : Shape := ⟨2, ![24576, 2048]⟩
abbrev S1x5632 : Shape := ⟨2, ![1, 5632]⟩
abbrev S1x2 : Shape := ⟨2, ![1, 2]⟩
abbrev S24576x1 : Shape := ⟨2, ![24576, 1]⟩
abbrev S24576 : Shape := ⟨1, ![24576]⟩
abbrev S24576x5632 : Shape := ⟨2, ![24576, 5632]⟩
abbrev S1x24576x5632 : Shape := ⟨3, ![1, 24576, 5632]⟩
abbrev S1 : Shape := ⟨1, ![1]⟩
abbrev S1x1x1 : Shape := ⟨3, ![1, 1, 1]⟩
abbrev S1x1 : Shape := ⟨2, ![1, 1]⟩
abbrev S2 : Shape := ⟨1, ![2]⟩
abbrev S48x1x512 : Shape := ⟨3, ![48, 1, 512]⟩

abbrev nBuf : Space → Nat
  | .hbm => 10
  | .vmem => 6
  | .smem => 0
  | _ => 0

abbrev bufTy : (tb : Table) → Fin (tcTables nBuf tb) → BufTy
  | .hbm, ⟨0, _⟩ => ⟨S24x1024x2048, .bf16⟩
  | .hbm, ⟨1, _⟩ => ⟨S2048x5632, .fp8e4m3⟩
  | .hbm, ⟨2, _⟩ => ⟨S5632, .f32⟩
  | .hbm, ⟨3, _⟩ => ⟨S24576x2048, .bf16⟩
  | .hbm, ⟨4, _⟩ => ⟨S1x5632, .f32⟩
  | .hbm, ⟨5, _⟩ => ⟨S1x2, .f32⟩
  | .hbm, ⟨6, _⟩ => ⟨S24576x2048, .fp8e4m3⟩
  | .hbm, ⟨7, _⟩ => ⟨S24576x1, .f32⟩
  | .hbm, ⟨8, _⟩ => ⟨S2, .f32⟩
  | .hbm, ⟨9, _⟩ => ⟨S48x1x512, .f32⟩
  | .local _ .vmem, ⟨0, _⟩ => ⟨S24576x2048, .bf16⟩
  | .local _ .vmem, ⟨1, _⟩ => ⟨S2048x5632, .fp8e4m3⟩
  | .local _ .vmem, ⟨2, _⟩ => ⟨S1x5632, .f32⟩
  | .local _ .vmem, ⟨3, _⟩ => ⟨S1x2, .f32⟩
  | .local _ .vmem, ⟨4, _⟩ => ⟨S24576x2048, .fp8e4m3⟩
  | .local _ .vmem, ⟨5, _⟩ => ⟨S24576x1, .f32⟩
  | _, _ => ⟨S24x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x5632 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Repair.lean ====
abbrev S49 : Shape := ⟨1, ![49]⟩
abbrev S24576x2048 : Shape := ⟨2, ![24576, 2048]⟩
abbrev S48x1x512 : Shape := ⟨3, ![48, 1, 512]⟩
abbrev S2048x5632 : Shape := ⟨2, ![2048, 5632]⟩
abbrev S5632 : Shape := ⟨1, ![5632]⟩
abbrev S24576x5632 : Shape := ⟨2, ![24576, 5632]⟩
abbrev S1x5632 : Shape := ⟨2, ![1, 5632]⟩
abbrev S512x2048 : Shape := ⟨2, ![512, 2048]⟩
abbrev S512x128 : Shape := ⟨2, ![512, 128]⟩
abbrev S512x5632 : Shape := ⟨2, ![512, 5632]⟩
abbrev S1 : Shape := ⟨1, ![1]⟩
abbrev S_ : Shape := ⟨0, ![]⟩
abbrev S1x1x512 : Shape := ⟨3, ![1, 1, 512]⟩
abbrev S1x512 : Shape := ⟨2, ![1, 512]⟩
abbrev S128x512 : Shape := ⟨2, ![128, 512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 8
  | .vmem => 6
  | .smem => 2
  | _ => 0

abbrev bufTy : (tb : Table) → Fin (tcTables nBuf tb) → BufTy
  | .hbm, ⟨0, _⟩ => ⟨S49, .i32⟩
  | .hbm, ⟨1, _⟩ => ⟨S24576x2048, .fp8e4m3⟩
  | .hbm, ⟨2, _⟩ => ⟨S48x1x512, .f32⟩
  | .hbm, ⟨3, _⟩ => ⟨S2048x5632, .fp8e4m3⟩
  | .hbm, ⟨4, _⟩ => ⟨S5632, .f32⟩
  | .hbm, ⟨5, _⟩ => ⟨S24576x5632, .fp8e4m3⟩
  | .hbm, ⟨6, _⟩ => ⟨S1x5632, .f32⟩
  | .hbm, ⟨7, _⟩ => ⟨S24576x5632, .fp8e4m3⟩
  | .local _ .vmem, ⟨0, _⟩ => ⟨S48x1x512, .f32⟩
  | .local _ .vmem, ⟨1, _⟩ => ⟨S1x5632, .f32⟩
  | .local _ .vmem, ⟨2, _⟩ => ⟨S2048x5632, .fp8e4m3⟩
  | .local _ .vmem, ⟨3, _⟩ => ⟨S512x2048, .fp8e4m3⟩
  | .local _ .vmem, ⟨4, _⟩ => ⟨S512x128, .f32⟩
  | .local _ .vmem, ⟨5, _⟩ => ⟨S512x5632, .fp8e4m3⟩
  | .local _ .smem, ⟨0, _⟩ => ⟨S49, .i32⟩
  | .local _ .smem, ⟨1, _⟩ => ⟨S1, .i32⟩
  | _, _ => ⟨S49, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg0_0 : Ref sig .tc := ⟨.smem, 0, rfl⟩
abbrev cc0_scratch4 : Ref sig .tc := ⟨.smem, 1, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c48_i32 : BitVec 32 := 48#32
  let v1 : BitVec 32 := Scalar.addi c0_i32_0 c48_i32
  let c1_i32 : BitVec 32 := 1#32
  ⟨c0_i32_0, v1, c1_i32⟩
def k0_off1 (k0_t1 : Fin k0_t1_loop.trips) : Fin 1 → Nat :=
  let c0_i32_0 : BitVec 32 := 0#32
  let c1_i32 : BitVec 32 := 1#32
  let arg13 : BitVec 32 := Scf.iv c0_i32_0 c1_i32 k0_t1
  let v2 : Index := Scalar.indexCast arg13
  ![v2.toNat]
def k0_mult1 (k0_t1 : Fin k0_t1_loop.trips) : BitVec 32 :=
  let c0_i32_0 : BitVec 32 := 0#32
  let c1_i32 : BitVec 32 := 1#32
  let arg13 : BitVec 32 := Scf.iv c0_i32_0 c1_i32 k0_t1
  let c512_i32 : BitVec 32 := 512#32
  let v8 : BitVec 32 := Scalar.muli arg13 c512_i32
  v8
def k0_off2 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c512_i32 : BitVec 32 := 512#32
  let v8 : BitVec 32 := Scalar.muli arg13 c512_i32
  let v9 : BitVec 32 := v8
  let c0_i32_123_r1 : BitVec 32 := 0#32
  ![v9.toNat, 0]
def k0_off3 (k0_t1 : Fin k0_t1_loop.trips) : Fin 3 → Nat :=
  let c0_i32_0 : BitVec 32 := 0#32
  let c1_i32 : BitVec 32 := 1#32
  let arg13 : BitVec 32 := Scf.iv c0_i32_0 c1_i32 k0_t1
  let v14 : Index := Scalar.indexCast arg13
  let c0_6 : Index := 0#32
  let c0_7 : Index := 0#32
  ![v14.toNat, 0, 0]
def k0_off4 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c512_i32 : BitVec 32 := 512#32
  let v8 : BitVec 32 := Scalar.muli arg13 c512_i32
  let v9 : BitVec 32 := v8
  let c0_i32_123_r2 : BitVec 32 := 0#32
  ![v9.toNat, 0]
abbrev stage0_0 : Fin 1 → Memref sig .tc .smem S49 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RepairedIdeal.lean ====
abbrev S49 : Shape := ⟨1, ![49]⟩
abbrev S24576x2048 : Shape := ⟨2, ![24576, 2048]⟩
abbrev S48x1x512 : Shape := ⟨3, ![48, 1, 512]⟩
abbrev S2048x5632 : Shape := ⟨2, ![2048, 5632]⟩
abbrev S5632 : Shape := ⟨1, ![5632]⟩
abbrev S24576x5632 : Shape := ⟨2, ![24576, 5632]⟩
abbrev S48 : Shape := ⟨1, ![48]⟩
abbrev S48x1 : Shape := ⟨2, ![48, 1]⟩
abbrev S48x512 : Shape := ⟨2, ![48, 512]⟩
abbrev S24576x1 : Shape := ⟨2, ![24576, 1]⟩
abbrev S1 : Shape := ⟨1, ![1]⟩
abbrev S1x1 : Shape := ⟨2, ![1, 1]⟩
abbrev S1x5632 : Shape := ⟨2, ![1, 5632]⟩

abbrev nBuf : Space → Nat
  | .hbm => 15
  | .vmem => 8
  | .smem => 0
  | _ => 0

abbrev bufTy : (tb : Table) → Fin (tcTables nBuf tb) → BufTy
  | .hbm, ⟨0, _⟩ => ⟨S49, .i32⟩
  | .hbm, ⟨1, _⟩ => ⟨S24576x2048, .fp8e4m3⟩
  | .hbm, ⟨2, _⟩ => ⟨S48x1x512, .f32⟩
  | .hbm, ⟨3, _⟩ => ⟨S2048x5632, .fp8e4m3⟩
  | .hbm, ⟨4, _⟩ => ⟨S5632, .f32⟩
  | .hbm, ⟨5, _⟩ => ⟨S24576x5632, .fp8e4m3⟩
  | .hbm, ⟨6, _⟩ => ⟨S48, .i32⟩
  | .hbm, ⟨7, _⟩ => ⟨S48x1, .i32⟩
  | .hbm, ⟨8, _⟩ => ⟨S48x512, .i32⟩
  | .hbm, ⟨9, _⟩ => ⟨S24576x1, .i32⟩
  | .hbm, ⟨10, _⟩ => ⟨S1, .i32⟩
  | .hbm, ⟨11, _⟩ => ⟨S1x1, .i32⟩
  | .hbm, ⟨12, _⟩ => ⟨S24576x1, .f32⟩
  | .hbm, ⟨13, _⟩ => ⟨S1x5632, .f32⟩
  | .hbm, ⟨14, _⟩ => ⟨S24576x5632, .fp8e4m3⟩
  | .local _ .vmem, ⟨0, _⟩ => ⟨S24576x1, .i32⟩
  | .local _ .vmem, ⟨1, _⟩ => ⟨S1x1, .i32⟩
  | .local _ .vmem, ⟨2, _⟩ => ⟨S24576x2048, .fp8e4m3⟩
  | .local _ .vmem, ⟨3, _⟩ => ⟨S24576x1, .f32⟩
  | .local _ .vmem, ⟨4, _⟩ => ⟨S2048x5632, .fp8e4m3⟩
  | .local _ .vmem, ⟨5, _⟩ => ⟨S1x5632, .f32⟩
  | .local _ .vmem, ⟨6, _⟩ => ⟨S24576x5632, .fp8e4m3⟩
  | .local _ .vmem, ⟨7, _⟩ => ⟨S24576x5632, .fp8e4m3⟩
  | _, _ => ⟨S49, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24576x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x5632 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x5632 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x5632 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Setup.lean ====
/-
  Closed forms of the one offset of the main body that the generated modules leave out.
-/
module

public import proofs.«01_k».proof.Proof.Gen.Kernel.Skeleton
public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The entry of the running-exponent array that a middle point writes: the tile of the point before. -/
theorem k0_off3_eq : ∀ i : grid0.Coords, k0_off3 i = ![((i 0).val + 4294967295) % 4294967296] := by decide +kernel

instance closedOff_k0_off3 (i : grid0.Coords) : ClosedOff (k0_off3 i) := ⟨![((i 0).val + 4294967295) % 4294967296], k0_off3_eq i⟩

end Cert.Kernel.Hand

end
-- ==== Proof.Values.lean ====
/-
  What one grid point of the main body computes, in its own operations.
-/
module

public import proofs.«01_k».proof.Proof.Setup
public import Idealize.ShloMosaic.Lib.VecWindow
public import Idealize.ShloMosaic.Lib.WholeRead

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ### One block of x -/

/-- The largest magnitude of each row of a block of x, over 448, as the body computes it: sixteen groups of lanes against each other, then along
    the lanes. -/
def xQ (x : Vec F S512x2048 .bf16) : FVec F S512x1 .f32 :=
  k0_pay12 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024))
    (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)

/-- One step of the search for the exponent field of `v`: the bit `b` is taken if the power of two it gives is at most `v`. -/
def fstep (v : F .f32) (f b : BitVec 32) : BitVec 32 :=
  Scalar.select (Scalar.cmpf .oge v (Scalar.ofBits .f32 (Scalar.shli (Scalar.addi f b) 23#32))) (Scalar.addi f b) f

/-- The field `f` found for `v`, with 255 from 2 ^ 120 on. -/
def clampF (v : F .f32) (f : BitVec 32) : BitVec 32 :=
  Scalar.select (Scalar.cmpf .olt v (Scalar.ofBits .f32 0x7B800000#32)) f 255#32

/-- The field with 126 (the scale one) for 0 and 255. -/
def plainF (f : BitVec 32) : BitVec 32 :=
  Scalar.select (Scalar.ori (Scalar.cmpi .eq f 0#32) (Scalar.cmpi .eq f 255#32)) 126#32 f

/-- The exponent field of `v`, found bit by bit, 255 from 2 ^ 120 on. -/
def fieldS (v : F .f32) : BitVec 32 :=
  clampF v (fstep v (fstep v (fstep v (fstep v (fstep v (fstep v (fstep v (fstep v 0#32 128#32) 64#32) 32#32) 16#32) 8#32) 4#32) 2#32) 1#32)

/-- The field the scale is made of. -/
def plainS (v : F .f32) : BitVec 32 := plainF (fieldS v)

/-- The scale of the quotient `v` = maximum / 448. -/
def scaleS (v : F .f32) : F .f32 := Scalar.ofBits .f32 (Scalar.shli (Scalar.addi (plainS v) 1#32) 23#32)

/-- The bits of the scale's inverse. -/
def invBitsS (v : F .f32) : BitVec 32 := Scalar.shli (Scalar.subi 253#32 (plainS v)) 23#32

/-- The scale's inverse. -/
def invS (v : F .f32) : F .f32 := Scalar.ofBits .f32 (invBitsS v)

/-! The same on the lanes of a vector, by the vector unit's operations. -/

/-- One step of the search on a lane. -/
def fstepV (v : F .f32) (f b : BitVec 32) : BitVec 32 :=
  Scalar.select (FloatOps.cmpf .oge v (FloatOps.ofBits .f32 (IntOp.shli .vector (IntOp.addi f b) 23#32))) (IntOp.addi f b) f

/-- The field found on a lane, with 255 from 2 ^ 120 on. -/
def clampV (v : F .f32) (f : BitVec 32) : BitVec 32 :=
  Scalar.select (FloatOps.cmpf .olt v (FloatOps.ofBits .f32 0x7B800000#32)) f 255#32

/-- The field the scale of a lane is made of. -/
def plainV (v : F .f32) : BitVec 32 :=
  plainF (clampV v (fstepV v (fstepV v (fstepV v (fstepV v (fstepV v (fstepV v (fstepV v (fstepV v 0#32 128#32) 64#32) 32#32) 16#32) 8#32) 4#32) 2#32) 1#32))

/-- The scale of a lane. -/
def scaleV (v : F .f32) : F .f32 := FloatOps.ofBits .f32 (IntOp.shli .vector (IntOp.addi (plainV v) 1#32) 23#32)

/-- The inverse scale of a lane. -/
def invV (v : F .f32) : F .f32 := FloatOps.ofBits .f32 (IntOp.shli .vector (IntOp.subi 253#32 (plainV v)) 23#32)

/-- The scale of each row of a block of x. -/
def xScale (x : Vec F S512x2048 .bf16) : FVec F S512x1 .f32 := fun y => scaleV (xQ x y)

/-- A block of x times the inverse scale of its row. -/
def xMul (x : Vec F S512x2048 .bf16) : FVec F S512x2048 .bf16 :=
  mulf (shapeCast S512x2048 x shapeCasts_S512x2048_S512x2048)
    (broadcastTo S512x2048 (truncf .bf16 (fun y => invV (xQ x y)) bitsLt_bf16_f32) broadcasts_S512x1_S512x2048)

/-- The codes of a block of x. -/
def xCodes (x : Vec F S512x2048 .bf16) : Vec F S512x2048 .fp8e4m3 := k0_pay1 (xMul x)

/-- The codes as the scratch slot holds them. -/
def xSlot (x : Vec F S512x2048 .bf16) : Vec F S1x512x2048 .fp8e4m3 := k0_pay2 (xMul x)

/-- The row scales along the lanes of a scratch slot. -/
def sSlot (x : Vec F S512x2048 .bf16) : Vec F S1x512x128 .f32 := k0_pay4 (xScale x)

/-- The row scales as the result holds them. -/
def sRow (x : Vec F S512x2048 .bf16) : Vec F S1x1x512 .f32 := k0_pay5 (xScale x)

/-! ### One block of y -/

/-- Column tile `j` of the weights. -/
def wCol (w : Vec F S2048x5632 .fp8e4m3) (j : ℕ) : Vec F S2048x512 .fp8e4m3 :=
  fun y => w (fun a => match a with
    | ⟨0, _⟩ => ⟨(y 0).val, (y 0).isLt⟩
    | ⟨1, _⟩ => ⟨(512 * j + (y 1).val) % 5632, Nat.mod_lt _ (by decide)⟩)

/-- Column tile `j` of the weights' scales. -/
def sCol (s : Vec F S1x5632 .f32) (j : ℕ) : Vec F S1x512 .f32 :=
  fun y => s (fun a => match a with
    | ⟨0, _⟩ => ⟨(y 0).val, (y 0).isLt⟩
    | ⟨1, _⟩ => ⟨(512 * j + (y 1).val) % 5632, Nat.mod_lt _ (by decide)⟩)

/-- One column tile of a block of y: the product of the codes times both scales. -/
def yTile (c : Vec F S1x512x2048 .fp8e4m3) (s : Vec F S1x512x128 .f32) (w : Vec F S2048x512 .fp8e4m3) (ws : Vec F S1x512 .f32) : FVec F S512x512 .f32 :=
  k0_pay32 (k0_pay28 s) c w ws

/-- The codes of one column tile of y at the inverse scale `inv`. -/
def yCodes (inv : F .f32) (y : FVec F S512x512 .f32) : Vec F S512x512 .fp8e4m3 := k0_pay35 (minimumf (broadcast S512x512 (Scalar.ofBits .f32 0x43E00000#32))
  (maximumf (broadcast S512x512 (Scalar.ofBits .f32 0xC3E00000#32)) (mulf y (broadcast S512x512 inv))))

/-- The running maximum, eight rows of it, with one more column tile of y. -/
def accStep (a : FVec F S8x512 .f32) (y : FVec F S512x512 .f32) : FVec F S8x512 .f32 :=
  maximumf a (multiReduction .maximumf [0] S8x512 (shapeCast S64x8x512 (absf y) shapeCasts_S512x512_S64x8x512) 0xFF800000#32 reduces_S64x8x512_S8x512 (.inl rfl) rfl)

/-- The running maximum after the first `n` column tiles of a block. -/
def accN (a : Vec F S8x512 .f32) (Y : ℕ → FVec F S512x512 .f32) : ℕ → Vec F S8x512 .f32
  | 0 => a
  | n + 1 => accStep (accN a Y n) (Y n)

/-- The column tiles of a block of y. -/
def yTiles (c : Vec F S1x512x2048 .fp8e4m3) (s : Vec F S1x512x128 .f32) (w : Vec F S2048x5632 .fp8e4m3) (ws : Vec F S1x5632 .f32) (j : ℕ) : FVec F S512x512 .f32 :=
  yTile c s (wCol w j) (sCol ws j)

/-- The maximum the running maximum stands for. -/
def amaxS (a : Vec F S8x512 .f32) : F .f32 := k0_pay79 a

/-- That maximum over 448. -/
def amaxQ (a : Vec F S8x512 .f32) : F .f32 := k0_pay80 a

/-- A whole block of codes of y, from its column tiles. -/
def yBlock (inv : F .f32) (Y : ℕ → FVec F S512x512 .f32) : Vec F S512x5632 .fp8e4m3 :=
  fun y => yCodes inv (Y ((y 1).val / 512)) (fun a => match a with
    | ⟨0, _⟩ => ⟨(y 0).val, (y 0).isLt⟩
    | ⟨1, _⟩ => ⟨(y 1).val % 512, Nat.mod_lt _ (by decide)⟩)

/-! ### Loads -/

/-- A load of a whole buffer's rectangle is a window of what the buffer holds. -/
theorem ld_window {sp : Space} {s : Shape} {e : EltTy} {m : Memref sig .tc sp s e} (h : m.IsWhole) (X : Vec F s e) (off size : Fin s.rank → ℕ)
    (inb : ∀ a, off a + size a ≤ s.size a) :
    View.readAt (Elt F) m.view (Rect.unit (s := s) off size inb).toLoadRect (h.unread X) = VecWindow.window X off size inb := by
  rw [View.readAt_unit m.view _ inb rfl inb, h.read_unread]

/-- The window of a buffer's own sizes at the origin is the buffer. -/
theorem window_full {α : Type} {s : Shape} (X : s.Idx → α) (off : Fin s.rank → ℕ) (inb : ∀ a, off a + s.size a ≤ s.size a) :
    VecWindow.window X off s.size inb = X := by
  funext y
  exact congrArg X (Rect.emb_unit_full inb y)

theorem wCol_eq (w : Vec F S2048x5632 .fp8e4m3) (j o : ℕ) (hj : j < 11) (ho : o = 512 * j) (inb : ∀ a, ![0, o] a + S2048x512.size a ≤ S2048x5632.size a) :
    VecWindow.window (s := S2048x5632) w ![0, o] S2048x512.size inb = wCol w j := by
  subst ho; funext y
  refine congrArg w (funext fun a => Fin.ext ?_)
  have h1 : (y 1).val < 512 := (y 1).isLt
  match a with
  | ⟨0, _⟩ => exact (show 0 + 1 * (y 0).val = (y 0).val by omega)
  | ⟨1, _⟩ => exact (show 512 * j + 1 * (y 1).val = (512 * j + (y 1).val) % 5632 by omega)

theorem sCol_eq (w : Vec F S1x5632 .f32) (j o : ℕ) (hj : j < 11) (ho : o = 512 * j) (inb : ∀ a, ![0, o] a + S1x512.size a ≤ S1x5632.size a) :
    VecWindow.window (s := S1x5632) w ![0, o] S1x512.size inb = sCol w j := by
  subst ho; funext y
  refine congrArg w (funext fun a => Fin.ext ?_)
  have h1 : (y 1).val < 512 := (y 1).isLt
  match a with
  | ⟨0, _⟩ => exact (show 0 + 1 * (y 0).val = (y 0).val by omega)
  | ⟨1, _⟩ => exact (show 512 * j + 1 * (y 1).val = (512 * j + (y 1).val) % 5632 by omega)

/-! ### Folding what the body spells out -/

theorem fold0 (v : F .f32) : Scalar.select (Scalar.cmpf .oge v (Scalar.ofBits .f32 1073741824#32)) 128#32 0#32 = fstep v 0#32 128#32 := rfl

theorem fold1 (v : F .f32) (f b : BitVec 32) :
    Scalar.select (Scalar.cmpf .oge v (Scalar.ofBits .f32 (Scalar.shli (Scalar.addi f b) 23#32))) (Scalar.addi f b) f = fstep v f b := rfl

theorem fold2 (v : F .f32) (f : BitVec 32) : Scalar.select (Scalar.cmpf .olt v (Scalar.ofBits .f32 0x7B800000#32)) f 255#32 = clampF v f := rfl

theorem fold3 (f : BitVec 32) : Scalar.select (Scalar.ori (Scalar.cmpi .eq f 0#32) (Scalar.cmpi .eq f 255#32)) 126#32 f = plainF f := rfl

theorem vfold0 (v : FVec F S512x1 .f32) : select (cmpf .oge v (broadcast S512x1 (Scalar.ofBits .f32 1073741824#32))) (broadcast S512x1 128#32) (broadcast S512x1 0#32)
    = fun y => fstepV (v y) 0#32 128#32 := by
  rfl

theorem vfold1 (v : FVec F S512x1 .f32) (f : IVec S512x1 32) (b : BitVec 32) :
    select (cmpf .oge v (bitcastToFloat .f32 (shli (w := 32) (addi f (broadcast S512x1 b)) (broadcast S512x1 23#32)))) (addi f (broadcast S512x1 b)) f
      = fun y => fstepV (v y) (f y) b := rfl

theorem vfold2 (v : FVec F S512x1 .f32) (f : IVec S512x1 32) :
    select (cmpf .olt v (broadcast S512x1 (Scalar.ofBits .f32 0x7B800000#32))) f (broadcast S512x1 255#32) = fun y => clampV (v y) (f y) := rfl

theorem vfold3 (f : IVec S512x1 32) :
    select (ori (cmpi .eq f (broadcast S512x1 0#32)) (cmpi .eq f (broadcast S512x1 255#32))) (broadcast S512x1 126#32) f = fun y => plainF (f y) := rfl

theorem xQ_A (x : Vec F S512x2048 .bf16) :
    k0_pay12 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920) = xQ x := rfl

theorem xQ_B (x : Vec F S512x2048 .bf16) :
    k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920) = xQ x := rfl

/-- The field search over a column of quotients, from the first bit on. -/
theorem field_A (q : FVec F S512x1 .f32) :
    k0_pay15 q (k0_pay14 q (fun y => fstepV (q y) 0#32 128#32) 64#32) 2#32 = fun y => plainV (q y) := by
  simp only [k0_pay15, k0_pay14, vfold1, vfold2, vfold3, plainV]

theorem xF0_A (x : Vec F S512x2048 .bf16) :
    k0_pay13 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920) = fun y => fstepV (xQ x y) 0#32 128#32 := by
  simp only [k0_pay13, vfold0]
  rfl

theorem xF_B (x : Vec F S512x2048 .bf16) :
    k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920) = fun y => fstepV (xQ x y) (fstepV (xQ x y) (fstepV (xQ x y) 0#32 128#32) 64#32) 32#32 := by
  simp only [k0_pay68, vfold0, vfold1]
  rfl

theorem xC_B (x : Vec F S512x2048 .bf16) :
    k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920) = cmpf .oge (xQ x) (bitcastToFloat .f32 (shli (w := 32) (addi (fun y => fstepV (xQ x y) (fstepV (xQ x y) (fstepV (xQ x y) 0#32 128#32) 64#32) 32#32) (broadcast S512x1 16#32)) (broadcast S512x1 23#32))) := by
  simp only [k0_pay69]
  rw [xF_B, xQ_B]

theorem field_B1 (q : FVec F S512x1 .f32) (f : IVec S512x1 32) :
    k0_pay71 q f (cmpf .oge q (bitcastToFloat .f32 (shli (w := 32) (addi f (broadcast S512x1 16#32)) (broadcast S512x1 23#32)))) k0_pay70
      = fun y => clampV (q y) (fstepV (q y) (fstepV (q y) (fstepV (q y) (fstepV (q y) (fstepV (q y) (f y) 16#32) 8#32) 4#32) 2#32) 1#32) := by
  simp only [k0_pay71, k0_pay70, vfold1, vfold2]

theorem field_B2 (q : FVec F S512x1 .f32) (f : IVec S512x1 32) :
    k0_pay72 q f (cmpf .oge q (bitcastToFloat .f32 (shli (w := 32) (addi f (broadcast S512x1 16#32)) (broadcast S512x1 23#32)))) k0_pay70
      = cmpi .eq (fun y => clampV (q y) (fstepV (q y) (fstepV (q y) (fstepV (q y) (fstepV (q y) (fstepV (q y) (f y) 16#32) 8#32) 4#32) 2#32) 1#32)) (broadcast S512x1 0#32) := by
  simp only [k0_pay72, field_B1]

theorem field_B3 (f : IVec S512x1 32) : k0_pay73 f (cmpi .eq f (broadcast S512x1 0#32)) 255#32 = fun y => plainF (f y) := by
  simp only [k0_pay73, vfold3]

theorem xMul_A (x : Vec F S512x2048 .bf16) :
    k0_pay17 (k0_pay12 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay14 (k0_pay12 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay13 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) 64#32) 2#32 x = xMul x := by
  rw [xF0_A, xQ_A]
  simp only [k0_pay17, field_A]
  rfl

theorem xScale_A (x : Vec F S512x2048 .bf16) :
    k0_pay16 (k0_pay12 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay14 (k0_pay12 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay13 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) 64#32) 2#32 = xScale x := by
  rw [xF0_A, xQ_A]
  simp only [k0_pay16, field_A]
  rfl

theorem xCodes_B (x : Vec F S512x2048 .bf16) :
    k0_pay74 (k0_pay71 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) (k0_pay72 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) 255#32 x = xCodes x := by
  rw [xF_B, xC_B, xQ_B]
  simp only [k0_pay74, k0_pay74, k0_pay76, field_B1, field_B2, field_B3]
  rfl

theorem xSlot_B (x : Vec F S512x2048 .bf16) :
    k0_pay75 (k0_pay71 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) (k0_pay72 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) 255#32 x = xSlot x := by
  rw [xF_B, xC_B, xQ_B]
  simp only [k0_pay75, k0_pay74, k0_pay76, field_B1, field_B2, field_B3]
  rfl

theorem sSlot_B (x : Vec F S512x2048 .bf16) :
    k0_pay77 (k0_pay71 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) (k0_pay72 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) 255#32 = sSlot x := by
  rw [xF_B, xC_B, xQ_B]
  simp only [k0_pay77, k0_pay74, k0_pay76, field_B1, field_B2, field_B3]
  rfl

theorem sRow_B (x : Vec F S512x2048 .bf16) :
    k0_pay78 (k0_pay71 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) (k0_pay72 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) 255#32 = sRow x := by
  rw [xF_B, xC_B, xQ_B]
  simp only [k0_pay78, k0_pay74, k0_pay76, field_B1, field_B2, field_B3]
  rfl

theorem pay18_eq (a : Vec F S8x512 .f32) : k0_pay18 a = amaxQ a := rfl

theorem pay80_eq (a : Vec F S8x512 .f32) : k0_pay80 a = amaxQ a := rfl

theorem pay79_eq (a : Vec F S8x512 .f32) : k0_pay79 a = amaxS a := rfl

/-- What the body spells out for the running maximum over a block's eleven column tiles. -/
theorem acc_eq (a : Vec F S8x512 .f32) (C : Vec F S1x512x2048 .fp8e4m3) (S : Vec F S1x512x128 .f32) (w : Vec F S2048x5632 .fp8e4m3) (ws : Vec F S1x5632 .f32) :
    k0_pay64 (k0_pay28 S) (k0_pay59 (k0_pay28 S) (k0_pay53 (k0_pay28 S) (k0_pay49 (k0_pay28 S) (k0_pay43 (k0_pay28 S) (k0_pay37 (k0_pay28 S)
      (k0_pay33 a (k0_pay28 S) (k0_pay29 C) (wCol w 0) (sCol ws 0) C (wCol w 1) (sCol ws 1)) C (wCol w 2) (sCol ws 2)) (k0_pay40 (k0_pay28 S) C (wCol w 3) (sCol ws 3)) C (wCol w 4) (sCol ws 4))
      (k0_pay45 C) (wCol w 5) (sCol ws 5) C (wCol w 6) (sCol ws 6)) C (wCol w 7) (sCol ws 7)) (k0_pay56 (k0_pay28 S) C (wCol w 8) (sCol ws 8)) C (wCol w 9) (sCol ws 9)) (k0_pay61 C) (wCol w 10) (sCol ws 10)
      = accN a (yTiles C S w ws) 11 := by
  simp only [k0_pay28, k0_pay29, k0_pay30, k0_pay32, k0_pay33, k0_pay37, k0_pay39, k0_pay36, k0_pay40, k0_pay42, k0_pay43, k0_pay45, k0_pay46, k0_pay48, k0_pay49, k0_pay52, k0_pay53, k0_pay55, k0_pay56, k0_pay58, k0_pay59, k0_pay61, k0_pay62, k0_pay64, shapeCast_self, accN, accStep, yTiles, yTile]

/-! The column tiles of the two right operands, as the body loads them. -/

section

variable (x1 : Vec F S2048x5632 .fp8e4m3) (x2 : Vec F S1x5632 .f32)

theorem w1_0 (inb) : VecWindow.window (s := S2048x5632) x1 ![0, 0] ![2048, 512] inb = wCol x1 0 := wCol_eq x1 0 0 (by decide) (by decide) inb
theorem w2_0 (inb) : VecWindow.window (s := S1x5632) x2 ![0, 0] ![1, 512] inb = sCol x2 0 := sCol_eq x2 0 0 (by decide) (by decide) inb
theorem w1_1 (inb) : VecWindow.window (s := S2048x5632) x1 ![0, 512] ![2048, 512] inb = wCol x1 1 := wCol_eq x1 1 512 (by decide) (by decide) inb
theorem w2_1 (inb) : VecWindow.window (s := S1x5632) x2 ![0, 512] ![1, 512] inb = sCol x2 1 := sCol_eq x2 1 512 (by decide) (by decide) inb
theorem w1_2 (inb) : VecWindow.window (s := S2048x5632) x1 ![0, 1024] ![2048, 512] inb = wCol x1 2 := wCol_eq x1 2 1024 (by decide) (by decide) inb
theorem w2_2 (inb) : VecWindow.window (s := S1x5632) x2 ![0, 1024] ![1, 512] inb = sCol x2 2 := sCol_eq x2 2 1024 (by decide) (by decide) inb
theorem w1_3 (inb) : VecWindow.window (s := S2048x5632) x1 ![0, 1536] ![2048, 512] inb = wCol x1 3 := wCol_eq x1 3 1536 (by decide) (by decide) inb
theorem w2_3 (inb) : VecWindow.window (s := S1x5632) x2 ![0, 1536] ![1, 512] inb = sCol x2 3 := sCol_eq x2 3 1536 (by decide) (by decide) inb
theorem w1_4 (inb) : VecWindow.window (s := S2048x5632) x1 ![0, 2048] ![2048, 512] inb = wCol x1 4 := wCol_eq x1 4 2048 (by decide) (by decide) inb
theorem w2_4 (inb) : VecWindow.window (s := S1x5632) x2 ![0, 2048] ![1, 512] inb = sCol x2 4 := sCol_eq x2 4 2048 (by decide) (by decide) inb
theorem w1_5 (inb) : VecWindow.window (s := S2048x5632) x1 ![0, 2560] ![2048, 512] inb = wCol x1 5 := wCol_eq x1 5 2560 (by decide) (by decide) inb
theorem w2_5 (inb) : VecWindow.window (s := S1x5632) x2 ![0, 2560] ![1, 512] inb = sCol x2 5 := sCol_eq x2 5 2560 (by decide) (by decide) inb
theorem w1_6 (inb) : VecWindow.window (s := S2048x5632) x1 ![0, 3072] ![2048, 512] inb = wCol x1 6 := wCol_eq x1 6 3072 (by decide) (by decide) inb
theorem w2_6 (inb) : VecWindow.window (s := S1x5632) x2 ![0, 3072] ![1, 512] inb = sCol x2 6 := sCol_eq x2 6 3072 (by decide) (by decide) inb
theorem w1_7 (inb) : VecWindow.window (s := S2048x5632) x1 ![0, 3584] ![2048, 512] inb = wCol x1 7 := wCol_eq x1 7 3584 (by decide) (by decide) inb
theorem w2_7 (inb) : VecWindow.window (s := S1x5632) x2 ![0, 3584] ![1, 512] inb = sCol x2 7 := sCol_eq x2 7 3584 (by decide) (by decide) inb
theorem w1_8 (inb) : VecWindow.window (s := S2048x5632) x1 ![0, 4096] ![2048, 512] inb = wCol x1 8 := wCol_eq x1 8 4096 (by decide) (by decide) inb
theorem w2_8 (inb) : VecWindow.window (s := S1x5632) x2 ![0, 4096] ![1, 512] inb = sCol x2 8 := sCol_eq x2 8 4096 (by decide) (by decide) inb
theorem w1_9 (inb) : VecWindow.window (s := S2048x5632) x1 ![0, 4608] ![2048, 512] inb = wCol x1 9 := wCol_eq x1 9 4608 (by decide) (by decide) inb
theorem w2_9 (inb) : VecWindow.window (s := S1x5632) x2 ![0, 4608] ![1, 512] inb = sCol x2 9 := sCol_eq x2 9 4608 (by decide) (by decide) inb
theorem w1_10 (inb) : VecWindow.window (s := S2048x5632) x1 ![0, 5120] ![2048, 512] inb = wCol x1 10 := wCol_eq x1 10 5120 (by decide) (by decide) inb
theorem w2_10 (inb) : VecWindow.window (s := S1x5632) x2 ![0, 5120] ![1, 512] inb = sCol x2 10 := sCol_eq x2 10 5120 (by decide) (by decide) inb

end

end Cert.Kernel.Hand

end
-- ==== Proof.RunA.lean ====
/-
  The main body at the first grid point: it clears the running maximum and quantises the first tile of x.
-/
module

public import proofs.«01_k».proof.Proof.Setup

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The main body at the first grid point: it clears the running maximum and quantises the first tile of x. What each buffer the body writes ends with is given as the list of its stores, last first, over what the buffer held. -/
noncomputable def runA (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : k0_cond1 i = 1#1) (hc1 : ¬ k0_cond2 i = 1#1) (hc2 : ¬ k0_cond3 i = 1#1)
    (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    Σ' (L4 : List (View.Piece (Elt F) S512x2048 .fp8e4m3)), Σ' (L5 : List (View.Piece (Elt F) S1x1x512 .f32)), Σ' (L8 : List (View.Piece (Elt F) S2x512x2048 .fp8e4m3)), Σ' (L9 : List (View.Piece (Elt F) S2x512x128 .f32)), { L10 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ (iprop(owns (c : Thread nD τ) arg1 fullShare x0 ∗ owns (c : Thread nD τ) arg2 fullShare x1 ∗ owns (c : Thread nD τ) arg3 fullShare x2 ∗ owns (c : Thread nD τ) arg4 fullShare x3 ∗ (arg5.view.loc (c : Thread nD τ) ↦[arg5.view.set]{fullShare} arg5.view.writes (Elt F) (harg5.unread x4) L4) ∗ (arg6.view.loc (c : Thread nD τ) ↦[arg6.view.set]{fullShare} arg6.view.writes (Elt F) (harg6.unread x5) L5) ∗ owns (c : Thread nD τ) arg7 fullShare x6 ∗ owns (c : Thread nD τ) arg8 fullShare x7 ∗ (arg9.view.loc (c : Thread nD τ) ↦[arg9.view.set]{fullShare} arg9.view.writes (Elt F) (harg9.unread x8) L8) ∗ (arg10.view.loc (c : Thread nD τ) ↦[arg10.view.set]{fullShare} arg10.view.writes (Elt F) (harg10.unread x9) L9) ∗ (arg11.view.loc (c : Thread nD τ) ↦[arg11.view.set]{fullShare} arg11.view.writes (Elt F) (harg11.unread x10) L10)) -∗ K ⟨⟩))
          ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_main_eq_skeleton]; unfold cc0_main_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexact H4
    isplitl [H5]; · iexact H5
    isplitl [H6]
    · iexists _; isplitr; · ipureintro; exact harg7.read_unread _
      iexact H6
    isplitl [H7]
    · iexists _; isplitr; · ipureintro; exact harg8.read_unread _
      iexact H7
    isplitl [H8]; · iexact H8
    isplitl [H9]; · iexact H9
    iexact H10

end Cert.Kernel.Hand

end
-- ==== Proof.PiecesA.lean ====
/-
  What the stores of a grid point leave, in the terms of `Values`.
-/
module

public import proofs.«01_k».proof.Proof.Values
public import proofs.«01_k».proof.Proof.RunA

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem runA_L4 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : k0_cond1 i = 1#1) (hc1 : ¬ k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runA c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).1 = [⟨Rect.unit ![0, 0] S512x2048.size inb_S512x2048_S512x2048_0_0, xCodes x0⟩] := by
  have w0 : ∀ inb, VecWindow.window (s := S512x2048) x0 ![0, 0] ![512, 2048] inb = x0 := fun _ => window_full x0 _ _
  simp only [runA, runA.sl.r, runA.sl.r_1, runA.sl.r_2, runA.sl.r_3, runA.sl.r_4, runA.sl.r_5, runA.sl.r_6, ld_window, w0]
  rw [xMul_A x0]
  first | done | rfl

theorem runA_L5 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : k0_cond1 i = 1#1) (hc1 : ¬ k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runA c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.1 = [⟨Rect.unit ![0, 0, 0] S1x1x512.size inb_S1x1x512_S1x1x512_0_0_0, sRow x0⟩] := by
  have w0 : ∀ inb, VecWindow.window (s := S512x2048) x0 ![0, 0] ![512, 2048] inb = x0 := fun _ => window_full x0 _ _
  simp only [runA, runA.sl.r, runA.sl.r_1, runA.sl.r_2, runA.sl.r_3, runA.sl.r_4, runA.sl.r_5, runA.sl.r_6, ld_window, w0]
  rw [xScale_A x0]
  first | done | rfl

theorem runA_L8 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : k0_cond1 i = 1#1) (hc1 : ¬ k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runA c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.1 = [⟨Rect.unit (s := S2x512x2048) (k0_off1 i) S1x512x2048.size (k0_off1_inb i hc0), xSlot x0⟩] := by
  have w0 : ∀ inb, VecWindow.window (s := S512x2048) x0 ![0, 0] ![512, 2048] inb = x0 := fun _ => window_full x0 _ _
  simp only [runA, runA.sl.r, runA.sl.r_1, runA.sl.r_2, runA.sl.r_3, runA.sl.r_4, runA.sl.r_5, runA.sl.r_6, ld_window, w0]
  rw [xMul_A x0]
  first | done | rfl

theorem runA_L9 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : k0_cond1 i = 1#1) (hc1 : ¬ k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runA c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.1 = [⟨Rect.unit (s := S2x512x128) (k0_off2 i) S1x512x128.size (k0_off2_inb i hc0), sSlot x0⟩] := by
  have w0 : ∀ inb, VecWindow.window (s := S512x2048) x0 ![0, 0] ![512, 2048] inb = x0 := fun _ => window_full x0 _ _
  simp only [runA, runA.sl.r, runA.sl.r_1, runA.sl.r_2, runA.sl.r_3, runA.sl.r_4, runA.sl.r_5, runA.sl.r_6, ld_window, w0]
  rw [xScale_A x0]
  first | done | rfl

theorem runA_L10 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : k0_cond1 i = 1#1) (hc1 : ¬ k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runA c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.1 = [⟨Rect.unit ![0, 0] S8x512.size inb_S8x512_S8x512_0_0, k0_pay9⟩] := by
  have w0 : ∀ inb, VecWindow.window (s := S512x2048) x0 ![0, 0] ![512, 2048] inb = x0 := fun _ => window_full x0 _ _
  simp only [runA, runA.sl.r, runA.sl.r_1, runA.sl.r_2, runA.sl.r_3, runA.sl.r_4, runA.sl.r_5, runA.sl.r_6, ld_window, w0]

end Cert.Kernel.Hand

end
-- ==== Proof.RunB.lean ====
/-
  The main body at a middle grid point: it multiplies the tile of the point before and quantises its own.
-/
module

public import proofs.«01_k».proof.Proof.Setup

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The main body at a middle grid point: it multiplies the tile of the point before and quantises its own. What each buffer the body writes ends with is given as the list of its stores, last first, over what the buffer held. -/
noncomputable def runB (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1)
    (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    Σ' (L3 : List (View.Piece (Elt F) S512x5632 .fp8e4m3)), Σ' (L4 : List (View.Piece (Elt F) S512x2048 .fp8e4m3)), Σ' (L5 : List (View.Piece (Elt F) S1x1x512 .f32)), Σ' (L6 : List (View.Piece (Elt F) S49 .i32)), Σ' (L8 : List (View.Piece (Elt F) S2x512x2048 .fp8e4m3)), Σ' (L9 : List (View.Piece (Elt F) S2x512x128 .f32)), { L10 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ (iprop(owns (c : Thread nD τ) arg1 fullShare x0 ∗ owns (c : Thread nD τ) arg2 fullShare x1 ∗ owns (c : Thread nD τ) arg3 fullShare x2 ∗ (arg4.view.loc (c : Thread nD τ) ↦[arg4.view.set]{fullShare} arg4.view.writes (Elt F) (harg4.unread x3) L3) ∗ (arg5.view.loc (c : Thread nD τ) ↦[arg5.view.set]{fullShare} arg5.view.writes (Elt F) (harg5.unread x4) L4) ∗ (arg6.view.loc (c : Thread nD τ) ↦[arg6.view.set]{fullShare} arg6.view.writes (Elt F) (harg6.unread x5) L5) ∗ (arg7.view.loc (c : Thread nD τ) ↦[arg7.view.set]{fullShare} arg7.view.writes (Elt F) (harg7.unread x6) L6) ∗ owns (c : Thread nD τ) arg8 fullShare x7 ∗ (arg9.view.loc (c : Thread nD τ) ↦[arg9.view.set]{fullShare} arg9.view.writes (Elt F) (harg9.unread x8) L8) ∗ (arg10.view.loc (c : Thread nD τ) ↦[arg10.view.set]{fullShare} arg10.view.writes (Elt F) (harg10.unread x9) L9) ∗ (arg11.view.loc (c : Thread nD τ) ↦[arg11.view.set]{fullShare} arg11.view.writes (Elt F) (harg11.unread x10) L10)) -∗ K ⟨⟩))
          ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, fun E K => ?run⟩
  case run =>
    simp only [cc0_main_eq_skeleton]; unfold cc0_main_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexact H3
    isplitl [H4]; · iexact H4
    isplitl [H5]; · iexact H5
    isplitl [H6]; · iexact H6
    isplitl [H7]
    · iexists _; isplitr; · ipureintro; exact harg8.read_unread _
      iexact H7
    isplitl [H8]; · iexact H8
    isplitl [H9]; · iexact H9
    iexact H10

end Cert.Kernel.Hand

end
-- ==== Proof.PiecesB.lean ====
/-
  What the stores of a grid point leave, in the terms of `Values`.
-/
module

public import proofs.«01_k».proof.Proof.Values
public import proofs.«01_k».proof.Proof.RunB

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem runB_L3 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).1 = [⟨Rect.unit ![0, 5120] S512x512.size inb_S512x5632_S512x512_0_5120, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 10)⟩, ⟨Rect.unit ![0, 4608] S512x512.size inb_S512x5632_S512x512_0_4608, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 9)⟩, ⟨Rect.unit ![0, 4096] S512x512.size inb_S512x5632_S512x512_0_4096, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 8)⟩, ⟨Rect.unit ![0, 3584] S512x512.size inb_S512x5632_S512x512_0_3584, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 7)⟩, ⟨Rect.unit ![0, 3072] S512x512.size inb_S512x5632_S512x512_0_3072, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 6)⟩, ⟨Rect.unit ![0, 2560] S512x512.size inb_S512x5632_S512x512_0_2560, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 5)⟩, ⟨Rect.unit ![0, 2048] S512x512.size inb_S512x5632_S512x512_0_2048, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 4)⟩, ⟨Rect.unit ![0, 1536] S512x512.size inb_S512x5632_S512x512_0_1536, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 3)⟩, ⟨Rect.unit ![0, 1024] S512x512.size inb_S512x5632_S512x512_0_1024, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 2)⟩, ⟨Rect.unit ![0, 512] S512x512.size inb_S512x5632_S512x512_0_512, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 1)⟩, ⟨Rect.unit ![0, 0] S512x512.size inb_S512x5632_S512x512_0_0, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 0)⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  simp only [runB, runB.sl.cst_21, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_3, runB.sl.r_4, runB.sl.r_5, runB.sl.r_6, runB.sl.r_7, runB.sl.r_8, runB.sl.r_9, runB.sl.v17, runB.sl.v18, runB.sl.v22, runB.sl.v23, runB.sl.v24, runB.sl.v28, runB.sl.v29, runB.sl.v30, runB.sl.v34, runB.sl.v35, runB.sl.v36, runB.sl.v40, runB.sl.v41, runB.sl.v42, runB.sl.v46, runB.sl.v47, runB.sl.v48, runB.sl.v52, runB.sl.v53, runB.sl.v54, runB.sl.v58, runB.sl.v59, runB.sl.v60, runB.sl.v61, runB.sl.v62, runB.sl.v63, runB.sl.v64, runB.sl.v65, runB.sl.v66, runB.sl.v67, runB.sl.v68, runB.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2]
  rfl

theorem runB_L4 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.1 = [⟨Rect.unit ![0, 0] S512x2048.size inb_S512x2048_S512x2048_0_0, xCodes x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  simp only [runB, runB.sl.cst_21, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_3, runB.sl.r_4, runB.sl.r_5, runB.sl.r_6, runB.sl.r_7, runB.sl.r_8, runB.sl.r_9, runB.sl.v17, runB.sl.v18, runB.sl.v22, runB.sl.v23, runB.sl.v24, runB.sl.v28, runB.sl.v29, runB.sl.v30, runB.sl.v34, runB.sl.v35, runB.sl.v36, runB.sl.v40, runB.sl.v41, runB.sl.v42, runB.sl.v46, runB.sl.v47, runB.sl.v48, runB.sl.v52, runB.sl.v53, runB.sl.v54, runB.sl.v58, runB.sl.v59, runB.sl.v60, runB.sl.v61, runB.sl.v62, runB.sl.v63, runB.sl.v64, runB.sl.v65, runB.sl.v66, runB.sl.v67, runB.sl.v68, runB.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2]
  rw [xCodes_B x0]
  first | done | rfl

theorem runB_L5 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.1 = [⟨Rect.unit ![0, 0, 0] S1x1x512.size inb_S1x1x512_S1x1x512_0_0_0, sRow x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  simp only [runB, runB.sl.cst_21, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_3, runB.sl.r_4, runB.sl.r_5, runB.sl.r_6, runB.sl.r_7, runB.sl.r_8, runB.sl.r_9, runB.sl.v17, runB.sl.v18, runB.sl.v22, runB.sl.v23, runB.sl.v24, runB.sl.v28, runB.sl.v29, runB.sl.v30, runB.sl.v34, runB.sl.v35, runB.sl.v36, runB.sl.v40, runB.sl.v41, runB.sl.v42, runB.sl.v46, runB.sl.v47, runB.sl.v48, runB.sl.v52, runB.sl.v53, runB.sl.v54, runB.sl.v58, runB.sl.v59, runB.sl.v60, runB.sl.v61, runB.sl.v62, runB.sl.v63, runB.sl.v64, runB.sl.v65, runB.sl.v66, runB.sl.v67, runB.sl.v68, runB.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2]
  rw [sRow_B x0]
  first | done | rfl

theorem runB_L6 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.1 = [⟨Rect.unit (s := S49) (k0_off3 i) S1.size (k0_off3_inb i hc1), fun _ => invBitsS (amaxQ x10)⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  simp only [runB, runB.sl.cst_21, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_3, runB.sl.r_4, runB.sl.r_5, runB.sl.r_6, runB.sl.r_7, runB.sl.r_8, runB.sl.r_9, runB.sl.v17, runB.sl.v18, runB.sl.v22, runB.sl.v23, runB.sl.v24, runB.sl.v28, runB.sl.v29, runB.sl.v30, runB.sl.v34, runB.sl.v35, runB.sl.v36, runB.sl.v40, runB.sl.v41, runB.sl.v42, runB.sl.v46, runB.sl.v47, runB.sl.v48, runB.sl.v52, runB.sl.v53, runB.sl.v54, runB.sl.v58, runB.sl.v59, runB.sl.v60, runB.sl.v61, runB.sl.v62, runB.sl.v63, runB.sl.v64, runB.sl.v65, runB.sl.v66, runB.sl.v67, runB.sl.v68, runB.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2]
  simp only [fold0, fold1, fold2, fold3, pay18_eq, pay80_eq, pay79_eq, k0_pay19, k0_pay20, k0_pay21, k0_pay22, k0_pay23, k0_pay24, k0_pay25, k0_pay26, k0_pay27, k0_pay81, k0_pay82, k0_pay83, k0_pay84, k0_pay85, k0_pay86, k0_pay6, k0_pay7, k0_pay8]
  rfl

theorem runB_L8 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.1 = [⟨Rect.unit (s := S2x512x2048) (k0_off6 i) S1x512x2048.size (k0_off6_inb i hc1), xSlot x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  simp only [runB, runB.sl.cst_21, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_3, runB.sl.r_4, runB.sl.r_5, runB.sl.r_6, runB.sl.r_7, runB.sl.r_8, runB.sl.r_9, runB.sl.v17, runB.sl.v18, runB.sl.v22, runB.sl.v23, runB.sl.v24, runB.sl.v28, runB.sl.v29, runB.sl.v30, runB.sl.v34, runB.sl.v35, runB.sl.v36, runB.sl.v40, runB.sl.v41, runB.sl.v42, runB.sl.v46, runB.sl.v47, runB.sl.v48, runB.sl.v52, runB.sl.v53, runB.sl.v54, runB.sl.v58, runB.sl.v59, runB.sl.v60, runB.sl.v61, runB.sl.v62, runB.sl.v63, runB.sl.v64, runB.sl.v65, runB.sl.v66, runB.sl.v67, runB.sl.v68, runB.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2]
  rw [xSlot_B x0]
  first | done | rfl

theorem runB_L9 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2.1 = [⟨Rect.unit (s := S2x512x128) (k0_off7 i) S1x512x128.size (k0_off7_inb i hc1), sSlot x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  simp only [runB, runB.sl.cst_21, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_3, runB.sl.r_4, runB.sl.r_5, runB.sl.r_6, runB.sl.r_7, runB.sl.r_8, runB.sl.r_9, runB.sl.v17, runB.sl.v18, runB.sl.v22, runB.sl.v23, runB.sl.v24, runB.sl.v28, runB.sl.v29, runB.sl.v30, runB.sl.v34, runB.sl.v35, runB.sl.v36, runB.sl.v40, runB.sl.v41, runB.sl.v42, runB.sl.v46, runB.sl.v47, runB.sl.v48, runB.sl.v52, runB.sl.v53, runB.sl.v54, runB.sl.v58, runB.sl.v59, runB.sl.v60, runB.sl.v61, runB.sl.v62, runB.sl.v63, runB.sl.v64, runB.sl.v65, runB.sl.v66, runB.sl.v67, runB.sl.v68, runB.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2]
  rw [sSlot_B x0]
  first | done | rfl

theorem runB_L10 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2.2.1 = [⟨Rect.unit ![0, 0] S8x512.size inb_S8x512_S8x512_0_0, accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  simp only [runB, runB.sl.cst_21, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_3, runB.sl.r_4, runB.sl.r_5, runB.sl.r_6, runB.sl.r_7, runB.sl.r_8, runB.sl.r_9, runB.sl.v17, runB.sl.v18, runB.sl.v22, runB.sl.v23, runB.sl.v24, runB.sl.v28, runB.sl.v29, runB.sl.v30, runB.sl.v34, runB.sl.v35, runB.sl.v36, runB.sl.v40, runB.sl.v41, runB.sl.v42, runB.sl.v46, runB.sl.v47, runB.sl.v48, runB.sl.v52, runB.sl.v53, runB.sl.v54, runB.sl.v58, runB.sl.v59, runB.sl.v60, runB.sl.v61, runB.sl.v62, runB.sl.v63, runB.sl.v64, runB.sl.v65, runB.sl.v66, runB.sl.v67, runB.sl.v68, runB.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2]
  rw [acc_eq]

end Cert.Kernel.Hand

end
-- ==== Proof.RunC.lean ====
/-
  The main body at the last grid point: as at a middle one, and it leaves the final scale and maximum.
-/
module

public import proofs.«01_k».proof.Proof.Setup

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The main body at the last grid point: as at a middle one, and it leaves the final scale and maximum. What each buffer the body writes ends with is given as the list of its stores, last first, over what the buffer held. -/
noncomputable def runC (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1)
    (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    Σ' (L3 : List (View.Piece (Elt F) S512x5632 .fp8e4m3)), Σ' (L4 : List (View.Piece (Elt F) S512x2048 .fp8e4m3)), Σ' (L5 : List (View.Piece (Elt F) S1x1x512 .f32)), Σ' (L6 : List (View.Piece (Elt F) S49 .i32)), Σ' (L7 : List (View.Piece (Elt F) S2 .f32)), Σ' (L8 : List (View.Piece (Elt F) S2x512x2048 .fp8e4m3)), Σ' (L9 : List (View.Piece (Elt F) S2x512x128 .f32)), { L10 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ (iprop(owns (c : Thread nD τ) arg1 fullShare x0 ∗ owns (c : Thread nD τ) arg2 fullShare x1 ∗ owns (c : Thread nD τ) arg3 fullShare x2 ∗ (arg4.view.loc (c : Thread nD τ) ↦[arg4.view.set]{fullShare} arg4.view.writes (Elt F) (harg4.unread x3) L3) ∗ (arg5.view.loc (c : Thread nD τ) ↦[arg5.view.set]{fullShare} arg5.view.writes (Elt F) (harg5.unread x4) L4) ∗ (arg6.view.loc (c : Thread nD τ) ↦[arg6.view.set]{fullShare} arg6.view.writes (Elt F) (harg6.unread x5) L5) ∗ (arg7.view.loc (c : Thread nD τ) ↦[arg7.view.set]{fullShare} arg7.view.writes (Elt F) (harg7.unread x6) L6) ∗ (arg8.view.loc (c : Thread nD τ) ↦[arg8.view.set]{fullShare} arg8.view.writes (Elt F) (harg8.unread x7) L7) ∗ (arg9.view.loc (c : Thread nD τ) ↦[arg9.view.set]{fullShare} arg9.view.writes (Elt F) (harg9.unread x8) L8) ∗ (arg10.view.loc (c : Thread nD τ) ↦[arg10.view.set]{fullShare} arg10.view.writes (Elt F) (harg10.unread x9) L9) ∗ (arg11.view.loc (c : Thread nD τ) ↦[arg11.view.set]{fullShare} arg11.view.writes (Elt F) (harg11.unread x10) L10)) -∗ K ⟨⟩))
          ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, ?_, fun E K => ?run⟩
  case run =>
    simp only [cc0_main_eq_skeleton]; unfold cc0_main_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.Kernel.Hand

end
-- ==== Proof.PiecesC.lean ====
/-
  What the stores of a grid point leave, in the terms of `Values`.
-/
module

public import proofs.«01_k».proof.Proof.Values
public import proofs.«01_k».proof.Proof.RunC

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem runC_L3 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).1 = [⟨Rect.unit ![0, 5120] S512x512.size inb_S512x5632_S512x512_0_5120, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 10)⟩, ⟨Rect.unit ![0, 4608] S512x512.size inb_S512x5632_S512x512_0_4608, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 9)⟩, ⟨Rect.unit ![0, 4096] S512x512.size inb_S512x5632_S512x512_0_4096, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 8)⟩, ⟨Rect.unit ![0, 3584] S512x512.size inb_S512x5632_S512x512_0_3584, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 7)⟩, ⟨Rect.unit ![0, 3072] S512x512.size inb_S512x5632_S512x512_0_3072, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 6)⟩, ⟨Rect.unit ![0, 2560] S512x512.size inb_S512x5632_S512x512_0_2560, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 5)⟩, ⟨Rect.unit ![0, 2048] S512x512.size inb_S512x5632_S512x512_0_2048, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 4)⟩, ⟨Rect.unit ![0, 1536] S512x512.size inb_S512x5632_S512x512_0_1536, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 3)⟩, ⟨Rect.unit ![0, 1024] S512x512.size inb_S512x5632_S512x512_0_1024, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 2)⟩, ⟨Rect.unit ![0, 512] S512x512.size inb_S512x5632_S512x512_0_512, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 1)⟩, ⟨Rect.unit ![0, 0] S512x512.size inb_S512x5632_S512x512_0_0, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 0)⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  rfl

theorem runC_L4 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.1 = [⟨Rect.unit ![0, 0] S512x2048.size inb_S512x2048_S512x2048_0_0, xCodes x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  rw [xCodes_B x0]
  first | done | rfl

theorem runC_L5 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.1 = [⟨Rect.unit ![0, 0, 0] S1x1x512.size inb_S1x1x512_S1x1x512_0_0_0, sRow x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  rw [sRow_B x0]
  first | done | rfl

theorem runC_L6 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.1 = [⟨Rect.unit ![48] S1.size inb_S49_S1_48, fun _ => invBitsS (amaxQ (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11))⟩, ⟨Rect.unit (s := S49) (k0_off3 i) S1.size (k0_off3_inb i hc1), fun _ => invBitsS (amaxQ x10)⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  simp only [acc_eq, fold0, fold1, fold2, fold3, pay18_eq, pay80_eq, pay79_eq, k0_pay19, k0_pay20, k0_pay21, k0_pay22, k0_pay23, k0_pay24, k0_pay25, k0_pay26, k0_pay27, k0_pay81, k0_pay82, k0_pay83, k0_pay84, k0_pay85, k0_pay86, k0_pay6, k0_pay7, k0_pay8]
  rfl

theorem runC_L7 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.1 = [⟨Rect.unit ![1] S1.size inb_S2_S1_1, fun _ => amaxS (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11)⟩, ⟨Rect.unit ![0] S1.size inb_S2_S1_0, fun _ => scaleS (amaxQ (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11))⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  simp only [acc_eq, fold0, fold1, fold2, fold3, pay18_eq, pay80_eq, pay79_eq, k0_pay19, k0_pay20, k0_pay21, k0_pay22, k0_pay23, k0_pay24, k0_pay25, k0_pay26, k0_pay27, k0_pay81, k0_pay82, k0_pay83, k0_pay84, k0_pay85, k0_pay86, k0_pay6, k0_pay7, k0_pay8]
  rfl

theorem runC_L8 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2.1 = [⟨Rect.unit (s := S2x512x2048) (k0_off6 i) S1x512x2048.size (k0_off6_inb i hc1), xSlot x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  rw [xSlot_B x0]
  first | done | rfl

theorem runC_L9 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2.2.1 = [⟨Rect.unit (s := S2x512x128) (k0_off7 i) S1x512x128.size (k0_off7_inb i hc1), sSlot x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  rw [sSlot_B x0]
  first | done | rfl

theorem runC_L10 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2.2.2.1 = [⟨Rect.unit ![0, 0] S8x512.size inb_S8x512_S8x512_0_0, accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  rw [acc_eq]

end Cert.Kernel.Hand

end
-- ==== Proof.Sound.lean ====
/-
  The body of the main call at a first, a middle and a last grid point: what every buffer holds after it.
-/
module

public import proofs.«01_k».proof.Proof.PiecesA
public import proofs.«01_k».proof.Proof.PiecesB
public import proofs.«01_k».proof.Proof.PiecesC
public import Idealize.ShloMosaic.Lib.Pipeline.ValueKit.Geometry

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The eleven stores of a block of y leave the block. -/
theorem yBlock_writes {sp : Space} (v : View sig .tc sp S512x5632 .fp8e4m3) (f : v.ty.Contents (Elt F)) (inv : F .f32) (Y : ℕ → FVec F S512x512 .f32) :
    v.read (Elt F) (v.writes (Elt F) f [⟨Rect.unit ![0, 5120] S512x512.size inb_S512x5632_S512x512_0_5120, yCodes inv (Y 10)⟩, ⟨Rect.unit ![0, 4608] S512x512.size inb_S512x5632_S512x512_0_4608, yCodes inv (Y 9)⟩, ⟨Rect.unit ![0, 4096] S512x512.size inb_S512x5632_S512x512_0_4096, yCodes inv (Y 8)⟩, ⟨Rect.unit ![0, 3584] S512x512.size inb_S512x5632_S512x512_0_3584, yCodes inv (Y 7)⟩, ⟨Rect.unit ![0, 3072] S512x512.size inb_S512x5632_S512x512_0_3072, yCodes inv (Y 6)⟩, ⟨Rect.unit ![0, 2560] S512x512.size inb_S512x5632_S512x512_0_2560, yCodes inv (Y 5)⟩, ⟨Rect.unit ![0, 2048] S512x512.size inb_S512x5632_S512x512_0_2048, yCodes inv (Y 4)⟩, ⟨Rect.unit ![0, 1536] S512x512.size inb_S512x5632_S512x512_0_1536, yCodes inv (Y 3)⟩, ⟨Rect.unit ![0, 1024] S512x512.size inb_S512x5632_S512x512_0_1024, yCodes inv (Y 2)⟩, ⟨Rect.unit ![0, 512] S512x512.size inb_S512x5632_S512x512_0_512, yCodes inv (Y 1)⟩, ⟨Rect.unit ![0, 0] S512x512.size inb_S512x5632_S512x512_0_0, yCodes inv (Y 0)⟩]) = yBlock inv Y := by
  funext y
  refine View.read_writes_apply_of_pieces v f (yBlock inv Y) _ ?_ y (View.cover_of_tiled (s := S512x5632) _ S512x512.size rfl y)
  intro p hp x
  simp only [List.mem_cons, List.not_mem_nil, or_false] at hp
  have key : ∀ (q : ℕ) (inb : ∀ a, ![0, 512 * q] a + S512x512.size a ≤ S512x5632.size a) (x : (Rect.unit (s := S512x5632) ![0, 512 * q] S512x512.size inb).shape.Idx),
      yCodes inv (Y q) x = yBlock inv Y ((Rect.unit (s := S512x5632) ![0, 512 * q] S512x512.size inb).emb x) := by
    intro q inb x
    have h1 : (x 1).val < 512 := (x 1).isLt
    have e1 : ((Rect.unit (s := S512x5632) ![0, 512 * q] S512x512.size inb).emb x 1).val = 512 * q + (x 1).val := by
      rw [ValueKit.rect_emb_unit_val]; rfl
    have e0 : ((Rect.unit (s := S512x5632) ![0, 512 * q] S512x512.size inb).emb x 0).val = (x 0).val := by
      rw [ValueKit.rect_emb_unit_val]; exact Nat.zero_add _
    unfold yBlock
    rw [show ((Rect.unit (s := S512x5632) ![0, 512 * q] S512x512.size inb).emb x 1).val / 512 = q by rw [e1]; omega]
    refine congrArg (yCodes inv (Y q)) (funext fun a => Fin.ext ?_)
    match a with
    | ⟨0, _⟩ => exact e0.symm
    | ⟨1, _⟩ => show (x 1).val = _ % 512; rw [e1]; omega
  rcases hp with rfl | rfl | rfl | rfl | rfl | rfl | rfl | rfl | rfl | rfl | rfl
  · exact key 10 inb_S512x5632_S512x512_0_5120 x
  · exact key 9 inb_S512x5632_S512x512_0_4608 x
  · exact key 8 inb_S512x5632_S512x512_0_4096 x
  · exact key 7 inb_S512x5632_S512x512_0_3584 x
  · exact key 6 inb_S512x5632_S512x512_0_3072 x
  · exact key 5 inb_S512x5632_S512x512_0_2560 x
  · exact key 4 inb_S512x5632_S512x512_0_2048 x
  · exact key 3 inb_S512x5632_S512x512_0_1536 x
  · exact key 2 inb_S512x5632_S512x512_0_1024 x
  · exact key 1 inb_S512x5632_S512x512_0_512 x
  · exact key 0 inb_S512x5632_S512x512_0_0 x
set_option maxHeartbeats 2000000 in
/-- What the main body leaves in every buffer at the first grid point. -/
theorem soundA (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : k0_cond1 i = 1#1) (hc1 : ¬ k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (xCodes x0) ∗ owns (c : Thread nD τ) arg6 fullShare (sRow x0) ∗ owns (c : Thread nD τ) arg7 fullShare x6 ∗ owns (c : Thread nD τ) arg8 fullShare x7 ∗ owns (c : Thread nD τ) arg9 fullShare (VecWindow.put (s := S2x512x2048) x8 (k0_off1 i) S1x512x2048.size (xSlot x0)) ∗ owns (c : Thread nD τ) arg10 fullShare (VecWindow.put (s := S2x512x128) x9 (k0_off2 i) S1x512x128.size (sSlot x0)) ∗ owns (c : Thread nD τ) arg11 fullShare (k0_pay9 (F := F))) -∗ K ⟨⟩))
      ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11) K := by
  have h := (runA c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2 E K
  beta_reduce at h
  refine BIBase.Entails.trans ?_ h
  iintro ⟨H0, H1, H2, H3, H4, H5, H6, H7, H8, H9, H10, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  isplitl [H0]
  · iexact H0
  isplitl [H1]
  · iexact H1
  isplitl [H2]
  · iexact H2
  isplitl [H3]
  · iexact H3
  isplitl [H4]
  · unfold owns; iexists _; isplitr; swap
    · iexact H4
    · ipureintro; exact (congrArg (fun L => arg5.view.read (Elt F) (arg5.view.writes (Elt F) _ L)) (runA_L4 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg5.view _ _ _ _)
  isplitl [H5]
  · unfold owns; iexists _; isplitr; swap
    · iexact H5
    · ipureintro; exact (congrArg (fun L => arg6.view.read (Elt F) (arg6.view.writes (Elt F) _ L)) (runA_L5 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg6.view _ _ _ _)
  isplitl [H6]
  · iexact H6
  isplitl [H7]
  · iexact H7
  isplitl [H8]
  · unfold owns; iexists _; isplitr; swap
    · iexact H8
    · ipureintro; exact (congrArg (fun L => arg9.view.read (Elt F) (arg9.view.writes (Elt F) _ L)) (runA_L8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg9.view _ _ _ _ rfl).trans (by rw [View.writes_nil, harg9.read_unread] <;> rfl))
  isplitl [H9]
  · unfold owns; iexists _; isplitr; swap
    · iexact H9
    · ipureintro; exact (congrArg (fun L => arg10.view.read (Elt F) (arg10.view.writes (Elt F) _ L)) (runA_L9 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg10.view _ _ _ _ rfl).trans (by rw [View.writes_nil, harg10.read_unread] <;> rfl))
  unfold owns; iexists _; isplitr; swap
  · iexact H10
  · ipureintro; exact (congrArg (fun L => arg11.view.read (Elt F) (arg11.view.writes (Elt F) _ L)) (runA_L10 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg11.view _ _ _ _)

set_option maxHeartbeats 2000000 in
/-- What the main body leaves in every buffer at a middle grid point. -/
theorem soundB (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (iprop(owns (c : Thread nD τ) arg1 fullShare x0 ∗ owns (c : Thread nD τ) arg2 fullShare x1 ∗ owns (c : Thread nD τ) arg3 fullShare x2 ∗ owns (c : Thread nD τ) arg4 fullShare (yBlock (invS (amaxQ x10)) (yTiles (VecWindow.window (s := S2x512x2048) x8 (k0_off5 i) S1x512x2048.size (k0_off5_inb i hc1)) (VecWindow.window (s := S2x512x128) x9 (k0_off4 i) S1x512x128.size (k0_off4_inb i hc1)) x1 x2)) ∗ owns (c : Thread nD τ) arg5 fullShare (xCodes x0) ∗ owns (c : Thread nD τ) arg6 fullShare (sRow x0) ∗ owns (c : Thread nD τ) arg7 fullShare (VecWindow.put (s := S49) x6 (k0_off3 i) S1.size (fun _ => invBitsS (amaxQ x10))) ∗ owns (c : Thread nD τ) arg8 fullShare x7 ∗ owns (c : Thread nD τ) arg9 fullShare (VecWindow.put (s := S2x512x2048) x8 (k0_off6 i) S1x512x2048.size (xSlot x0)) ∗ owns (c : Thread nD τ) arg10 fullShare (VecWindow.put (s := S2x512x128) x9 (k0_off7 i) S1x512x128.size (sSlot x0)) ∗ owns (c : Thread nD τ) arg11 fullShare (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11)) -∗ K ⟨⟩))
      ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11) K := by
  have h := (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2.2.2 E K
  beta_reduce at h
  refine BIBase.Entails.trans ?_ h
  iintro ⟨H0, H1, H2, H3, H4, H5, H6, H7, H8, H9, H10, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  isplitl [H0]
  · iexact H0
  isplitl [H1]
  · iexact H1
  isplitl [H2]
  · iexact H2
  isplitl [H3]
  · unfold owns; iexists _; isplitr; swap
    · iexact H3
    · ipureintro; exact (congrArg (fun L => arg4.view.read (Elt F) (arg4.view.writes (Elt F) _ L)) (runB_L3 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (yBlock_writes arg4.view _ (invS (amaxQ x10)) (yTiles (VecWindow.window (s := S2x512x2048) x8 (k0_off5 i) S1x512x2048.size (k0_off5_inb i hc1)) (VecWindow.window (s := S2x512x128) x9 (k0_off4 i) S1x512x128.size (k0_off4_inb i hc1)) x1 x2))
  isplitl [H4]
  · unfold owns; iexists _; isplitr; swap
    · iexact H4
    · ipureintro; exact (congrArg (fun L => arg5.view.read (Elt F) (arg5.view.writes (Elt F) _ L)) (runB_L4 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg5.view _ _ _ _)
  isplitl [H5]
  · unfold owns; iexists _; isplitr; swap
    · iexact H5
    · ipureintro; exact (congrArg (fun L => arg6.view.read (Elt F) (arg6.view.writes (Elt F) _ L)) (runB_L5 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg6.view _ _ _ _)
  isplitl [H6]
  · unfold owns; iexists _; isplitr; swap
    · iexact H6
    · ipureintro; exact (congrArg (fun L => arg7.view.read (Elt F) (arg7.view.writes (Elt F) _ L)) (runB_L6 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg7.view _ _ _ _ rfl).trans (by rw [View.writes_nil, harg7.read_unread] <;> rfl))
  isplitl [H7]
  · iexact H7
  isplitl [H8]
  · unfold owns; iexists _; isplitr; swap
    · iexact H8
    · ipureintro; exact (congrArg (fun L => arg9.view.read (Elt F) (arg9.view.writes (Elt F) _ L)) (runB_L8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg9.view _ _ _ _ rfl).trans (by rw [View.writes_nil, harg9.read_unread] <;> rfl))
  isplitl [H9]
  · unfold owns; iexists _; isplitr; swap
    · iexact H9
    · ipureintro; exact (congrArg (fun L => arg10.view.read (Elt F) (arg10.view.writes (Elt F) _ L)) (runB_L9 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg10.view _ _ _ _ rfl).trans (by rw [View.writes_nil, harg10.read_unread] <;> rfl))
  unfold owns; iexists _; isplitr; swap
  · iexact H10
  · ipureintro; exact (congrArg (fun L => arg11.view.read (Elt F) (arg11.view.writes (Elt F) _ L)) (runB_L10 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg11.view _ _ _ _)

set_option maxHeartbeats 2000000 in
/-- What the main body leaves in every buffer at the last grid point. -/
theorem soundC (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (iprop(owns (c : Thread nD τ) arg1 fullShare x0 ∗ owns (c : Thread nD τ) arg2 fullShare x1 ∗ owns (c : Thread nD τ) arg3 fullShare x2 ∗ owns (c : Thread nD τ) arg4 fullShare (yBlock (invS (amaxQ x10)) (yTiles (VecWindow.window (s := S2x512x2048) x8 (k0_off5 i) S1x512x2048.size (k0_off5_inb i hc1)) (VecWindow.window (s := S2x512x128) x9 (k0_off4 i) S1x512x128.size (k0_off4_inb i hc1)) x1 x2)) ∗ owns (c : Thread nD τ) arg5 fullShare (xCodes x0) ∗ owns (c : Thread nD τ) arg6 fullShare (sRow x0) ∗ owns (c : Thread nD τ) arg7 fullShare (VecWindow.put (s := S49) (VecWindow.put (s := S49) x6 (k0_off3 i) S1.size (fun _ => invBitsS (amaxQ x10))) ![48] S1.size (fun _ => invBitsS (amaxQ (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11)))) ∗ owns (c : Thread nD τ) arg8 fullShare (VecWindow.put (s := S2) (VecWindow.put (s := S2) x7 ![0] S1.size (fun _ => scaleS (amaxQ (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11)))) ![1] S1.size (fun _ => amaxS (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11))) ∗ owns (c : Thread nD τ) arg9 fullShare (VecWindow.put (s := S2x512x2048) x8 (k0_off6 i) S1x512x2048.size (xSlot x0)) ∗ owns (c : Thread nD τ) arg10 fullShare (VecWindow.put (s := S2x512x128) x9 (k0_off7 i) S1x512x128.size (sSlot x0)) ∗ owns (c : Thread nD τ) arg11 fullShare (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11)) -∗ K ⟨⟩))
      ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11) K := by
  have h := (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2.2.2.2 E K
  beta_reduce at h
  refine BIBase.Entails.trans ?_ h
  iintro ⟨H0, H1, H2, H3, H4, H5, H6, H7, H8, H9, H10, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  isplitl [H0]
  · iexact H0
  isplitl [H1]
  · iexact H1
  isplitl [H2]
  · iexact H2
  isplitl [H3]
  · unfold owns; iexists _; isplitr; swap
    · iexact H3
    · ipureintro; exact (congrArg (fun L => arg4.view.read (Elt F) (arg4.view.writes (Elt F) _ L)) (runC_L3 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (yBlock_writes arg4.view _ (invS (amaxQ x10)) (yTiles (VecWindow.window (s := S2x512x2048) x8 (k0_off5 i) S1x512x2048.size (k0_off5_inb i hc1)) (VecWindow.window (s := S2x512x128) x9 (k0_off4 i) S1x512x128.size (k0_off4_inb i hc1)) x1 x2))
  isplitl [H4]
  · unfold owns; iexists _; isplitr; swap
    · iexact H4
    · ipureintro; exact (congrArg (fun L => arg5.view.read (Elt F) (arg5.view.writes (Elt F) _ L)) (runC_L4 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg5.view _ _ _ _)
  isplitl [H5]
  · unfold owns; iexists _; isplitr; swap
    · iexact H5
    · ipureintro; exact (congrArg (fun L => arg6.view.read (Elt F) (arg6.view.writes (Elt F) _ L)) (runC_L5 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg6.view _ _ _ _)
  isplitl [H6]
  · unfold owns; iexists _; isplitr; swap
    · iexact H6
    · ipureintro; exact (congrArg (fun L => arg7.view.read (Elt F) (arg7.view.writes (Elt F) _ L)) (runC_L6 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg7.view _ _ _ _ rfl).trans (by rw [View.read_writes_cons_put arg7.view _ _ _ _ rfl, View.writes_nil, harg7.read_unread] <;> rfl))
  isplitl [H7]
  · unfold owns; iexists _; isplitr; swap
    · iexact H7
    · ipureintro; exact (congrArg (fun L => arg8.view.read (Elt F) (arg8.view.writes (Elt F) _ L)) (runC_L7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg8.view _ _ _ _ rfl).trans (by rw [View.read_writes_cons_put arg8.view _ _ _ _ rfl, View.writes_nil, harg8.read_unread] <;> rfl))
  isplitl [H8]
  · unfold owns; iexists _; isplitr; swap
    · iexact H8
    · ipureintro; exact (congrArg (fun L => arg9.view.read (Elt F) (arg9.view.writes (Elt F) _ L)) (runC_L8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg9.view _ _ _ _ rfl).trans (by rw [View.writes_nil, harg9.read_unread] <;> rfl))
  isplitl [H9]
  · unfold owns; iexists _; isplitr; swap
    · iexact H9
    · ipureintro; exact (congrArg (fun L => arg10.view.read (Elt F) (arg10.view.writes (Elt F) _ L)) (runC_L9 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg10.view _ _ _ _ rfl).trans (by rw [View.writes_nil, harg10.read_unread] <;> rfl))
  unfold owns; iexists _; isplitr; swap
  · iexact H10
  · ipureintro; exact (congrArg (fun L => arg11.view.read (Elt F) (arg11.view.writes (Elt F) _ L)) (runC_L10 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg11.view _ _ _ _)

end Cert.Kernel.Hand

end
-- ==== Proof.Data.lean ====
/-
  What the main call leaves point by point: the relational proof data of its pipeline, the body's triple at every
  point, and the run of the whole program.

  At point `t` the body quantises row tile `t` (tile 47 again at point 48) and multiplies out tile `t - 1`, whose codes
  and scales wait in the scratch slot of the other parity.
-/
module

public import proofs.«01_k».proof.Proof.Gen.Kernel.Frame
public import proofs.«01_k».proof.Proof.Sound
public import Idealize.ShloMosaic.Lib.Pipeline.FrameBody
public import Idealize.ShloMosaic.Lib.Pipeline.ArrRel

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values the points carry -/

/-- Grid point number `n`. -/
def pt (n : ℕ) : Fin cfg0.N := ⟨n % 49, by rw [show cfg0.N = 49 from N_0]; exact Nat.mod_lt _ (by decide)⟩

theorem pt_val (t : Fin cfg0.N) : pt t.val = t :=
  Fin.ext (Nat.mod_eq_of_lt (Nat.lt_of_lt_of_eq t.isLt N_0))

/-- The rows of `x` fetched at point `n`. -/
def xb (c : Dev nD) (n : ℕ) : Vec F S512x2048 .bf16 := iblk m c 0 (pt n)
/-- The weight codes at point `n`. -/
def wb (c : Dev nD) (n : ℕ) : Vec F S2048x5632 .fp8e4m3 := iblk m c 1 (pt n)
/-- The weight scales at point `n`. -/
def wsb (c : Dev nD) (n : ℕ) : Vec F S1x5632 .f32 := iblk m c 2 (pt n)

/-- The scaled products of row tile `n`, one column tile each, as point `n + 1` computes them. -/
def prodT (c : Dev nD) (n : ℕ) := yTiles (xSlot (xb m c n)) (sSlot (xb m c n)) (wb m c (n + 1)) (wsb m c (n + 1))

/-- The running maximum of the absolute products after `n` row tiles, in its layout of 8 by 512 lanes. -/
def accAt (c : Dev nD) : ℕ → Vec F S8x512 .f32
  | 0 => k0_pay9
  | n + 1 => accN (accAt c n) (prodT m c n) 11

/-- The product codes of row tile `n` as the main call writes them, at the scale known before the tile. -/
def yAt (c : Dev nD) (n : ℕ) : Vec F S512x5632 .fp8e4m3 := yBlock (invS (amaxQ (accAt m c n))) (prodT m c n)

/-- The bits of the inverse scale after `n` row tiles. -/
def usedAt (c : Dev nD) (n : ℕ) := invBitsS (amaxQ (accAt m c n))

/-- The two statistics: the final scale and the final maximum. -/
def statAt (c : Dev nD) (Y : Vec F S2 .f32) : Vec F S2 .f32 :=
  VecWindow.put (s := S2) (VecWindow.put (s := S2) Y ![0] S1.size (fun _ => scaleS (amaxQ (accAt m c 48)))) ![1] S1.size (fun _ => amaxS (accAt m c 48))

/-! ## The proof data -/

/-- What the body leaves in each window's buffer (`X`) at point `t`, given what it found there (`Y`): the inputs as
    found, the codes and scales of the tile of the point, the product codes and the inverse scale of the tile before,
    and at the last point the statistics. -/
def afterRel (c : Dev nD) (t : Fin cfg0.N) : (w : Fin cfg0.W) → (Y X : (cfg0.win w).block.Idx → Elt F (cfg0.win w).elt) → Prop
  | ⟨0, _⟩ => fun Y X => X = Y
  | ⟨1, _⟩ => fun Y X => X = Y
  | ⟨2, _⟩ => fun Y X => X = Y
  | ⟨3, _⟩ => fun (Y X : Vec F S512x5632 .fp8e4m3) => t.val ≠ 0 → X = yAt m c (t.val - 1)
  | ⟨4, _⟩ => fun (Y X : Vec F S512x2048 .fp8e4m3) => X = xCodes (xb m c t.val)
  | ⟨5, _⟩ => fun (Y X : Vec F S1x1x512 .f32) => X = sRow (xb m c t.val)
  | ⟨6, _⟩ => fun (Y X : Vec F S49 .i32) =>
      (t.val = 0 → X = Y)
      ∧ (t.val ≠ 0 → t.val ≠ 48 → X = VecWindow.put (s := S49) Y ![t.val - 1] S1.size (fun _ => usedAt m c (t.val - 1)))
      ∧ (t.val = 48 → X = VecWindow.put (s := S49) (VecWindow.put (s := S49) Y ![t.val - 1] S1.size (fun _ => usedAt m c (t.val - 1))) ![48] S1.size (fun _ => usedAt m c 48))
  | ⟨7, _⟩ => fun (Y X : Vec F S2 .f32) => (t.val ≠ 48 → X = Y) ∧ (t.val = 48 → X = statAt m c Y)

abbrev scM0 : Memref sig .tc .vmem S2x512x2048 .fp8e4m3 := Memref.whole cc0_scratch0
abbrev scM1 : Memref sig .tc .vmem S2x512x128 .f32 := Memref.whole cc0_scratch1
abbrev scM2 : Memref sig .tc .vmem S8x512 .f32 := Memref.whole cc0_scratch2

/-- The slots of parity `n` hold the codes and the scales of row tile `n`. -/
def slotsHold (c : Dev nD) (n : ℕ) (x8 : Vec F S2x512x2048 .fp8e4m3) (x9 : Vec F S2x512x128 .f32) : Prop :=
  (∀ inb, VecWindow.window (s := S2x512x2048) x8 ![n % 2, 0, 0] S1x512x2048.size inb = xSlot (xb m c n))
  ∧ (∀ inb, VecWindow.window (s := S2x512x128) x9 ![n % 2, 0, 0] S1x512x128.size inb = sSlot (xb m c n))

/-- Before point `n`: the scratch buffers at anything before the first point, then the slots of the tile before and the
    running maximum. -/
def PhiS (c : Dev nD) : ℕ → sProp 𝕄
  | 0 => Pipeline.ΦA spec0 c
  | n + 1 => iprop(iprop((∃ x8, ∃ x9, ⌜slotsHold m c n x8 x9⌝ ∗ owns (c : Thread nD τ) scM0 fullShare x8 ∗ owns (c : Thread nD τ) scM1 fullShare x9) ∗ owns (c : Thread nD τ) scM2 fullShare (accAt m c n)) ∗ (∃ r, prngReg c r))

theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The relational proof data of the main call's pipeline. -/
def rdat (c : Dev nD) : Pipeline.RDat τ (Elt F) Unit ℕ (UR sig nD τ) ℕ cfg0 c where
  A w := V m c (Pipeline.arrRef spec0 w)
  after w t := afterRel m c t w
  Φ t := PhiS m c t.val
  q _ := fullShare
  owed _ := 0

theorem rdat_A (c : Dev nD) (w : Fin cfg0.W) : (rdat m c).A w = V m c (Pipeline.arrRef spec0 w) := by
  dsimp only [rdat]

theorem finds0 (c : Dev nD) (t : Fin cfg0.N) (Y) (h : (rdat m c).Finds 0 t Y) : Y = xb m c t.val := by
  obtain ⟨d, hd⟩ := (rdat m c).finds_in_eq_fetched 0 rfl (fun _ _ _ => rfl) (fun _ _ _ h => h) t Y h
  rw [hd, xb, pt_val]; unfold Pipeline.RDat.fetched Pipeline.RDat.blockOf iblk; rw [rdat_A]; try rfl
theorem finds1 (c : Dev nD) (t : Fin cfg0.N) (Y) (h : (rdat m c).Finds 1 t Y) : Y = wb m c t.val := by
  obtain ⟨d, hd⟩ := (rdat m c).finds_in_eq_fetched 1 rfl (fun _ _ _ => rfl) (fun _ _ _ h => h) t Y h
  rw [hd, wb, pt_val]; unfold Pipeline.RDat.fetched Pipeline.RDat.blockOf iblk; rw [rdat_A]; try rfl
theorem finds2 (c : Dev nD) (t : Fin cfg0.N) (Y) (h : (rdat m c).Finds 2 t Y) : Y = wsb m c t.val := by
  obtain ⟨d, hd⟩ := (rdat m c).finds_in_eq_fetched 2 rfl (fun _ _ _ => rfl) (fun _ _ _ h => h) t Y h
  rw [hd, wsb, pt_val]; unfold Pipeline.RDat.fetched Pipeline.RDat.blockOf iblk; rw [rdat_A]; try rfl

/-! ## The body's conditions -/

theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)
theorem hcond3 : ∀ t : Fin cfg0.N, k0_cond3 (grid0.coords t) = 1#1 ↔ t.val = 48 :=
  (by decide +kernel : ∀ t : Fin grid0.N, k0_cond3 (grid0.coords t) = 1#1 ↔ t.val = 48)

/-- The one grid coordinate of a point is its number. -/
theorem coord_val (t : Fin cfg0.N) : ((grid0.coords t) 0).val = t.val := by
  have ht : t.val < 49 := Nat.lt_of_lt_of_eq t.isLt N_0
  have e0 : (grid0.coords t 0).val = t.val / 1 % 49 := Pipeline.Grid.coords_val t 0 (by decide) rfl
  rw [e0]; omega

theorem off1_at (t : Fin cfg0.N) : k0_off1 (grid0.coords t) = ![t.val % 2, 0, 0] := by rw [k0_off1_eq, coord_val]
theorem off2_at (t : Fin cfg0.N) : k0_off2 (grid0.coords t) = ![t.val % 2, 0, 0] := by rw [k0_off2_eq, coord_val]
theorem off6_at (t : Fin cfg0.N) : k0_off6 (grid0.coords t) = ![t.val % 2, 0, 0] := by rw [k0_off6_eq, coord_val]
theorem off7_at (t : Fin cfg0.N) : k0_off7 (grid0.coords t) = ![t.val % 2, 0, 0] := by rw [k0_off7_eq, coord_val]
theorem off3_at (t : Fin cfg0.N) (h : t.val ≠ 0) : k0_off3 (grid0.coords t) = ![t.val - 1] := by
  have ht : t.val < 49 := Nat.lt_of_lt_of_eq t.isLt N_0
  rw [k0_off3_eq, coord_val, show (t.val + 4294967295) % 4294967296 = t.val - 1 by omega]
theorem off4_at (t : Fin cfg0.N) (h : t.val ≠ 0) : k0_off4 (grid0.coords t) = ![(t.val - 1) % 2, 0, 0] := by
  rw [k0_off4_eq, coord_val, show 1 - t.val % 2 = (t.val - 1) % 2 by omega]
theorem off5_at (t : Fin cfg0.N) (h : t.val ≠ 0) : k0_off5 (grid0.coords t) = ![(t.val - 1) % 2, 0, 0] := by
  rw [k0_off5_eq, coord_val, show 1 - t.val % 2 = (t.val - 1) % 2 by omega]

/-- A window at an offset equal to another's. -/
theorem window_congr {s : Shape} {α : Type} (x : s.Idx → α) {off off' : Fin s.rank → ℕ} (h : off = off') (size : Fin s.rank → ℕ)
    (inb : ∀ a, off a + size a ≤ s.size a) (inb' : ∀ a, off' a + size a ≤ s.size a) :
    VecWindow.window x off size inb = VecWindow.window x off' size inb' := by subst h; rfl

/-- After the point the slots of its parity hold its tile. -/
theorem slotsHold_put (c : Dev nD) (n : ℕ) (x8 : Vec F S2x512x2048 .fp8e4m3) (x9 : Vec F S2x512x128 .f32) (o8 : Fin S2x512x2048.rank → ℕ) (o9 : Fin S2x512x128.rank → ℕ)
    (h8 : o8 = ![n % 2, 0, 0]) (h9 : o9 = ![n % 2, 0, 0]) :
    slotsHold m c n (VecWindow.put (s := S2x512x2048) x8 o8 S1x512x2048.size (xSlot (xb m c n))) (VecWindow.put (s := S2x512x128) x9 o9 S1x512x128.size (sSlot (xb m c n))) := by
  subst h8; subst h9
  exact ⟨fun inb => VecWindow.window_put_same (s := S2x512x2048) _ _ _ inb _, fun inb => VecWindow.window_put_same (s := S2x512x128) _ _ _ inb _⟩

/-- The products a point computes from the slots are those of the tile before. -/
theorem prodT_of_slots (c : Dev nD) (t : Fin cfg0.N) (h : t.val ≠ 0) (x8 : Vec F S2x512x2048 .fp8e4m3) (x9 : Vec F S2x512x128 .f32)
    (hs : slotsHold m c (t.val - 1) x8 x9) (i5) (i4) :
    yTiles (VecWindow.window (s := S2x512x2048) x8 (k0_off5 (grid0.coords t)) S1x512x2048.size i5) (VecWindow.window (s := S2x512x128) x9 (k0_off4 (grid0.coords t)) S1x512x128.size i4) (wb m c t.val) (wsb m c t.val)
      = prodT m c (t.val - 1) := by
  unfold prodT
  rw [Nat.sub_add_cancel (Nat.one_le_iff_ne_zero.mpr h), window_congr x8 (off5_at t h) _ _ (by rw [← off5_at t h]; exact i5),
    window_congr x9 (off4_at t h) _ _ (by rw [← off4_at t h]; exact i4), hs.1, hs.2]

theorem accAt_step (c : Dev nD) (n : ℕ) (h : n ≠ 0) : accN (accAt m c (n - 1)) (prodT m c (n - 1)) 11 = accAt m c n := by
  obtain ⟨k, rfl⟩ := Nat.exists_eq_succ_of_ne_zero h
  rfl

end Cert.Kernel.Hand

end
-- ==== Proof.MainRun.lean ====
/-
  The body's triple at every point of the main call's grid, over the relational proof data.
-/
module

public import proofs.«01_k».proof.Proof.Data

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at any point: from the windows' buffers and the scratch as the point before left them, to the buffers
    in the relation of the proof data and the scratch as this point leaves it. -/
theorem sound_body (c : Dev nD) (t : Fin cfg0.N) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (h0 : x0 = xb m c t.val) (h1 : x1 = wb m c t.val) (h2 : x2 = wsb m c t.val) :
    iprop(PhiS m c t.val ∗ (rdat m c).owesAt () t.castSucc ∗ owns (c : Thread nD τ) (win0_0.stage (cfg0.slots t 0)) fullShare x0 ∗ owns (c : Thread nD τ) (win0_1.stage (cfg0.slots t 1)) fullShare x1 ∗ owns (c : Thread nD τ) (win0_2.stage (cfg0.slots t 2)) fullShare x2 ∗ owns (c : Thread nD τ) (win0_3.stage (cfg0.slots t 3)) fullShare x3 ∗ owns (c : Thread nD τ) (win0_4.stage (cfg0.slots t 4)) fullShare x4 ∗ owns (c : Thread nD τ) (win0_5.stage (cfg0.slots t 5)) fullShare x5 ∗ owns (c : Thread nD τ) (win0_6.stage (cfg0.slots t 6)) fullShare x6 ∗ owns (c : Thread nD τ) (win0_7.stage (cfg0.slots t 7)) fullShare x7)
      ⊢ wp frame (wpE (defs₀ (F := F)) Variants.none c none) Set.univ (bodyAt0 t) (fun _ =>
        iprop(PhiS m c (t.val + 1) ∗ (rdat m c).owesAt () t.succ ∗ (∃ X, ⌜afterRel m c t 0 x0 X⌝ ∗ owns (c : Thread nD τ) (win0_0.stage (cfg0.slots t 0)) fullShare X) ∗ (∃ X, ⌜afterRel m c t 1 x1 X⌝ ∗ owns (c : Thread nD τ) (win0_1.stage (cfg0.slots t 1)) fullShare X) ∗ (∃ X, ⌜afterRel m c t 2 x2 X⌝ ∗ owns (c : Thread nD τ) (win0_2.stage (cfg0.slots t 2)) fullShare X) ∗ (∃ X, ⌜afterRel m c t 3 x3 X⌝ ∗ owns (c : Thread nD τ) (win0_3.stage (cfg0.slots t 3)) fullShare X) ∗ (∃ X, ⌜afterRel m c t 4 x4 X⌝ ∗ owns (c : Thread nD τ) (win0_4.stage (cfg0.slots t 4)) fullShare X) ∗ (∃ X, ⌜afterRel m c t 5 x5 X⌝ ∗ owns (c : Thread nD τ) (win0_5.stage (cfg0.slots t 5)) fullShare X) ∗ (∃ X, ⌜afterRel m c t 6 x6 X⌝ ∗ owns (c : Thread nD τ) (win0_6.stage (cfg0.slots t 6)) fullShare X) ∗ (∃ X, ⌜afterRel m c t 7 x7 X⌝ ∗ owns (c : Thread nD τ) (win0_7.stage (cfg0.slots t 7)) fullShare X))) := by
  unfold bodyAt0
  rw [show (rdat m c).owesAt () t.succ = (rdat m c).owesAt () t.castSucc from rfl]
  rw [show PhiS m c (t.val + 1) = iprop(iprop((∃ x8, ∃ x9, ⌜slotsHold m c t.val x8 x9⌝ ∗ owns (c : Thread nD τ) scM0 fullShare x8 ∗ owns (c : Thread nD τ) scM1 fullShare x9) ∗ owns (c : Thread nD τ) scM2 fullShare (accAt m c t.val)) ∗ (∃ r, prngReg c r)) from rfl]
  by_cases hz : t.val = 0
  · rw [show PhiS m c t.val = Pipeline.ΦA spec0 c by rw [hz]; rfl, PhiA_eq]
    · iintro ⟨⟨⟨⟨%x8, H8⟩, ⟨%x9, H9⟩, ⟨%x10, H10⟩⟩, Hg⟩, Ho, H0, H1, H2, H3, H4, H5, H6, H7⟩
      iapply (soundA c (grid0.coords t) _ _ _ _ _ _ _ _ _ _ _ _ _ _ _ _ _ _ _ _ _ _ ((hcond1 t).mpr hz) (fun h => (hcond2 t).mp h hz) (fun h => by have := (hcond3 t).mp h; omega) x0 x1 x2 x3 x4 x5 x6 x7 x8 x9 x10 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [H8 H9 H10 Hg]
      · isplitl [H8 H9 H10]
        · isplitl [H8 H9]
          · iexists _, _; isplitr; swap
            · isplitl [H8]; · iexact H8
              iexact H9
            · ipureintro; rw [h0]; exact slotsHold_put m c t.val _ _ _ _ (off1_at t) (off2_at t)
          · rw [show accAt m c t.val = k0_pay9 by rw [hz]; rfl]; iexact H10
        · iexact Hg
      isplitl [Ho]; · iexact Ho
      isplitl [H0]
      · iexists _; isplitr; swap
        · iexact H0
        · ipureintro; exact rfl
      isplitl [H1]
      · iexists _; isplitr; swap
        · iexact H1
        · ipureintro; exact rfl
      isplitl [H2]
      · iexists _; isplitr; swap
        · iexact H2
        · ipureintro; exact rfl
      isplitl [H3]
      · iexists _; isplitr; swap
        · iexact H3
        · ipureintro; exact (fun h => absurd hz h)
      isplitl [H4]
      · iexists _; isplitr; swap
        · iexact H4
        · ipureintro; exact (congrArg xCodes h0)
      isplitl [H5]
      · iexists _; isplitr; swap
        · iexact H5
        · ipureintro; exact (congrArg sRow h0)
      isplitl [H6]
      · iexists _; isplitr; swap
        · iexact H6
        · ipureintro; exact ⟨fun _ => rfl, fun h => absurd hz h, fun h => absurd h (by omega)⟩
      iexists _; isplitr; swap
      · iexact H7
      · ipureintro; exact ⟨fun _ => rfl, fun h => absurd h (by omega)⟩
  · obtain ⟨n, hn⟩ := Nat.exists_eq_succ_of_ne_zero hz
    rw [show PhiS m c t.val = iprop(iprop((∃ x8, ∃ x9, ⌜slotsHold m c (t.val - 1) x8 x9⌝ ∗ owns (c : Thread nD τ) scM0 fullShare x8 ∗ owns (c : Thread nD τ) scM1 fullShare x9) ∗ owns (c : Thread nD τ) scM2 fullShare (accAt m c (t.val - 1))) ∗ (∃ r, prngReg c r)) by rw [hn]; rfl]
    by_cases hl : t.val = 48
    · iintro ⟨⟨⟨⟨%x8, %x9, %hs, H8, H9⟩, H10⟩, Hg⟩, Ho, H0, H1, H2, H3, H4, H5, H6, H7⟩
      have hP := prodT_of_slots m c t hz x8 x9 hs (k0_off5_inb _ ((hcond2 t).mpr hz)) (k0_off4_inb _ ((hcond2 t).mpr hz))
      rw [← h1, ← h2] at hP
      iapply (soundC c (grid0.coords t) _ _ _ _ _ _ _ _ _ _ _ _ _ _ _ _ _ _ _ _ _ _ (fun h => hz ((hcond1 t).mp h)) ((hcond2 t).mpr hz) ((hcond3 t).mpr hl) x0 x1 x2 x3 x4 x5 x6 x7 x8 x9 (accAt m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [H8 H9 H10 Hg]
      · isplitl [H8 H9 H10]
        · isplitl [H8 H9]
          · iexists _, _; isplitr; swap
            · isplitl [H8]; · iexact H8
              iexact H9
            · ipureintro; rw [h0]; exact slotsHold_put m c t.val _ _ _ _ (off6_at t) (off7_at t)
          · rw [← accAt_step m c t.val hz, ← hP]; iexact H10
        · iexact Hg
      isplitl [Ho]; · iexact Ho
      isplitl [H0]
      · iexists _; isplitr; swap
        · iexact H0
        · ipureintro; exact rfl
      isplitl [H1]
      · iexists _; isplitr; swap
        · iexact H1
        · ipureintro; exact rfl
      isplitl [H2]
      · iexists _; isplitr; swap
        · iexact H2
        · ipureintro; exact rfl
      isplitl [H3]
      · iexists _; isplitr; swap
        · iexact H3
        · ipureintro; exact (fun _ => by rw [hP]; rfl)
      isplitl [H4]
      · iexists _; isplitr; swap
        · iexact H4
        · ipureintro; exact (congrArg xCodes h0)
      isplitl [H5]
      · iexists _; isplitr; swap
        · iexact H5
        · ipureintro; exact (congrArg sRow h0)
      isplitl [H6]
      · iexists _; isplitr; swap
        · iexact H6
        · ipureintro; exact ⟨fun h => absurd h hz, fun _ h => absurd hl h, fun _ => by rw [off3_at t hz, hP, accAt_step m c t.val hz, hl]; rfl⟩
      iexists _; isplitr; swap
      · iexact H7
      · ipureintro; exact ⟨fun h => absurd hl h, fun _ => by rw [hP, accAt_step m c t.val hz, hl]; rfl⟩
    · iintro ⟨⟨⟨⟨%x8, %x9, %hs, H8, H9⟩, H10⟩, Hg⟩, Ho, H0, H1, H2, H3, H4, H5, H6, H7⟩
      have hP := prodT_of_slots m c t hz x8 x9 hs (k0_off5_inb _ ((hcond2 t).mpr hz)) (k0_off4_inb _ ((hcond2 t).mpr hz))
      rw [← h1, ← h2] at hP
      iapply (soundB c (grid0.coords t) _ _ _ _ _ _ _ _ _ _ _ _ _ _ _ _ _ _ _ _ _ _ (fun h => hz ((hcond1 t).mp h)) ((hcond2 t).mpr hz) (fun h => hl ((hcond3 t).mp h)) x0 x1 x2 x3 x4 x5 x6 x7 x8 x9 (accAt m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [H8 H9 H10 Hg]
      · isplitl [H8 H9 H10]
        · isplitl [H8 H9]
          · iexists _, _; isplitr; swap
            · isplitl [H8]; · iexact H8
              iexact H9
            · ipureintro; rw [h0]; exact slotsHold_put m c t.val _ _ _ _ (off6_at t) (off7_at t)
          · rw [← accAt_step m c t.val hz, ← hP]; iexact H10
        · iexact Hg
      isplitl [Ho]; · iexact Ho
      isplitl [H0]
      · iexists _; isplitr; swap
        · iexact H0
        · ipureintro; exact rfl
      isplitl [H1]
      · iexists _; isplitr; swap
        · iexact H1
        · ipureintro; exact rfl
      isplitl [H2]
      · iexists _; isplitr; swap
        · iexact H2
        · ipureintro; exact rfl
      isplitl [H3]
      · iexists _; isplitr; swap
        · iexact H3
        · ipureintro; exact (fun _ => by rw [hP]; rfl)
      isplitl [H4]
      · iexists _; isplitr; swap
        · iexact H4
        · ipureintro; exact (congrArg xCodes h0)
      isplitl [H5]
      · iexists _; isplitr; swap
        · iexact H5
        · ipureintro; exact (congrArg sRow h0)
      isplitl [H6]
      · iexists _; isplitr; swap
        · iexact H6
        · ipureintro; exact ⟨fun h => absurd h hz, fun _ _ => by rw [off3_at t hz]; rfl, fun h => absurd h hl⟩
      iexists _; isplitr; swap
      · iexact H7
      · ipureintro; exact ⟨fun _ => rfl, fun h => absurd h hl⟩

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : (rdat (F := F) m c).BodyObligation (defs₀ (F := F)) Variants.none () Set.univ := fun t Y hY => by
  rw [bigSep_W0, bigSep_W0, defs₀_row]
  exact triple_restated (sound_body m c t (Y 0) (Y 1) (Y 2) (Y 3) (Y 4) (Y 5) (Y 6) (Y 7) (finds0 m c t _ (hY 0)) (finds1 m c t _ (hY 1)) (finds2 m c t _ (hY 2))) rfl .rfl fun _ => .rfl

/-- What the launch hands the region is the invariant before the first point. -/
theorem hin (c : Dev nD) : Pipeline.ΦA spec0 c ⊢ (rdat m c).Φ 0 := by
  rw [show (rdat m c).Φ 0 = Pipeline.ΦA spec0 c from rfl]

/-- After the last point the scratch is forgotten. -/
theorem hout (c : Dev nD) : (rdat m c).Φ (Fin.last cfg0.N) ⊢ Pipeline.ΦA spec0 c := by
  rw [show (rdat m c).Φ (Fin.last cfg0.N) = PhiS m c (48 + 1) from (show PhiS m c (Fin.last cfg0.N).val = _ by rw [Fin.val_last, show cfg0.N = 49 from N_0]), PhiA_eq]
  unfold PhiS
  iintro ⟨⟨⟨%x8, %x9, %hs, H8, H9⟩, H10⟩, Hg⟩
  isplitl [H8 H9 H10]
  · isplitl [H8]
    · iexists _; iexact H8
    isplitl [H9]
    · iexists _; iexact H9
    iexists _; iexact H10
  iexact Hg

/-! ## The run and the frame -/

set_option backward.isDefEq.respectTransparency.types false in
/-- Every weakly fair execution ends, with every staged array at contents the relations allow, every other array as
    the region found it, and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := body_obligation m) (hshare := fun c w => by unfold Pipeline.RDat.share; split <;> rfl)
    (howed := fun _ _ => rfl) (V := V m) (hmain := hmain m Variants.none) (hA := rdat_A m) (hin := hin m) (hout := hout m)

theorem unchanged_of (r : PUnit × MemSt nD τ sig (Elt F)) (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
      (Pipeline.RDat.FramePost.arr_in h c 1 rfl).trans ((rdat_A m c 1).trans (V_main_arg1 m c)),
      ((h c).2 main_arg2 (Pipeline.mem_restRefs_of main_arg2 (by decide) (by decide))).trans (V_main_arg2 m c)⟩

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨unchanged_of m r h.1, h.2⟩) (run_main_quiescent m ρ)

end Cert.Kernel.Hand

end
-- ==== Proof.Ideal.Setup.lean ====
/-
  Closed forms of the one offset of the main body that the generated modules leave out.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The entry of the running-exponent array that a middle point writes: the tile of the point before. -/
theorem k0_off3_eq : ∀ i : grid0.Coords, k0_off3 i = ![((i 0).val + 4294967295) % 4294967296] := by decide +kernel

instance closedOff_k0_off3 (i : grid0.Coords) : ClosedOff (k0_off3 i) := ⟨![((i 0).val + 4294967295) % 4294967296], k0_off3_eq i⟩

end Cert.KernelIdeal.Hand

end
-- ==== Proof.Ideal.Values.lean ====
/-
  What one grid point of the main body computes, in its own operations.
-/
module

public import proofs.«01_k».proof.Proof.Ideal.Setup
public import Idealize.ShloMosaic.Lib.VecWindow
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ### One block of x -/

/-- The largest magnitude of each row of a block of x, over 448, as the body computes it: sixteen groups of lanes against each other, then along
    the lanes. -/
def xQ (x : Vec F S512x2048 .bf16) : FVec F S512x1 .f32 :=
  k0_pay12 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024))
    (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)

/-- One step of the search for the exponent field of `v`: the bit `b` is taken if the power of two it gives is at most `v`. -/
def fstep (v : F .f32) (f b : BitVec 32) : BitVec 32 :=
  Scalar.select (Scalar.cmpf .oge v (Scalar.ofBits .f32 (Scalar.shli (Scalar.addi f b) 23#32))) (Scalar.addi f b) f

/-- The field `f` found for `v`, with 255 from 2 ^ 120 on. -/
def clampF (v : F .f32) (f : BitVec 32) : BitVec 32 :=
  Scalar.select (Scalar.cmpf .olt v (Scalar.ofBits .f32 0x7B800000#32)) f 255#32

/-- The field with 126 (the scale one) for 0 and 255. -/
def plainF (f : BitVec 32) : BitVec 32 :=
  Scalar.select (Scalar.ori (Scalar.cmpi .eq f 0#32) (Scalar.cmpi .eq f 255#32)) 126#32 f

/-- The exponent field of `v`, found bit by bit, 255 from 2 ^ 120 on. -/
def fieldS (v : F .f32) : BitVec 32 :=
  clampF v (fstep v (fstep v (fstep v (fstep v (fstep v (fstep v (fstep v (fstep v 0#32 128#32) 64#32) 32#32) 16#32) 8#32) 4#32) 2#32) 1#32)

/-- The field the scale is made of. -/
def plainS (v : F .f32) : BitVec 32 := plainF (fieldS v)

/-- The scale of the quotient `v` = maximum / 448. -/
def scaleS (v : F .f32) : F .f32 := Scalar.ofBits .f32 (Scalar.shli (Scalar.addi (plainS v) 1#32) 23#32)

/-- The bits of the scale's inverse. -/
def invBitsS (v : F .f32) : BitVec 32 := Scalar.shli (Scalar.subi 253#32 (plainS v)) 23#32

/-- The scale's inverse. -/
def invS (v : F .f32) : F .f32 := Scalar.ofBits .f32 (invBitsS v)

/-! The same on the lanes of a vector, by the vector unit's operations. -/

/-- One step of the search on a lane. -/
def fstepV (v : F .f32) (f b : BitVec 32) : BitVec 32 :=
  Scalar.select (FloatOps.cmpf .oge v (FloatOps.ofBits .f32 (IntOp.shli .vector (IntOp.addi f b) 23#32))) (IntOp.addi f b) f

/-- The field found on a lane, with 255 from 2 ^ 120 on. -/
def clampV (v : F .f32) (f : BitVec 32) : BitVec 32 :=
  Scalar.select (FloatOps.cmpf .olt v (FloatOps.ofBits .f32 0x7B800000#32)) f 255#32

/-- The field the scale of a lane is made of. -/
def plainV (v : F .f32) : BitVec 32 :=
  plainF (clampV v (fstepV v (fstepV v (fstepV v (fstepV v (fstepV v (fstepV v (fstepV v (fstepV v 0#32 128#32) 64#32) 32#32) 16#32) 8#32) 4#32) 2#32) 1#32))

/-- The scale of a lane. -/
def scaleV (v : F .f32) : F .f32 := FloatOps.ofBits .f32 (IntOp.shli .vector (IntOp.addi (plainV v) 1#32) 23#32)

/-- The inverse scale of a lane. -/
def invV (v : F .f32) : F .f32 := FloatOps.ofBits .f32 (IntOp.shli .vector (IntOp.subi 253#32 (plainV v)) 23#32)

/-- The scale of each row of a block of x. -/
def xScale (x : Vec F S512x2048 .bf16) : FVec F S512x1 .f32 := fun y => scaleV (xQ x y)

/-- A block of x times the inverse scale of its row. -/
def xMul (x : Vec F S512x2048 .bf16) : FVec F S512x2048 .bf16 :=
  mulf (shapeCast S512x2048 x shapeCasts_S512x2048_S512x2048)
    (broadcastTo S512x2048 (truncf .bf16 (fun y => invV (xQ x y)) bitsLt_bf16_f32) broadcasts_S512x1_S512x2048)

/-- The codes of a block of x. -/
def xCodes (x : Vec F S512x2048 .bf16) : Vec F S512x2048 .fp8e4m3 := k0_pay1 (xMul x)

/-- The codes as the scratch slot holds them. -/
def xSlot (x : Vec F S512x2048 .bf16) : Vec F S1x512x2048 .fp8e4m3 := k0_pay2 (xMul x)

/-- The row scales along the lanes of a scratch slot. -/
def sSlot (x : Vec F S512x2048 .bf16) : Vec F S1x512x128 .f32 := k0_pay4 (xScale x)

/-- The row scales as the result holds them. -/
def sRow (x : Vec F S512x2048 .bf16) : Vec F S1x1x512 .f32 := k0_pay5 (xScale x)

/-! ### One block of y -/

/-- Column tile `j` of the weights. -/
def wCol (w : Vec F S2048x5632 .fp8e4m3) (j : ℕ) : Vec F S2048x512 .fp8e4m3 :=
  fun y => w (fun a => match a with
    | ⟨0, _⟩ => ⟨(y 0).val, (y 0).isLt⟩
    | ⟨1, _⟩ => ⟨(512 * j + (y 1).val) % 5632, Nat.mod_lt _ (by decide)⟩)

/-- Column tile `j` of the weights' scales. -/
def sCol (s : Vec F S1x5632 .f32) (j : ℕ) : Vec F S1x512 .f32 :=
  fun y => s (fun a => match a with
    | ⟨0, _⟩ => ⟨(y 0).val, (y 0).isLt⟩
    | ⟨1, _⟩ => ⟨(512 * j + (y 1).val) % 5632, Nat.mod_lt _ (by decide)⟩)

/-- One column tile of a block of y: the product of the codes times both scales. -/
def yTile (c : Vec F S1x512x2048 .fp8e4m3) (s : Vec F S1x512x128 .f32) (w : Vec F S2048x512 .fp8e4m3) (ws : Vec F S1x512 .f32) : FVec F S512x512 .f32 :=
  k0_pay32 (k0_pay28 s) c w ws

/-- The codes of one column tile of y at the inverse scale `inv`. -/
def yCodes (inv : F .f32) (y : FVec F S512x512 .f32) : Vec F S512x512 .fp8e4m3 := k0_pay35 (minimumf (broadcast S512x512 (Scalar.ofBits .f32 0x43E00000#32))
  (maximumf (broadcast S512x512 (Scalar.ofBits .f32 0xC3E00000#32)) (mulf y (broadcast S512x512 inv))))

/-- The running maximum, eight rows of it, with one more column tile of y. -/
def accStep (a : FVec F S8x512 .f32) (y : FVec F S512x512 .f32) : FVec F S8x512 .f32 :=
  maximumf a (multiReduction .maximumf [0] S8x512 (shapeCast S64x8x512 (absf y) shapeCasts_S512x512_S64x8x512) 0xFF800000#32 reduces_S64x8x512_S8x512 (.inl rfl) rfl)

/-- The running maximum after the first `n` column tiles of a block. -/
def accN (a : Vec F S8x512 .f32) (Y : ℕ → FVec F S512x512 .f32) : ℕ → Vec F S8x512 .f32
  | 0 => a
  | n + 1 => accStep (accN a Y n) (Y n)

/-- The column tiles of a block of y. -/
def yTiles (c : Vec F S1x512x2048 .fp8e4m3) (s : Vec F S1x512x128 .f32) (w : Vec F S2048x5632 .fp8e4m3) (ws : Vec F S1x5632 .f32) (j : ℕ) : FVec F S512x512 .f32 :=
  yTile c s (wCol w j) (sCol ws j)

/-- The maximum the running maximum stands for. -/
def amaxS (a : Vec F S8x512 .f32) : F .f32 := k0_pay79 a

/-- That maximum over 448. -/
def amaxQ (a : Vec F S8x512 .f32) : F .f32 := k0_pay80 a

/-- A whole block of codes of y, from its column tiles. -/
def yBlock (inv : F .f32) (Y : ℕ → FVec F S512x512 .f32) : Vec F S512x5632 .fp8e4m3 :=
  fun y => yCodes inv (Y ((y 1).val / 512)) (fun a => match a with
    | ⟨0, _⟩ => ⟨(y 0).val, (y 0).isLt⟩
    | ⟨1, _⟩ => ⟨(y 1).val % 512, Nat.mod_lt _ (by decide)⟩)

/-! ### Loads -/

/-- A load of a whole buffer's rectangle is a window of what the buffer holds. -/
theorem ld_window {sp : Space} {s : Shape} {e : EltTy} {m : Memref sig .tc sp s e} (h : m.IsWhole) (X : Vec F s e) (off size : Fin s.rank → ℕ)
    (inb : ∀ a, off a + size a ≤ s.size a) :
    View.readAt (Elt F) m.view (Rect.unit (s := s) off size inb).toLoadRect (h.unread X) = VecWindow.window X off size inb := by
  rw [View.readAt_unit m.view _ inb rfl inb, h.read_unread]

/-- The window of a buffer's own sizes at the origin is the buffer. -/
theorem window_full {α : Type} {s : Shape} (X : s.Idx → α) (off : Fin s.rank → ℕ) (inb : ∀ a, off a + s.size a ≤ s.size a) :
    VecWindow.window X off s.size inb = X := by
  funext y
  exact congrArg X (Rect.emb_unit_full inb y)

theorem wCol_eq (w : Vec F S2048x5632 .fp8e4m3) (j o : ℕ) (hj : j < 11) (ho : o = 512 * j) (inb : ∀ a, ![0, o] a + S2048x512.size a ≤ S2048x5632.size a) :
    VecWindow.window (s := S2048x5632) w ![0, o] S2048x512.size inb = wCol w j := by
  subst ho; funext y
  refine congrArg w (funext fun a => Fin.ext ?_)
  have h1 : (y 1).val < 512 := (y 1).isLt
  match a with
  | ⟨0, _⟩ => exact (show 0 + 1 * (y 0).val = (y 0).val by omega)
  | ⟨1, _⟩ => exact (show 512 * j + 1 * (y 1).val = (512 * j + (y 1).val) % 5632 by omega)

theorem sCol_eq (w : Vec F S1x5632 .f32) (j o : ℕ) (hj : j < 11) (ho : o = 512 * j) (inb : ∀ a, ![0, o] a + S1x512.size a ≤ S1x5632.size a) :
    VecWindow.window (s := S1x5632) w ![0, o] S1x512.size inb = sCol w j := by
  subst ho; funext y
  refine congrArg w (funext fun a => Fin.ext ?_)
  have h1 : (y 1).val < 512 := (y 1).isLt
  match a with
  | ⟨0, _⟩ => exact (show 0 + 1 * (y 0).val = (y 0).val by omega)
  | ⟨1, _⟩ => exact (show 512 * j + 1 * (y 1).val = (512 * j + (y 1).val) % 5632 by omega)

/-! ### Folding what the body spells out -/

theorem fold0 (v : F .f32) : Scalar.select (Scalar.cmpf .oge v (Scalar.ofBits .f32 1073741824#32)) 128#32 0#32 = fstep v 0#32 128#32 := rfl

theorem fold1 (v : F .f32) (f b : BitVec 32) :
    Scalar.select (Scalar.cmpf .oge v (Scalar.ofBits .f32 (Scalar.shli (Scalar.addi f b) 23#32))) (Scalar.addi f b) f = fstep v f b := rfl

theorem fold2 (v : F .f32) (f : BitVec 32) : Scalar.select (Scalar.cmpf .olt v (Scalar.ofBits .f32 0x7B800000#32)) f 255#32 = clampF v f := rfl

theorem fold3 (f : BitVec 32) : Scalar.select (Scalar.ori (Scalar.cmpi .eq f 0#32) (Scalar.cmpi .eq f 255#32)) 126#32 f = plainF f := rfl

theorem vfold0 (v : FVec F S512x1 .f32) : select (cmpf .oge v (broadcast S512x1 (Scalar.ofBits .f32 1073741824#32))) (broadcast S512x1 128#32) (broadcast S512x1 0#32)
    = fun y => fstepV (v y) 0#32 128#32 := by
  rfl

theorem vfold1 (v : FVec F S512x1 .f32) (f : IVec S512x1 32) (b : BitVec 32) :
    select (cmpf .oge v (bitcastToFloat .f32 (shli (w := 32) (addi f (broadcast S512x1 b)) (broadcast S512x1 23#32)))) (addi f (broadcast S512x1 b)) f
      = fun y => fstepV (v y) (f y) b := rfl

theorem vfold2 (v : FVec F S512x1 .f32) (f : IVec S512x1 32) :
    select (cmpf .olt v (broadcast S512x1 (Scalar.ofBits .f32 0x7B800000#32))) f (broadcast S512x1 255#32) = fun y => clampV (v y) (f y) := rfl

theorem vfold3 (f : IVec S512x1 32) :
    select (ori (cmpi .eq f (broadcast S512x1 0#32)) (cmpi .eq f (broadcast S512x1 255#32))) (broadcast S512x1 126#32) f = fun y => plainF (f y) := rfl

theorem xQ_A (x : Vec F S512x2048 .bf16) :
    k0_pay12 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920) = xQ x := rfl

theorem xQ_B (x : Vec F S512x2048 .bf16) :
    k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920) = xQ x := rfl

/-- The field search over a column of quotients, from the first bit on. -/
theorem field_A (q : FVec F S512x1 .f32) :
    k0_pay15 q (k0_pay14 q (fun y => fstepV (q y) 0#32 128#32) 64#32) 2#32 = fun y => plainV (q y) := by
  simp only [k0_pay15, k0_pay14, vfold1, vfold2, vfold3, plainV]

theorem xF0_A (x : Vec F S512x2048 .bf16) :
    k0_pay13 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920) = fun y => fstepV (xQ x y) 0#32 128#32 := by
  simp only [k0_pay13, vfold0]
  rfl

theorem xF_B (x : Vec F S512x2048 .bf16) :
    k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920) = fun y => fstepV (xQ x y) (fstepV (xQ x y) (fstepV (xQ x y) 0#32 128#32) 64#32) 32#32 := by
  simp only [k0_pay68, vfold0, vfold1]
  rfl

theorem xC_B (x : Vec F S512x2048 .bf16) :
    k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920) = cmpf .oge (xQ x) (bitcastToFloat .f32 (shli (w := 32) (addi (fun y => fstepV (xQ x y) (fstepV (xQ x y) (fstepV (xQ x y) 0#32 128#32) 64#32) 32#32) (broadcast S512x1 16#32)) (broadcast S512x1 23#32))) := by
  simp only [k0_pay69]
  rw [xF_B, xQ_B]

theorem field_B1 (q : FVec F S512x1 .f32) (f : IVec S512x1 32) :
    k0_pay71 q f (cmpf .oge q (bitcastToFloat .f32 (shli (w := 32) (addi f (broadcast S512x1 16#32)) (broadcast S512x1 23#32)))) k0_pay70
      = fun y => clampV (q y) (fstepV (q y) (fstepV (q y) (fstepV (q y) (fstepV (q y) (fstepV (q y) (f y) 16#32) 8#32) 4#32) 2#32) 1#32) := by
  simp only [k0_pay71, k0_pay70, vfold1, vfold2]

theorem field_B2 (q : FVec F S512x1 .f32) (f : IVec S512x1 32) :
    k0_pay72 q f (cmpf .oge q (bitcastToFloat .f32 (shli (w := 32) (addi f (broadcast S512x1 16#32)) (broadcast S512x1 23#32)))) k0_pay70
      = cmpi .eq (fun y => clampV (q y) (fstepV (q y) (fstepV (q y) (fstepV (q y) (fstepV (q y) (fstepV (q y) (f y) 16#32) 8#32) 4#32) 2#32) 1#32)) (broadcast S512x1 0#32) := by
  simp only [k0_pay72, field_B1]

theorem field_B3 (f : IVec S512x1 32) : k0_pay73 f (cmpi .eq f (broadcast S512x1 0#32)) 255#32 = fun y => plainF (f y) := by
  simp only [k0_pay73, vfold3]

theorem xMul_A (x : Vec F S512x2048 .bf16) :
    k0_pay17 (k0_pay12 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay14 (k0_pay12 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay13 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) 64#32) 2#32 x = xMul x := by
  rw [xF0_A, xQ_A]
  simp only [k0_pay17, field_A]
  rfl

theorem xScale_A (x : Vec F S512x2048 .bf16) :
    k0_pay16 (k0_pay12 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay14 (k0_pay12 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay13 (k0_pay10 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896)) (k0_pay11 (VecWindow.window (s := S512x2048) (α := Elt F .bf16) x ![0, 1024] ![512, 128] inb_S512x2048_S512x128_0_1024)) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) 64#32) 2#32 = xScale x := by
  rw [xF0_A, xQ_A]
  simp only [k0_pay16, field_A]
  rfl

theorem xCodes_B (x : Vec F S512x2048 .bf16) :
    k0_pay74 (k0_pay71 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) (k0_pay72 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) 255#32 x = xCodes x := by
  rw [xF_B, xC_B, xQ_B]
  simp only [k0_pay74, k0_pay74, k0_pay76, field_B1, field_B2, field_B3]
  rfl

theorem xSlot_B (x : Vec F S512x2048 .bf16) :
    k0_pay75 (k0_pay71 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) (k0_pay72 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) 255#32 x = xSlot x := by
  rw [xF_B, xC_B, xQ_B]
  simp only [k0_pay75, k0_pay74, k0_pay76, field_B1, field_B2, field_B3]
  rfl

theorem sSlot_B (x : Vec F S512x2048 .bf16) :
    k0_pay77 (k0_pay71 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) (k0_pay72 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) 255#32 = sSlot x := by
  rw [xF_B, xC_B, xQ_B]
  simp only [k0_pay77, k0_pay74, k0_pay76, field_B1, field_B2, field_B3]
  rfl

theorem sRow_B (x : Vec F S512x2048 .bf16) :
    k0_pay78 (k0_pay71 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) (k0_pay72 (k0_pay67 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay68 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) (k0_pay69 (k0_pay66 (k0_pay65 (VecWindow.window (s := S512x2048) (α := Elt F .bf16) x ![0, 0] ![512, 128] inb_S512x2048_S512x128_0_0) (VecWindow.window (s := S512x2048) (α := Elt F .bf16) x ![0, 128] ![512, 128] inb_S512x2048_S512x128_0_128) (VecWindow.window (s := S512x2048) (α := Elt F .bf16) x ![0, 256] ![512, 128] inb_S512x2048_S512x128_0_256) (VecWindow.window (s := S512x2048) (α := Elt F .bf16) x ![0, 384] ![512, 128] inb_S512x2048_S512x128_0_384)) (VecWindow.window (s := S512x2048) (α := Elt F .bf16) x ![0, 512] ![512, 128] inb_S512x2048_S512x128_0_512) (VecWindow.window (s := S512x2048) (α := Elt F .bf16) x ![0, 640] ![512, 128] inb_S512x2048_S512x128_0_640) (VecWindow.window (s := S512x2048) (α := Elt F .bf16) x ![0, 768] ![512, 128] inb_S512x2048_S512x128_0_768) (VecWindow.window (s := S512x2048) (α := Elt F .bf16) x ![0, 896] ![512, 128] inb_S512x2048_S512x128_0_896) (VecWindow.window (s := S512x2048) (α := Elt F .bf16) x ![0, 1024] ![512, 128] inb_S512x2048_S512x128_0_1024) (VecWindow.window (s := S512x2048) (α := Elt F .bf16) x ![0, 1152] ![512, 128] inb_S512x2048_S512x128_0_1152) (VecWindow.window (s := S512x2048) (α := Elt F .bf16) x ![0, 1280] ![512, 128] inb_S512x2048_S512x128_0_1280) (VecWindow.window (s := S512x2048) (α := Elt F .bf16) x ![0, 1408] ![512, 128] inb_S512x2048_S512x128_0_1408) (VecWindow.window (s := S512x2048) (α := Elt F .bf16) x ![0, 1536] ![512, 128] inb_S512x2048_S512x128_0_1536) (VecWindow.window (s := S512x2048) (α := Elt F .bf16) x ![0, 1664] ![512, 128] inb_S512x2048_S512x128_0_1664)) (VecWindow.window (s := S512x2048) (α := Elt F .bf16) x ![0, 1792] ![512, 128] inb_S512x2048_S512x128_0_1792) (VecWindow.window (s := S512x2048) (α := Elt F .bf16) x ![0, 1920] ![512, 128] inb_S512x2048_S512x128_0_1920)) k0_pay70) 255#32 = sRow x := by
  rw [xF_B, xC_B, xQ_B]
  simp only [k0_pay78, k0_pay74, k0_pay76, field_B1, field_B2, field_B3]
  rfl

theorem pay18_eq (a : Vec F S8x512 .f32) : k0_pay18 a = amaxQ a := rfl

theorem pay80_eq (a : Vec F S8x512 .f32) : k0_pay80 a = amaxQ a := rfl

theorem pay79_eq (a : Vec F S8x512 .f32) : k0_pay79 a = amaxS a := rfl

/-- What the body spells out for the running maximum over a block's eleven column tiles. -/
theorem acc_eq (a : Vec F S8x512 .f32) (C : Vec F S1x512x2048 .fp8e4m3) (S : Vec F S1x512x128 .f32) (w : Vec F S2048x5632 .fp8e4m3) (ws : Vec F S1x5632 .f32) :
    k0_pay64 (k0_pay28 S) (k0_pay59 (k0_pay28 S) (k0_pay53 (k0_pay28 S) (k0_pay49 (k0_pay28 S) (k0_pay43 (k0_pay28 S) (k0_pay37 (k0_pay28 S)
      (k0_pay33 a (k0_pay28 S) (k0_pay29 C) (wCol w 0) (sCol ws 0) C (wCol w 1) (sCol ws 1)) C (wCol w 2) (sCol ws 2)) (k0_pay40 (k0_pay28 S) C (wCol w 3) (sCol ws 3)) C (wCol w 4) (sCol ws 4))
      (k0_pay45 C) (wCol w 5) (sCol ws 5) C (wCol w 6) (sCol ws 6)) C (wCol w 7) (sCol ws 7)) (k0_pay56 (k0_pay28 S) C (wCol w 8) (sCol ws 8)) C (wCol w 9) (sCol ws 9)) (k0_pay61 C) (wCol w 10) (sCol ws 10)
      = accN a (yTiles C S w ws) 11 := by
  simp only [k0_pay28, k0_pay29, k0_pay30, k0_pay32, k0_pay33, k0_pay37, k0_pay39, k0_pay36, k0_pay40, k0_pay42, k0_pay43, k0_pay45, k0_pay46, k0_pay48, k0_pay49, k0_pay52, k0_pay53, k0_pay55, k0_pay56, k0_pay58, k0_pay59, k0_pay61, k0_pay62, k0_pay64, shapeCast_self, accN, accStep, yTiles, yTile]

/-! The column tiles of the two right operands, as the body loads them. -/

section

variable (x1 : Vec F S2048x5632 .fp8e4m3) (x2 : Vec F S1x5632 .f32)

theorem w1_0 (inb) : VecWindow.window (s := S2048x5632) x1 ![0, 0] ![2048, 512] inb = wCol x1 0 := wCol_eq x1 0 0 (by decide) (by decide) inb
theorem w2_0 (inb) : VecWindow.window (s := S1x5632) x2 ![0, 0] ![1, 512] inb = sCol x2 0 := sCol_eq x2 0 0 (by decide) (by decide) inb
theorem w1_1 (inb) : VecWindow.window (s := S2048x5632) x1 ![0, 512] ![2048, 512] inb = wCol x1 1 := wCol_eq x1 1 512 (by decide) (by decide) inb
theorem w2_1 (inb) : VecWindow.window (s := S1x5632) x2 ![0, 512] ![1, 512] inb = sCol x2 1 := sCol_eq x2 1 512 (by decide) (by decide) inb
theorem w1_2 (inb) : VecWindow.window (s := S2048x5632) x1 ![0, 1024] ![2048, 512] inb = wCol x1 2 := wCol_eq x1 2 1024 (by decide) (by decide) inb
theorem w2_2 (inb) : VecWindow.window (s := S1x5632) x2 ![0, 1024] ![1, 512] inb = sCol x2 2 := sCol_eq x2 2 1024 (by decide) (by decide) inb
theorem w1_3 (inb) : VecWindow.window (s := S2048x5632) x1 ![0, 1536] ![2048, 512] inb = wCol x1 3 := wCol_eq x1 3 1536 (by decide) (by decide) inb
theorem w2_3 (inb) : VecWindow.window (s := S1x5632) x2 ![0, 1536] ![1, 512] inb = sCol x2 3 := sCol_eq x2 3 1536 (by decide) (by decide) inb
theorem w1_4 (inb) : VecWindow.window (s := S2048x5632) x1 ![0, 2048] ![2048, 512] inb = wCol x1 4 := wCol_eq x1 4 2048 (by decide) (by decide) inb
theorem w2_4 (inb) : VecWindow.window (s := S1x5632) x2 ![0, 2048] ![1, 512] inb = sCol x2 4 := sCol_eq x2 4 2048 (by decide) (by decide) inb
theorem w1_5 (inb) : VecWindow.window (s := S2048x5632) x1 ![0, 2560] ![2048, 512] inb = wCol x1 5 := wCol_eq x1 5 2560 (by decide) (by decide) inb
theorem w2_5 (inb) : VecWindow.window (s := S1x5632) x2 ![0, 2560] ![1, 512] inb = sCol x2 5 := sCol_eq x2 5 2560 (by decide) (by decide) inb
theorem w1_6 (inb) : VecWindow.window (s := S2048x5632) x1 ![0, 3072] ![2048, 512] inb = wCol x1 6 := wCol_eq x1 6 3072 (by decide) (by decide) inb
theorem w2_6 (inb) : VecWindow.window (s := S1x5632) x2 ![0, 3072] ![1, 512] inb = sCol x2 6 := sCol_eq x2 6 3072 (by decide) (by decide) inb
theorem w1_7 (inb) : VecWindow.window (s := S2048x5632) x1 ![0, 3584] ![2048, 512] inb = wCol x1 7 := wCol_eq x1 7 3584 (by decide) (by decide) inb
theorem w2_7 (inb) : VecWindow.window (s := S1x5632) x2 ![0, 3584] ![1, 512] inb = sCol x2 7 := sCol_eq x2 7 3584 (by decide) (by decide) inb
theorem w1_8 (inb) : VecWindow.window (s := S2048x5632) x1 ![0, 4096] ![2048, 512] inb = wCol x1 8 := wCol_eq x1 8 4096 (by decide) (by decide) inb
theorem w2_8 (inb) : VecWindow.window (s := S1x5632) x2 ![0, 4096] ![1, 512] inb = sCol x2 8 := sCol_eq x2 8 4096 (by decide) (by decide) inb
theorem w1_9 (inb) : VecWindow.window (s := S2048x5632) x1 ![0, 4608] ![2048, 512] inb = wCol x1 9 := wCol_eq x1 9 4608 (by decide) (by decide) inb
theorem w2_9 (inb) : VecWindow.window (s := S1x5632) x2 ![0, 4608] ![1, 512] inb = sCol x2 9 := sCol_eq x2 9 4608 (by decide) (by decide) inb
theorem w1_10 (inb) : VecWindow.window (s := S2048x5632) x1 ![0, 5120] ![2048, 512] inb = wCol x1 10 := wCol_eq x1 10 5120 (by decide) (by decide) inb
theorem w2_10 (inb) : VecWindow.window (s := S1x5632) x2 ![0, 5120] ![1, 512] inb = sCol x2 10 := sCol_eq x2 10 5120 (by decide) (by decide) inb

end

end Cert.KernelIdeal.Hand

end
-- ==== Proof.Ideal.RunA.lean ====
/-
  The main body at the first grid point: it clears the running maximum and quantises the first tile of x.
-/
module

public import proofs.«01_k».proof.Proof.Ideal.Setup

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The main body at the first grid point: it clears the running maximum and quantises the first tile of x. What each buffer the body writes ends with is given as the list of its stores, last first, over what the buffer held. -/
noncomputable def runA (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : k0_cond1 i = 1#1) (hc1 : ¬ k0_cond2 i = 1#1) (hc2 : ¬ k0_cond3 i = 1#1)
    (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    Σ' (L4 : List (View.Piece (Elt F) S512x2048 .fp8e4m3)), Σ' (L5 : List (View.Piece (Elt F) S1x1x512 .f32)), Σ' (L8 : List (View.Piece (Elt F) S2x512x2048 .fp8e4m3)), Σ' (L9 : List (View.Piece (Elt F) S2x512x128 .f32)), { L10 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ (iprop(owns (c : Thread nD τ) arg1 fullShare x0 ∗ owns (c : Thread nD τ) arg2 fullShare x1 ∗ owns (c : Thread nD τ) arg3 fullShare x2 ∗ owns (c : Thread nD τ) arg4 fullShare x3 ∗ (arg5.view.loc (c : Thread nD τ) ↦[arg5.view.set]{fullShare} arg5.view.writes (Elt F) (harg5.unread x4) L4) ∗ (arg6.view.loc (c : Thread nD τ) ↦[arg6.view.set]{fullShare} arg6.view.writes (Elt F) (harg6.unread x5) L5) ∗ owns (c : Thread nD τ) arg7 fullShare x6 ∗ owns (c : Thread nD τ) arg8 fullShare x7 ∗ (arg9.view.loc (c : Thread nD τ) ↦[arg9.view.set]{fullShare} arg9.view.writes (Elt F) (harg9.unread x8) L8) ∗ (arg10.view.loc (c : Thread nD τ) ↦[arg10.view.set]{fullShare} arg10.view.writes (Elt F) (harg10.unread x9) L9) ∗ (arg11.view.loc (c : Thread nD τ) ↦[arg11.view.set]{fullShare} arg11.view.writes (Elt F) (harg11.unread x10) L10)) -∗ K ⟨⟩))
          ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_main_eq_skeleton]; unfold cc0_main_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexact H4
    isplitl [H5]; · iexact H5
    isplitl [H6]
    · iexists _; isplitr; · ipureintro; exact harg7.read_unread _
      iexact H6
    isplitl [H7]
    · iexists _; isplitr; · ipureintro; exact harg8.read_unread _
      iexact H7
    isplitl [H8]; · iexact H8
    isplitl [H9]; · iexact H9
    iexact H10

end Cert.KernelIdeal.Hand

end
-- ==== Proof.Ideal.PiecesA.lean ====
/-
  What the stores of a grid point leave, in the terms of `Values`.
-/
module

public import proofs.«01_k».proof.Proof.Ideal.Values
public import proofs.«01_k».proof.Proof.Ideal.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem runA_L4 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : k0_cond1 i = 1#1) (hc1 : ¬ k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runA c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).1 = [⟨Rect.unit ![0, 0] S512x2048.size inb_S512x2048_S512x2048_0_0, xCodes x0⟩] := by
  have w0 : ∀ inb, VecWindow.window (s := S512x2048) x0 ![0, 0] ![512, 2048] inb = x0 := fun _ => window_full x0 _ _
  simp only [runA, runA.sl.r, runA.sl.r_1, runA.sl.r_2, runA.sl.r_3, runA.sl.r_4, runA.sl.r_5, runA.sl.r_6, ld_window, w0]
  rw [xMul_A x0]
  first | done | rfl

theorem runA_L5 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : k0_cond1 i = 1#1) (hc1 : ¬ k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runA c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.1 = [⟨Rect.unit ![0, 0, 0] S1x1x512.size inb_S1x1x512_S1x1x512_0_0_0, sRow x0⟩] := by
  have w0 : ∀ inb, VecWindow.window (s := S512x2048) x0 ![0, 0] ![512, 2048] inb = x0 := fun _ => window_full x0 _ _
  simp only [runA, runA.sl.r, runA.sl.r_1, runA.sl.r_2, runA.sl.r_3, runA.sl.r_4, runA.sl.r_5, runA.sl.r_6, ld_window, w0]
  rw [xScale_A x0]
  first | done | rfl

theorem runA_L8 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : k0_cond1 i = 1#1) (hc1 : ¬ k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runA c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.1 = [⟨Rect.unit (s := S2x512x2048) (k0_off1 i) S1x512x2048.size (k0_off1_inb i hc0), xSlot x0⟩] := by
  have w0 : ∀ inb, VecWindow.window (s := S512x2048) x0 ![0, 0] ![512, 2048] inb = x0 := fun _ => window_full x0 _ _
  simp only [runA, runA.sl.r, runA.sl.r_1, runA.sl.r_2, runA.sl.r_3, runA.sl.r_4, runA.sl.r_5, runA.sl.r_6, ld_window, w0]
  rw [xMul_A x0]
  first | done | rfl

theorem runA_L9 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : k0_cond1 i = 1#1) (hc1 : ¬ k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runA c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.1 = [⟨Rect.unit (s := S2x512x128) (k0_off2 i) S1x512x128.size (k0_off2_inb i hc0), sSlot x0⟩] := by
  have w0 : ∀ inb, VecWindow.window (s := S512x2048) x0 ![0, 0] ![512, 2048] inb = x0 := fun _ => window_full x0 _ _
  simp only [runA, runA.sl.r, runA.sl.r_1, runA.sl.r_2, runA.sl.r_3, runA.sl.r_4, runA.sl.r_5, runA.sl.r_6, ld_window, w0]
  rw [xScale_A x0]
  first | done | rfl

theorem runA_L10 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : k0_cond1 i = 1#1) (hc1 : ¬ k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runA c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.1 = [⟨Rect.unit ![0, 0] S8x512.size inb_S8x512_S8x512_0_0, k0_pay9⟩] := by
  have w0 : ∀ inb, VecWindow.window (s := S512x2048) x0 ![0, 0] ![512, 2048] inb = x0 := fun _ => window_full x0 _ _
  simp only [runA, runA.sl.r, runA.sl.r_1, runA.sl.r_2, runA.sl.r_3, runA.sl.r_4, runA.sl.r_5, runA.sl.r_6, ld_window, w0]

end Cert.KernelIdeal.Hand

end
-- ==== Proof.Ideal.RunB.lean ====
/-
  The main body at a middle grid point: it multiplies the tile of the point before and quantises its own.
-/
module

public import proofs.«01_k».proof.Proof.Ideal.Setup

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The main body at a middle grid point: it multiplies the tile of the point before and quantises its own. What each buffer the body writes ends with is given as the list of its stores, last first, over what the buffer held. -/
noncomputable def runB (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1)
    (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    Σ' (L3 : List (View.Piece (Elt F) S512x5632 .fp8e4m3)), Σ' (L4 : List (View.Piece (Elt F) S512x2048 .fp8e4m3)), Σ' (L5 : List (View.Piece (Elt F) S1x1x512 .f32)), Σ' (L6 : List (View.Piece (Elt F) S49 .i32)), Σ' (L8 : List (View.Piece (Elt F) S2x512x2048 .fp8e4m3)), Σ' (L9 : List (View.Piece (Elt F) S2x512x128 .f32)), { L10 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ (iprop(owns (c : Thread nD τ) arg1 fullShare x0 ∗ owns (c : Thread nD τ) arg2 fullShare x1 ∗ owns (c : Thread nD τ) arg3 fullShare x2 ∗ (arg4.view.loc (c : Thread nD τ) ↦[arg4.view.set]{fullShare} arg4.view.writes (Elt F) (harg4.unread x3) L3) ∗ (arg5.view.loc (c : Thread nD τ) ↦[arg5.view.set]{fullShare} arg5.view.writes (Elt F) (harg5.unread x4) L4) ∗ (arg6.view.loc (c : Thread nD τ) ↦[arg6.view.set]{fullShare} arg6.view.writes (Elt F) (harg6.unread x5) L5) ∗ (arg7.view.loc (c : Thread nD τ) ↦[arg7.view.set]{fullShare} arg7.view.writes (Elt F) (harg7.unread x6) L6) ∗ owns (c : Thread nD τ) arg8 fullShare x7 ∗ (arg9.view.loc (c : Thread nD τ) ↦[arg9.view.set]{fullShare} arg9.view.writes (Elt F) (harg9.unread x8) L8) ∗ (arg10.view.loc (c : Thread nD τ) ↦[arg10.view.set]{fullShare} arg10.view.writes (Elt F) (harg10.unread x9) L9) ∗ (arg11.view.loc (c : Thread nD τ) ↦[arg11.view.set]{fullShare} arg11.view.writes (Elt F) (harg11.unread x10) L10)) -∗ K ⟨⟩))
          ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, fun E K => ?run⟩
  case run =>
    simp only [cc0_main_eq_skeleton]; unfold cc0_main_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexact H3
    isplitl [H4]; · iexact H4
    isplitl [H5]; · iexact H5
    isplitl [H6]; · iexact H6
    isplitl [H7]
    · iexists _; isplitr; · ipureintro; exact harg8.read_unread _
      iexact H7
    isplitl [H8]; · iexact H8
    isplitl [H9]; · iexact H9
    iexact H10

end Cert.KernelIdeal.Hand

end
-- ==== Proof.Ideal.PiecesB.lean ====
/-
  What the stores of a grid point leave, in the terms of `Values`.
-/
module

public import proofs.«01_k».proof.Proof.Ideal.Values
public import proofs.«01_k».proof.Proof.Ideal.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem runB_L3 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).1 = [⟨Rect.unit ![0, 5120] S512x512.size inb_S512x5632_S512x512_0_5120, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 10)⟩, ⟨Rect.unit ![0, 4608] S512x512.size inb_S512x5632_S512x512_0_4608, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 9)⟩, ⟨Rect.unit ![0, 4096] S512x512.size inb_S512x5632_S512x512_0_4096, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 8)⟩, ⟨Rect.unit ![0, 3584] S512x512.size inb_S512x5632_S512x512_0_3584, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 7)⟩, ⟨Rect.unit ![0, 3072] S512x512.size inb_S512x5632_S512x512_0_3072, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 6)⟩, ⟨Rect.unit ![0, 2560] S512x512.size inb_S512x5632_S512x512_0_2560, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 5)⟩, ⟨Rect.unit ![0, 2048] S512x512.size inb_S512x5632_S512x512_0_2048, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 4)⟩, ⟨Rect.unit ![0, 1536] S512x512.size inb_S512x5632_S512x512_0_1536, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 3)⟩, ⟨Rect.unit ![0, 1024] S512x512.size inb_S512x5632_S512x512_0_1024, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 2)⟩, ⟨Rect.unit ![0, 512] S512x512.size inb_S512x5632_S512x512_0_512, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 1)⟩, ⟨Rect.unit ![0, 0] S512x512.size inb_S512x5632_S512x512_0_0, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 0)⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  simp only [runB, runB.sl.cst_21, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_3, runB.sl.r_4, runB.sl.r_5, runB.sl.r_6, runB.sl.r_7, runB.sl.r_8, runB.sl.r_9, runB.sl.v17, runB.sl.v18, runB.sl.v22, runB.sl.v23, runB.sl.v24, runB.sl.v28, runB.sl.v29, runB.sl.v30, runB.sl.v34, runB.sl.v35, runB.sl.v36, runB.sl.v40, runB.sl.v41, runB.sl.v42, runB.sl.v46, runB.sl.v47, runB.sl.v48, runB.sl.v52, runB.sl.v53, runB.sl.v54, runB.sl.v58, runB.sl.v59, runB.sl.v60, runB.sl.v61, runB.sl.v62, runB.sl.v63, runB.sl.v64, runB.sl.v65, runB.sl.v66, runB.sl.v67, runB.sl.v68, runB.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2]
  rfl

theorem runB_L4 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.1 = [⟨Rect.unit ![0, 0] S512x2048.size inb_S512x2048_S512x2048_0_0, xCodes x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  simp only [runB, runB.sl.cst_21, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_3, runB.sl.r_4, runB.sl.r_5, runB.sl.r_6, runB.sl.r_7, runB.sl.r_8, runB.sl.r_9, runB.sl.v17, runB.sl.v18, runB.sl.v22, runB.sl.v23, runB.sl.v24, runB.sl.v28, runB.sl.v29, runB.sl.v30, runB.sl.v34, runB.sl.v35, runB.sl.v36, runB.sl.v40, runB.sl.v41, runB.sl.v42, runB.sl.v46, runB.sl.v47, runB.sl.v48, runB.sl.v52, runB.sl.v53, runB.sl.v54, runB.sl.v58, runB.sl.v59, runB.sl.v60, runB.sl.v61, runB.sl.v62, runB.sl.v63, runB.sl.v64, runB.sl.v65, runB.sl.v66, runB.sl.v67, runB.sl.v68, runB.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2]
  rw [xCodes_B x0]
  first | done | rfl

theorem runB_L5 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.1 = [⟨Rect.unit ![0, 0, 0] S1x1x512.size inb_S1x1x512_S1x1x512_0_0_0, sRow x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  simp only [runB, runB.sl.cst_21, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_3, runB.sl.r_4, runB.sl.r_5, runB.sl.r_6, runB.sl.r_7, runB.sl.r_8, runB.sl.r_9, runB.sl.v17, runB.sl.v18, runB.sl.v22, runB.sl.v23, runB.sl.v24, runB.sl.v28, runB.sl.v29, runB.sl.v30, runB.sl.v34, runB.sl.v35, runB.sl.v36, runB.sl.v40, runB.sl.v41, runB.sl.v42, runB.sl.v46, runB.sl.v47, runB.sl.v48, runB.sl.v52, runB.sl.v53, runB.sl.v54, runB.sl.v58, runB.sl.v59, runB.sl.v60, runB.sl.v61, runB.sl.v62, runB.sl.v63, runB.sl.v64, runB.sl.v65, runB.sl.v66, runB.sl.v67, runB.sl.v68, runB.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2]
  rw [sRow_B x0]
  first | done | rfl

theorem runB_L6 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.1 = [⟨Rect.unit (s := S49) (k0_off3 i) S1.size (k0_off3_inb i hc1), fun _ => invBitsS (amaxQ x10)⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  simp only [runB, runB.sl.cst_21, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_3, runB.sl.r_4, runB.sl.r_5, runB.sl.r_6, runB.sl.r_7, runB.sl.r_8, runB.sl.r_9, runB.sl.v17, runB.sl.v18, runB.sl.v22, runB.sl.v23, runB.sl.v24, runB.sl.v28, runB.sl.v29, runB.sl.v30, runB.sl.v34, runB.sl.v35, runB.sl.v36, runB.sl.v40, runB.sl.v41, runB.sl.v42, runB.sl.v46, runB.sl.v47, runB.sl.v48, runB.sl.v52, runB.sl.v53, runB.sl.v54, runB.sl.v58, runB.sl.v59, runB.sl.v60, runB.sl.v61, runB.sl.v62, runB.sl.v63, runB.sl.v64, runB.sl.v65, runB.sl.v66, runB.sl.v67, runB.sl.v68, runB.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2]
  simp only [fold0, fold1, fold2, fold3, pay18_eq, pay80_eq, pay79_eq, k0_pay19, k0_pay20, k0_pay21, k0_pay22, k0_pay23, k0_pay24, k0_pay25, k0_pay26, k0_pay27, k0_pay81, k0_pay82, k0_pay83, k0_pay84, k0_pay85, k0_pay86, k0_pay6, k0_pay7, k0_pay8]
  rfl

theorem runB_L8 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.1 = [⟨Rect.unit (s := S2x512x2048) (k0_off6 i) S1x512x2048.size (k0_off6_inb i hc1), xSlot x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  simp only [runB, runB.sl.cst_21, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_3, runB.sl.r_4, runB.sl.r_5, runB.sl.r_6, runB.sl.r_7, runB.sl.r_8, runB.sl.r_9, runB.sl.v17, runB.sl.v18, runB.sl.v22, runB.sl.v23, runB.sl.v24, runB.sl.v28, runB.sl.v29, runB.sl.v30, runB.sl.v34, runB.sl.v35, runB.sl.v36, runB.sl.v40, runB.sl.v41, runB.sl.v42, runB.sl.v46, runB.sl.v47, runB.sl.v48, runB.sl.v52, runB.sl.v53, runB.sl.v54, runB.sl.v58, runB.sl.v59, runB.sl.v60, runB.sl.v61, runB.sl.v62, runB.sl.v63, runB.sl.v64, runB.sl.v65, runB.sl.v66, runB.sl.v67, runB.sl.v68, runB.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2]
  rw [xSlot_B x0]
  first | done | rfl

theorem runB_L9 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2.1 = [⟨Rect.unit (s := S2x512x128) (k0_off7 i) S1x512x128.size (k0_off7_inb i hc1), sSlot x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  simp only [runB, runB.sl.cst_21, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_3, runB.sl.r_4, runB.sl.r_5, runB.sl.r_6, runB.sl.r_7, runB.sl.r_8, runB.sl.r_9, runB.sl.v17, runB.sl.v18, runB.sl.v22, runB.sl.v23, runB.sl.v24, runB.sl.v28, runB.sl.v29, runB.sl.v30, runB.sl.v34, runB.sl.v35, runB.sl.v36, runB.sl.v40, runB.sl.v41, runB.sl.v42, runB.sl.v46, runB.sl.v47, runB.sl.v48, runB.sl.v52, runB.sl.v53, runB.sl.v54, runB.sl.v58, runB.sl.v59, runB.sl.v60, runB.sl.v61, runB.sl.v62, runB.sl.v63, runB.sl.v64, runB.sl.v65, runB.sl.v66, runB.sl.v67, runB.sl.v68, runB.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2]
  rw [sSlot_B x0]
  first | done | rfl

theorem runB_L10 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2.2.1 = [⟨Rect.unit ![0, 0] S8x512.size inb_S8x512_S8x512_0_0, accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  simp only [runB, runB.sl.cst_21, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_3, runB.sl.r_4, runB.sl.r_5, runB.sl.r_6, runB.sl.r_7, runB.sl.r_8, runB.sl.r_9, runB.sl.v17, runB.sl.v18, runB.sl.v22, runB.sl.v23, runB.sl.v24, runB.sl.v28, runB.sl.v29, runB.sl.v30, runB.sl.v34, runB.sl.v35, runB.sl.v36, runB.sl.v40, runB.sl.v41, runB.sl.v42, runB.sl.v46, runB.sl.v47, runB.sl.v48, runB.sl.v52, runB.sl.v53, runB.sl.v54, runB.sl.v58, runB.sl.v59, runB.sl.v60, runB.sl.v61, runB.sl.v62, runB.sl.v63, runB.sl.v64, runB.sl.v65, runB.sl.v66, runB.sl.v67, runB.sl.v68, runB.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2]
  rw [acc_eq]

end Cert.KernelIdeal.Hand

end
-- ==== Proof.Ideal.RunC.lean ====
/-
  The main body at the last grid point: as at a middle one, and it leaves the final scale and maximum.
-/
module

public import proofs.«01_k».proof.Proof.Ideal.Setup

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The main body at the last grid point: as at a middle one, and it leaves the final scale and maximum. What each buffer the body writes ends with is given as the list of its stores, last first, over what the buffer held. -/
noncomputable def runC (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1)
    (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    Σ' (L3 : List (View.Piece (Elt F) S512x5632 .fp8e4m3)), Σ' (L4 : List (View.Piece (Elt F) S512x2048 .fp8e4m3)), Σ' (L5 : List (View.Piece (Elt F) S1x1x512 .f32)), Σ' (L6 : List (View.Piece (Elt F) S49 .i32)), Σ' (L7 : List (View.Piece (Elt F) S2 .f32)), Σ' (L8 : List (View.Piece (Elt F) S2x512x2048 .fp8e4m3)), Σ' (L9 : List (View.Piece (Elt F) S2x512x128 .f32)), { L10 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ (iprop(owns (c : Thread nD τ) arg1 fullShare x0 ∗ owns (c : Thread nD τ) arg2 fullShare x1 ∗ owns (c : Thread nD τ) arg3 fullShare x2 ∗ (arg4.view.loc (c : Thread nD τ) ↦[arg4.view.set]{fullShare} arg4.view.writes (Elt F) (harg4.unread x3) L3) ∗ (arg5.view.loc (c : Thread nD τ) ↦[arg5.view.set]{fullShare} arg5.view.writes (Elt F) (harg5.unread x4) L4) ∗ (arg6.view.loc (c : Thread nD τ) ↦[arg6.view.set]{fullShare} arg6.view.writes (Elt F) (harg6.unread x5) L5) ∗ (arg7.view.loc (c : Thread nD τ) ↦[arg7.view.set]{fullShare} arg7.view.writes (Elt F) (harg7.unread x6) L6) ∗ (arg8.view.loc (c : Thread nD τ) ↦[arg8.view.set]{fullShare} arg8.view.writes (Elt F) (harg8.unread x7) L7) ∗ (arg9.view.loc (c : Thread nD τ) ↦[arg9.view.set]{fullShare} arg9.view.writes (Elt F) (harg9.unread x8) L8) ∗ (arg10.view.loc (c : Thread nD τ) ↦[arg10.view.set]{fullShare} arg10.view.writes (Elt F) (harg10.unread x9) L9) ∗ (arg11.view.loc (c : Thread nD τ) ↦[arg11.view.set]{fullShare} arg11.view.writes (Elt F) (harg11.unread x10) L10)) -∗ K ⟨⟩))
          ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, ?_, fun E K => ?run⟩
  case run =>
    simp only [cc0_main_eq_skeleton]; unfold cc0_main_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.KernelIdeal.Hand

end
-- ==== Proof.Ideal.PiecesC.lean ====
/-
  What the stores of a grid point leave, in the terms of `Values`.
-/
module

public import proofs.«01_k».proof.Proof.Ideal.Values
public import proofs.«01_k».proof.Proof.Ideal.RunC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem runC_L3 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).1 = [⟨Rect.unit ![0, 5120] S512x512.size inb_S512x5632_S512x512_0_5120, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 10)⟩, ⟨Rect.unit ![0, 4608] S512x512.size inb_S512x5632_S512x512_0_4608, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 9)⟩, ⟨Rect.unit ![0, 4096] S512x512.size inb_S512x5632_S512x512_0_4096, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 8)⟩, ⟨Rect.unit ![0, 3584] S512x512.size inb_S512x5632_S512x512_0_3584, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 7)⟩, ⟨Rect.unit ![0, 3072] S512x512.size inb_S512x5632_S512x512_0_3072, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 6)⟩, ⟨Rect.unit ![0, 2560] S512x512.size inb_S512x5632_S512x512_0_2560, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 5)⟩, ⟨Rect.unit ![0, 2048] S512x512.size inb_S512x5632_S512x512_0_2048, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 4)⟩, ⟨Rect.unit ![0, 1536] S512x512.size inb_S512x5632_S512x512_0_1536, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 3)⟩, ⟨Rect.unit ![0, 1024] S512x512.size inb_S512x5632_S512x512_0_1024, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 2)⟩, ⟨Rect.unit ![0, 512] S512x512.size inb_S512x5632_S512x512_0_512, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 1)⟩, ⟨Rect.unit ![0, 0] S512x512.size inb_S512x5632_S512x512_0_0, yCodes (invS (amaxQ x10)) ((yTiles (VecWindow.window (s := S2x512x2048) x8 (k0_off5 i) S1x512x2048.size (k0_off5_inb i hc1)) (VecWindow.window (s := S2x512x128) x9 (k0_off4 i) S1x512x128.size (k0_off4_inb i hc1)) x1 x2) 0)⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  rfl

theorem runC_L4 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.1 = [⟨Rect.unit ![0, 0] S512x2048.size inb_S512x2048_S512x2048_0_0, xCodes x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  rw [xCodes_B x0]
  first | done | rfl

theorem runC_L5 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.1 = [⟨Rect.unit ![0, 0, 0] S1x1x512.size inb_S1x1x512_S1x1x512_0_0_0, sRow x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  rw [sRow_B x0]
  first | done | rfl

theorem runC_L6 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.1 = [⟨Rect.unit ![48] S1.size inb_S49_S1_48, fun _ => invBitsS (amaxQ (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11))⟩, ⟨Rect.unit (s := S49) (k0_off3 i) S1.size (k0_off3_inb i hc1), fun _ => invBitsS (amaxQ x10)⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  simp only [acc_eq, fold0, fold1, fold2, fold3, pay18_eq, pay80_eq, pay79_eq, k0_pay19, k0_pay20, k0_pay21, k0_pay22, k0_pay23, k0_pay24, k0_pay25, k0_pay26, k0_pay27, k0_pay81, k0_pay82, k0_pay83, k0_pay84, k0_pay85, k0_pay86, k0_pay6, k0_pay7, k0_pay8]
  rfl

theorem runC_L7 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.1 = [⟨Rect.unit ![1] S1.size inb_S2_S1_1, fun _ => amaxS (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11)⟩, ⟨Rect.unit ![0] S1.size inb_S2_S1_0, fun _ => scaleS (amaxQ (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11))⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  simp only [acc_eq, fold0, fold1, fold2, fold3, pay18_eq, pay80_eq, pay79_eq, k0_pay19, k0_pay20, k0_pay21, k0_pay22, k0_pay23, k0_pay24, k0_pay25, k0_pay26, k0_pay27, k0_pay81, k0_pay82, k0_pay83, k0_pay84, k0_pay85, k0_pay86, k0_pay6, k0_pay7, k0_pay8]
  rfl

theorem runC_L8 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2.1 = [⟨Rect.unit (s := S2x512x2048) (k0_off6 i) S1x512x2048.size (k0_off6_inb i hc1), xSlot x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  rw [xSlot_B x0]
  first | done | rfl

theorem runC_L9 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2.2.1 = [⟨Rect.unit (s := S2x512x128) (k0_off7 i) S1x512x128.size (k0_off7_inb i hc1), sSlot x0⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  rw [sSlot_B x0]
  first | done | rfl

theorem runC_L10 (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2.2.2.1 = [⟨Rect.unit ![0, 0] S8x512.size inb_S8x512_S8x512_0_0, accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11⟩] := by
  have w0 : ∀ inb, VecWindow.window (s := S512x2048) x0 ![0, 0] ![512, 2048] inb = x0 := fun _ => window_full x0 _ _
  have w10 : ∀ inb, VecWindow.window (s := S8x512) x10 ![0, 0] ![8, 512] inb = x10 := fun _ => window_full x10 _ _
  have cv : ∀ (w : Vec F S8x512 .f32) (inb inb' : ∀ a, ![0, 0] a + ![8, 512] a ≤ S8x512.size a), View.readCov arg11.view [⟨Rect.unit (s := S8x512) ![0, 0] ![8, 512] inb, w⟩] (Rect.unit (s := S8x512) ![0, 0] ![8, 512] inb').toLoadRect = w :=
    fun w inb inb' => View.readCov_full arg11.view inb' inb w []
  simp only [runC, runC.sl.H10_1, runC.sl.H6_1, runC.sl.cst_21, runC.sl.f, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_4, runC.sl.r_5, runC.sl.r_6, runC.sl.r_7, runC.sl.r_8, runC.sl.r_9, runC.sl.v10, runC.sl.v17, runC.sl.v17_1, runC.sl.v18, runC.sl.v18_1, runC.sl.v22, runC.sl.v22_1, runC.sl.v23, runC.sl.v23_1, runC.sl.v24, runC.sl.v24_1, runC.sl.v28, runC.sl.v28_1, runC.sl.v29, runC.sl.v29_1, runC.sl.v30, runC.sl.v30_1, runC.sl.v34, runC.sl.v34_1, runC.sl.v35, runC.sl.v35_1, runC.sl.v36, runC.sl.v36_1, runC.sl.v40, runC.sl.v40_1, runC.sl.v41, runC.sl.v41_1, runC.sl.v42, runC.sl.v42_1, runC.sl.v46, runC.sl.v46_1, runC.sl.v47, runC.sl.v47_1, runC.sl.v48, runC.sl.v52, runC.sl.v53, runC.sl.v54, runC.sl.v58, runC.sl.v59, runC.sl.v60, runC.sl.v61, runC.sl.v62, runC.sl.v63, runC.sl.v64, runC.sl.v65, runC.sl.v66, runC.sl.v67, runC.sl.v68, runC.sl.v72, ld_window, w0, w10, w1_0 x1, w2_0 x2, w1_1 x1, w2_1 x2, w1_2 x1, w2_2 x2, w1_3 x1, w2_3 x2, w1_4 x1, w2_4 x2, w1_5 x1, w2_5 x2, w1_6 x1, w2_6 x2, w1_7 x1, w2_7 x2, w1_8 x1, w2_8 x2, w1_9 x1, w2_9 x2, w1_10 x1, w2_10 x2, cv]
  rw [acc_eq]

end Cert.KernelIdeal.Hand

end
-- ==== Proof.Ideal.Sound.lean ====
/-
  The body of the main call at a first, a middle and a last grid point: what every buffer holds after it.
-/
module

public import proofs.«01_k».proof.Proof.Ideal.PiecesA
public import proofs.«01_k».proof.Proof.Ideal.PiecesB
public import proofs.«01_k».proof.Proof.Ideal.PiecesC
public import Idealize.ShloMosaic.Lib.Pipeline.ValueKit.Geometry

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The eleven stores of a block of y leave the block. -/
theorem yBlock_writes {sp : Space} (v : View sig .tc sp S512x5632 .fp8e4m3) (f : v.ty.Contents (Elt F)) (inv : F .f32) (Y : ℕ → FVec F S512x512 .f32) :
    v.read (Elt F) (v.writes (Elt F) f [⟨Rect.unit ![0, 5120] S512x512.size inb_S512x5632_S512x512_0_5120, yCodes inv (Y 10)⟩, ⟨Rect.unit ![0, 4608] S512x512.size inb_S512x5632_S512x512_0_4608, yCodes inv (Y 9)⟩, ⟨Rect.unit ![0, 4096] S512x512.size inb_S512x5632_S512x512_0_4096, yCodes inv (Y 8)⟩, ⟨Rect.unit ![0, 3584] S512x512.size inb_S512x5632_S512x512_0_3584, yCodes inv (Y 7)⟩, ⟨Rect.unit ![0, 3072] S512x512.size inb_S512x5632_S512x512_0_3072, yCodes inv (Y 6)⟩, ⟨Rect.unit ![0, 2560] S512x512.size inb_S512x5632_S512x512_0_2560, yCodes inv (Y 5)⟩, ⟨Rect.unit ![0, 2048] S512x512.size inb_S512x5632_S512x512_0_2048, yCodes inv (Y 4)⟩, ⟨Rect.unit ![0, 1536] S512x512.size inb_S512x5632_S512x512_0_1536, yCodes inv (Y 3)⟩, ⟨Rect.unit ![0, 1024] S512x512.size inb_S512x5632_S512x512_0_1024, yCodes inv (Y 2)⟩, ⟨Rect.unit ![0, 512] S512x512.size inb_S512x5632_S512x512_0_512, yCodes inv (Y 1)⟩, ⟨Rect.unit ![0, 0] S512x512.size inb_S512x5632_S512x512_0_0, yCodes inv (Y 0)⟩]) = yBlock inv Y := by
  funext y
  refine View.read_writes_apply_of_pieces v f (yBlock inv Y) _ ?_ y (View.cover_of_tiled (s := S512x5632) _ S512x512.size rfl y)
  intro p hp x
  simp only [List.mem_cons, List.not_mem_nil, or_false] at hp
  have key : ∀ (q : ℕ) (inb : ∀ a, ![0, 512 * q] a + S512x512.size a ≤ S512x5632.size a) (x : (Rect.unit (s := S512x5632) ![0, 512 * q] S512x512.size inb).shape.Idx),
      yCodes inv (Y q) x = yBlock inv Y ((Rect.unit (s := S512x5632) ![0, 512 * q] S512x512.size inb).emb x) := by
    intro q inb x
    have h1 : (x 1).val < 512 := (x 1).isLt
    have e1 : ((Rect.unit (s := S512x5632) ![0, 512 * q] S512x512.size inb).emb x 1).val = 512 * q + (x 1).val := by
      rw [ValueKit.rect_emb_unit_val]; rfl
    have e0 : ((Rect.unit (s := S512x5632) ![0, 512 * q] S512x512.size inb).emb x 0).val = (x 0).val := by
      rw [ValueKit.rect_emb_unit_val]; exact Nat.zero_add _
    unfold yBlock
    rw [show ((Rect.unit (s := S512x5632) ![0, 512 * q] S512x512.size inb).emb x 1).val / 512 = q by rw [e1]; omega]
    refine congrArg (yCodes inv (Y q)) (funext fun a => Fin.ext ?_)
    match a with
    | ⟨0, _⟩ => exact e0.symm
    | ⟨1, _⟩ => show (x 1).val = _ % 512; rw [e1]; omega
  rcases hp with rfl | rfl | rfl | rfl | rfl | rfl | rfl | rfl | rfl | rfl | rfl
  · exact key 10 inb_S512x5632_S512x512_0_5120 x
  · exact key 9 inb_S512x5632_S512x512_0_4608 x
  · exact key 8 inb_S512x5632_S512x512_0_4096 x
  · exact key 7 inb_S512x5632_S512x512_0_3584 x
  · exact key 6 inb_S512x5632_S512x512_0_3072 x
  · exact key 5 inb_S512x5632_S512x512_0_2560 x
  · exact key 4 inb_S512x5632_S512x512_0_2048 x
  · exact key 3 inb_S512x5632_S512x512_0_1536 x
  · exact key 2 inb_S512x5632_S512x512_0_1024 x
  · exact key 1 inb_S512x5632_S512x512_0_512 x
  · exact key 0 inb_S512x5632_S512x512_0_0 x
set_option maxHeartbeats 2000000 in
/-- What the main body leaves in every buffer at the first grid point. -/
theorem soundA (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : k0_cond1 i = 1#1) (hc1 : ¬ k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (xCodes x0) ∗ owns (c : Thread nD τ) arg6 fullShare (sRow x0) ∗ owns (c : Thread nD τ) arg7 fullShare x6 ∗ owns (c : Thread nD τ) arg8 fullShare x7 ∗ owns (c : Thread nD τ) arg9 fullShare (VecWindow.put (s := S2x512x2048) x8 (k0_off1 i) S1x512x2048.size (xSlot x0)) ∗ owns (c : Thread nD τ) arg10 fullShare (VecWindow.put (s := S2x512x128) x9 (k0_off2 i) S1x512x128.size (sSlot x0)) ∗ owns (c : Thread nD τ) arg11 fullShare (k0_pay9 (F := F))) -∗ K ⟨⟩))
      ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11) K := by
  have h := (runA c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2 E K
  beta_reduce at h
  refine BIBase.Entails.trans ?_ h
  iintro ⟨H0, H1, H2, H3, H4, H5, H6, H7, H8, H9, H10, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  isplitl [H0]
  · iexact H0
  isplitl [H1]
  · iexact H1
  isplitl [H2]
  · iexact H2
  isplitl [H3]
  · iexact H3
  isplitl [H4]
  · unfold owns; iexists _; isplitr; swap
    · iexact H4
    · ipureintro; exact (congrArg (fun L => arg5.view.read (Elt F) (arg5.view.writes (Elt F) _ L)) (runA_L4 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg5.view _ _ _ _)
  isplitl [H5]
  · unfold owns; iexists _; isplitr; swap
    · iexact H5
    · ipureintro; exact (congrArg (fun L => arg6.view.read (Elt F) (arg6.view.writes (Elt F) _ L)) (runA_L5 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg6.view _ _ _ _)
  isplitl [H6]
  · iexact H6
  isplitl [H7]
  · iexact H7
  isplitl [H8]
  · unfold owns; iexists _; isplitr; swap
    · iexact H8
    · ipureintro; exact (congrArg (fun L => arg9.view.read (Elt F) (arg9.view.writes (Elt F) _ L)) (runA_L8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg9.view _ _ _ _ rfl).trans (by rw [View.writes_nil, harg9.read_unread] <;> rfl))
  isplitl [H9]
  · unfold owns; iexists _; isplitr; swap
    · iexact H9
    · ipureintro; exact (congrArg (fun L => arg10.view.read (Elt F) (arg10.view.writes (Elt F) _ L)) (runA_L9 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg10.view _ _ _ _ rfl).trans (by rw [View.writes_nil, harg10.read_unread] <;> rfl))
  unfold owns; iexists _; isplitr; swap
  · iexact H10
  · ipureintro; exact (congrArg (fun L => arg11.view.read (Elt F) (arg11.view.writes (Elt F) _ L)) (runA_L10 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg11.view _ _ _ _)

set_option maxHeartbeats 2000000 in
/-- What the main body leaves in every buffer at a middle grid point. -/
theorem soundB (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : ¬ k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (iprop(owns (c : Thread nD τ) arg1 fullShare x0 ∗ owns (c : Thread nD τ) arg2 fullShare x1 ∗ owns (c : Thread nD τ) arg3 fullShare x2 ∗ owns (c : Thread nD τ) arg4 fullShare (yBlock (invS (amaxQ x10)) (yTiles (VecWindow.window (s := S2x512x2048) x8 (k0_off5 i) S1x512x2048.size (k0_off5_inb i hc1)) (VecWindow.window (s := S2x512x128) x9 (k0_off4 i) S1x512x128.size (k0_off4_inb i hc1)) x1 x2)) ∗ owns (c : Thread nD τ) arg5 fullShare (xCodes x0) ∗ owns (c : Thread nD τ) arg6 fullShare (sRow x0) ∗ owns (c : Thread nD τ) arg7 fullShare (VecWindow.put (s := S49) x6 (k0_off3 i) S1.size (fun _ => invBitsS (amaxQ x10))) ∗ owns (c : Thread nD τ) arg8 fullShare x7 ∗ owns (c : Thread nD τ) arg9 fullShare (VecWindow.put (s := S2x512x2048) x8 (k0_off6 i) S1x512x2048.size (xSlot x0)) ∗ owns (c : Thread nD τ) arg10 fullShare (VecWindow.put (s := S2x512x128) x9 (k0_off7 i) S1x512x128.size (sSlot x0)) ∗ owns (c : Thread nD τ) arg11 fullShare (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11)) -∗ K ⟨⟩))
      ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11) K := by
  have h := (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2.2.2 E K
  beta_reduce at h
  refine BIBase.Entails.trans ?_ h
  iintro ⟨H0, H1, H2, H3, H4, H5, H6, H7, H8, H9, H10, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  isplitl [H0]
  · iexact H0
  isplitl [H1]
  · iexact H1
  isplitl [H2]
  · iexact H2
  isplitl [H3]
  · unfold owns; iexists _; isplitr; swap
    · iexact H3
    · ipureintro; exact (congrArg (fun L => arg4.view.read (Elt F) (arg4.view.writes (Elt F) _ L)) (runB_L3 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (yBlock_writes arg4.view _ (invS (amaxQ x10)) (yTiles (VecWindow.window (s := S2x512x2048) x8 (k0_off5 i) S1x512x2048.size (k0_off5_inb i hc1)) (VecWindow.window (s := S2x512x128) x9 (k0_off4 i) S1x512x128.size (k0_off4_inb i hc1)) x1 x2))
  isplitl [H4]
  · unfold owns; iexists _; isplitr; swap
    · iexact H4
    · ipureintro; exact (congrArg (fun L => arg5.view.read (Elt F) (arg5.view.writes (Elt F) _ L)) (runB_L4 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg5.view _ _ _ _)
  isplitl [H5]
  · unfold owns; iexists _; isplitr; swap
    · iexact H5
    · ipureintro; exact (congrArg (fun L => arg6.view.read (Elt F) (arg6.view.writes (Elt F) _ L)) (runB_L5 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg6.view _ _ _ _)
  isplitl [H6]
  · unfold owns; iexists _; isplitr; swap
    · iexact H6
    · ipureintro; exact (congrArg (fun L => arg7.view.read (Elt F) (arg7.view.writes (Elt F) _ L)) (runB_L6 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg7.view _ _ _ _ rfl).trans (by rw [View.writes_nil, harg7.read_unread] <;> rfl))
  isplitl [H7]
  · iexact H7
  isplitl [H8]
  · unfold owns; iexists _; isplitr; swap
    · iexact H8
    · ipureintro; exact (congrArg (fun L => arg9.view.read (Elt F) (arg9.view.writes (Elt F) _ L)) (runB_L8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg9.view _ _ _ _ rfl).trans (by rw [View.writes_nil, harg9.read_unread] <;> rfl))
  isplitl [H9]
  · unfold owns; iexists _; isplitr; swap
    · iexact H9
    · ipureintro; exact (congrArg (fun L => arg10.view.read (Elt F) (arg10.view.writes (Elt F) _ L)) (runB_L9 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg10.view _ _ _ _ rfl).trans (by rw [View.writes_nil, harg10.read_unread] <;> rfl))
  unfold owns; iexists _; isplitr; swap
  · iexact H10
  · ipureintro; exact (congrArg (fun L => arg11.view.read (Elt F) (arg11.view.writes (Elt F) _ L)) (runB_L10 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg11.view _ _ _ _)

set_option maxHeartbeats 2000000 in
/-- What the main body leaves in every buffer at the last grid point. -/
theorem soundC (c : Dev nD) (i : grid0.Coords) (arg1 : Memref sig .tc .vmem S512x2048 .bf16) (harg1 : arg1.IsWhole) (arg2 : Memref sig .tc .vmem S2048x5632 .fp8e4m3) (harg2 : arg2.IsWhole) (arg3 : Memref sig .tc .vmem S1x5632 .f32) (harg3 : arg3.IsWhole) (arg4 : Memref sig .tc .vmem S512x5632 .fp8e4m3) (harg4 : arg4.IsWhole) (arg5 : Memref sig .tc .vmem S512x2048 .fp8e4m3) (harg5 : arg5.IsWhole) (arg6 : Memref sig .tc .vmem S1x1x512 .f32) (harg6 : arg6.IsWhole) (arg7 : Memref sig .tc .smem S49 .i32) (harg7 : arg7.IsWhole) (arg8 : Memref sig .tc .smem S2 .f32) (harg8 : arg8.IsWhole) (arg9 : Memref sig .tc .vmem S2x512x2048 .fp8e4m3) (harg9 : arg9.IsWhole) (arg10 : Memref sig .tc .vmem S2x512x128 .f32) (harg10 : arg10.IsWhole) (arg11 : Memref sig .tc .vmem S8x512 .f32) (harg11 : arg11.IsWhole) (hc0 : ¬ k0_cond1 i = 1#1) (hc1 : k0_cond2 i = 1#1) (hc2 : k0_cond3 i = 1#1) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (x8 : Vec F S2x512x2048 .fp8e4m3) (x9 : Vec F S2x512x128 .f32) (x10 : Vec F S8x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (iprop(owns (c : Thread nD τ) arg1 fullShare x0 ∗ owns (c : Thread nD τ) arg2 fullShare x1 ∗ owns (c : Thread nD τ) arg3 fullShare x2 ∗ owns (c : Thread nD τ) arg4 fullShare (yBlock (invS (amaxQ x10)) (yTiles (VecWindow.window (s := S2x512x2048) x8 (k0_off5 i) S1x512x2048.size (k0_off5_inb i hc1)) (VecWindow.window (s := S2x512x128) x9 (k0_off4 i) S1x512x128.size (k0_off4_inb i hc1)) x1 x2)) ∗ owns (c : Thread nD τ) arg5 fullShare (xCodes x0) ∗ owns (c : Thread nD τ) arg6 fullShare (sRow x0) ∗ owns (c : Thread nD τ) arg7 fullShare (VecWindow.put (s := S49) (VecWindow.put (s := S49) x6 (k0_off3 i) S1.size (fun _ => invBitsS (amaxQ x10))) ![48] S1.size (fun _ => invBitsS (amaxQ (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11)))) ∗ owns (c : Thread nD τ) arg8 fullShare (VecWindow.put (s := S2) (VecWindow.put (s := S2) x7 ![0] S1.size (fun _ => scaleS (amaxQ (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11)))) ![1] S1.size (fun _ => amaxS (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11))) ∗ owns (c : Thread nD τ) arg9 fullShare (VecWindow.put (s := S2x512x2048) x8 (k0_off6 i) S1x512x2048.size (xSlot x0)) ∗ owns (c : Thread nD τ) arg10 fullShare (VecWindow.put (s := S2x512x128) x9 (k0_off7 i) S1x512x128.size (sSlot x0)) ∗ owns (c : Thread nD τ) arg11 fullShare (accN x10 (yTiles (VecWindow.window (s := S2x512x2048) x8 (k0_off5 i) S1x512x2048.size (k0_off5_inb i hc1)) (VecWindow.window (s := S2x512x128) x9 (k0_off4 i) S1x512x128.size (k0_off4_inb i hc1)) x1 x2) 11)) -∗ K ⟨⟩))
      ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11) K := by
  have h := (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10).2.2.2.2.2.2.2.2 E K
  beta_reduce at h
  refine BIBase.Entails.trans ?_ h
  iintro ⟨H0, H1, H2, H3, H4, H5, H6, H7, H8, H9, H10, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  isplitl [H0]
  · iexact H0
  isplitl [H1]
  · iexact H1
  isplitl [H2]
  · iexact H2
  isplitl [H3]
  · unfold owns; iexists _; isplitr; swap
    · iexact H3
    · ipureintro; exact (congrArg (fun L => arg4.view.read (Elt F) (arg4.view.writes (Elt F) _ L)) (runC_L3 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (yBlock_writes arg4.view _ (invS (amaxQ x10)) (yTiles (VecWindow.window (s := S2x512x2048) x8 (k0_off5 i) S1x512x2048.size (k0_off5_inb i hc1)) (VecWindow.window (s := S2x512x128) x9 (k0_off4 i) S1x512x128.size (k0_off4_inb i hc1)) x1 x2))
  isplitl [H4]
  · unfold owns; iexists _; isplitr; swap
    · iexact H4
    · ipureintro; exact (congrArg (fun L => arg5.view.read (Elt F) (arg5.view.writes (Elt F) _ L)) (runC_L4 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg5.view _ _ _ _)
  isplitl [H5]
  · unfold owns; iexists _; isplitr; swap
    · iexact H5
    · ipureintro; exact (congrArg (fun L => arg6.view.read (Elt F) (arg6.view.writes (Elt F) _ L)) (runC_L5 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg6.view _ _ _ _)
  isplitl [H6]
  · unfold owns; iexists _; isplitr; swap
    · iexact H6
    · ipureintro; exact (congrArg (fun L => arg7.view.read (Elt F) (arg7.view.writes (Elt F) _ L)) (runC_L6 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg7.view _ _ _ _ rfl).trans (by rw [View.read_writes_cons_put arg7.view _ _ _ _ rfl, View.writes_nil, harg7.read_unread] <;> rfl))
  isplitl [H7]
  · unfold owns; iexists _; isplitr; swap
    · iexact H7
    · ipureintro; exact (congrArg (fun L => arg8.view.read (Elt F) (arg8.view.writes (Elt F) _ L)) (runC_L7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg8.view _ _ _ _ rfl).trans (by rw [View.read_writes_cons_put arg8.view _ _ _ _ rfl, View.writes_nil, harg8.read_unread] <;> rfl))
  isplitl [H8]
  · unfold owns; iexists _; isplitr; swap
    · iexact H8
    · ipureintro; exact (congrArg (fun L => arg9.view.read (Elt F) (arg9.view.writes (Elt F) _ L)) (runC_L8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg9.view _ _ _ _ rfl).trans (by rw [View.writes_nil, harg9.read_unread] <;> rfl))
  isplitl [H9]
  · unfold owns; iexists _; isplitr; swap
    · iexact H9
    · ipureintro; exact (congrArg (fun L => arg10.view.read (Elt F) (arg10.view.writes (Elt F) _ L)) (runC_L9 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans ((View.read_writes_cons_put arg10.view _ _ _ _ rfl).trans (by rw [View.writes_nil, harg10.read_unread] <;> rfl))
  unfold owns; iexists _; isplitr; swap
  · iexact H10
  · ipureintro; exact (congrArg (fun L => arg11.view.read (Elt F) (arg11.view.writes (Elt F) _ L)) (runC_L10 c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 x8 x9 x10)).trans (View.read_writes_full arg11.view _ _ _ _)

end Cert.KernelIdeal.Hand

end
-- ==== Proof.Ideal.Data.lean ====
/-
  What the main call leaves point by point: the relational proof data of its pipeline, the body's triple at every
  point, and the run of the whole program.

  At point `t` the body quantises row tile `t` (tile 47 again at point 48) and multiplies out tile `t - 1`, whose codes
  and scales wait in the scratch slot of the other parity.
-/
module

public import proofs.«01_k».proof.Proof.Gen.KernelIdeal.Frame
public import proofs.«01_k».proof.Proof.Ideal.Sound
public import Idealize.ShloMosaic.Lib.Pipeline.FrameBody
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values the points carry -/

/-- Grid point number `n`. -/
def pt (n : ℕ) : Fin cfg0.N := ⟨n % 49, by rw [show cfg0.N = 49 from N_0]; exact Nat.mod_lt _ (by decide)⟩

theorem pt_val (t : Fin cfg0.N) : pt t.val = t :=
  Fin.ext (Nat.mod_eq_of_lt (Nat.lt_of_lt_of_eq t.isLt N_0))

/-- The rows of `x` fetched at point `n`. -/
def xb (c : Dev nD) (n : ℕ) : Vec F S512x2048 .bf16 := iblk m c 0 (pt n)
/-- The weight codes at point `n`. -/
def wb (c : Dev nD) (n : ℕ) : Vec F S2048x5632 .fp8e4m3 := iblk m c 1 (pt n)
/-- The weight scales at point `n`. -/
def wsb (c : Dev nD) (n : ℕ) : Vec F S1x5632 .f32 := iblk m c 2 (pt n)

/-- The scaled products of row tile `n`, one column tile each, as point `n + 1` computes them. -/
def prodT (c : Dev nD) (n : ℕ) := yTiles (xSlot (xb m c n)) (sSlot (xb m c n)) (wb m c (n + 1)) (wsb m c (n + 1))

/-- The running maximum of the absolute products after `n` row tiles, in its layout of 8 by 512 lanes. -/
def accAt (c : Dev nD) : ℕ → Vec F S8x512 .f32
  | 0 => k0_pay9
  | n + 1 => accN (accAt c n) (prodT m c n) 11

/-- The product codes of row tile `n` as the main call writes them, at the scale known before the tile. -/
def yAt (c : Dev nD) (n : ℕ) : Vec F S512x5632 .fp8e4m3 := yBlock (invS (amaxQ (accAt m c n))) (prodT m c n)

/-- The bits of the inverse scale after `n` row tiles. -/
def usedAt (c : Dev nD) (n : ℕ) := invBitsS (amaxQ (accAt m c n))

/-- The two statistics: the final scale and the final maximum. -/
def statAt (c : Dev nD) (Y : Vec F S2 .f32) : Vec F S2 .f32 :=
  VecWindow.put (s := S2) (VecWindow.put (s := S2) Y ![0] S1.size (fun _ => scaleS (amaxQ (accAt m c 48)))) ![1] S1.size (fun _ => amaxS (accAt m c 48))

/-! ## The proof data -/

/-- What the body leaves in each window's buffer (`X`) at point `t`, given what it found there (`Y`): the inputs as
    found, the codes and scales of the tile of the point, the product codes and the inverse scale of the tile before,
    and at the last point the statistics. -/
def afterRel (c : Dev nD) (t : Fin cfg0.N) : (w : Fin cfg0.W) → (Y X : (cfg0.win w).block.Idx → Elt F (cfg0.win w).elt) → Prop
  | ⟨0, _⟩ => fun Y X => X = Y
  | ⟨1, _⟩ => fun Y X => X = Y
  | ⟨2, _⟩ => fun Y X => X = Y
  | ⟨3, _⟩ => fun (Y X : Vec F S512x5632 .fp8e4m3) => t.val ≠ 0 → X = yAt m c (t.val - 1)
  | ⟨4, _⟩ => fun (Y X : Vec F S512x2048 .fp8e4m3) => X = xCodes (xb m c t.val)
  | ⟨5, _⟩ => fun (Y X : Vec F S1x1x512 .f32) => X = sRow (xb m c t.val)
  | ⟨6, _⟩ => fun (Y X : Vec F S49 .i32) =>
      (t.val = 0 → X = Y)
      ∧ (t.val ≠ 0 → t.val ≠ 48 → X = VecWindow.put (s := S49) Y ![t.val - 1] S1.size (fun _ => usedAt m c (t.val - 1)))
      ∧ (t.val = 48 → X = VecWindow.put (s := S49) (VecWindow.put (s := S49) Y ![t.val - 1] S1.size (fun _ => usedAt m c (t.val - 1))) ![48] S1.size (fun _ => usedAt m c 48))
  | ⟨7, _⟩ => fun (Y X : Vec F S2 .f32) => (t.val ≠ 48 → X = Y) ∧ (t.val = 48 → X = statAt m c Y)

abbrev scM0 : Memref sig .tc .vmem S2x512x2048 .fp8e4m3 := Memref.whole cc0_scratch0
abbrev scM1 : Memref sig .tc .vmem S2x512x128 .f32 := Memref.whole cc0_scratch1
abbrev scM2 : Memref sig .tc .vmem S8x512 .f32 := Memref.whole cc0_scratch2

/-- The slots of parity `n` hold the codes and the scales of row tile `n`. -/
def slotsHold (c : Dev nD) (n : ℕ) (x8 : Vec F S2x512x2048 .fp8e4m3) (x9 : Vec F S2x512x128 .f32) : Prop :=
  (∀ inb, VecWindow.window (s := S2x512x2048) x8 ![n % 2, 0, 0] S1x512x2048.size inb = xSlot (xb m c n))
  ∧ (∀ inb, VecWindow.window (s := S2x512x128) x9 ![n % 2, 0, 0] S1x512x128.size inb = sSlot (xb m c n))

/-- Before point `n`: the scratch buffers at anything before the first point, then the slots of the tile before and the
    running maximum. -/
def PhiS (c : Dev nD) : ℕ → sProp 𝕄
  | 0 => Pipeline.ΦA spec0 c
  | n + 1 => iprop(iprop((∃ x8, ∃ x9, ⌜slotsHold m c n x8 x9⌝ ∗ owns (c : Thread nD τ) scM0 fullShare x8 ∗ owns (c : Thread nD τ) scM1 fullShare x9) ∗ owns (c : Thread nD τ) scM2 fullShare (accAt m c n)) ∗ (∃ r, prngReg c r))

theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The relational proof data of the main call's pipeline. -/
def rdat (c : Dev nD) : Pipeline.RDat τ (Elt F) Unit ℕ (UR sig nD τ) ℕ cfg0 c where
  A w := V m c (Pipeline.arrRef spec0 w)
  after w t := afterRel m c t w
  Φ t := PhiS m c t.val
  q _ := fullShare
  owed _ := 0

theorem rdat_A (c : Dev nD) (w : Fin cfg0.W) : (rdat m c).A w = V m c (Pipeline.arrRef spec0 w) := by
  dsimp only [rdat]

theorem finds0 (c : Dev nD) (t : Fin cfg0.N) (Y) (h : (rdat m c).Finds 0 t Y) : Y = xb m c t.val := by
  obtain ⟨d, hd⟩ := (rdat m c).finds_in_eq_fetched 0 rfl (fun _ _ _ => rfl) (fun _ _ _ h => h) t Y h
  rw [hd, xb, pt_val]; unfold Pipeline.RDat.fetched Pipeline.RDat.blockOf iblk; rw [rdat_A]; try rfl
theorem finds1 (c : Dev nD) (t : Fin cfg0.N) (Y) (h : (rdat m c).Finds 1 t Y) : Y = wb m c t.val := by
  obtain ⟨d, hd⟩ := (rdat m c).finds_in_eq_fetched 1 rfl (fun _ _ _ => rfl) (fun _ _ _ h => h) t Y h
  rw [hd, wb, pt_val]; unfold Pipeline.RDat.fetched Pipeline.RDat.blockOf iblk; rw [rdat_A]; try rfl
theorem finds2 (c : Dev nD) (t : Fin cfg0.N) (Y) (h : (rdat m c).Finds 2 t Y) : Y = wsb m c t.val := by
  obtain ⟨d, hd⟩ := (rdat m c).finds_in_eq_fetched 2 rfl (fun _ _ _ => rfl) (fun _ _ _ h => h) t Y h
  rw [hd, wsb, pt_val]; unfold Pipeline.RDat.fetched Pipeline.RDat.blockOf iblk; rw [rdat_A]; try rfl

/-! ## The body's conditions -/

theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)
theorem hcond3 : ∀ t : Fin cfg0.N, k0_cond3 (grid0.coords t) = 1#1 ↔ t.val = 48 :=
  (by decide +kernel : ∀ t : Fin grid0.N, k0_cond3 (grid0.coords t) = 1#1 ↔ t.val = 48)

/-- The one grid coordinate of a point is its number. -/
theorem coord_val (t : Fin cfg0.N) : ((grid0.coords t) 0).val = t.val := by
  have ht : t.val < 49 := Nat.lt_of_lt_of_eq t.isLt N_0
  have e0 : (grid0.coords t 0).val = t.val / 1 % 49 := Pipeline.Grid.coords_val t 0 (by decide) rfl
  rw [e0]; omega

theorem off1_at (t : Fin cfg0.N) : k0_off1 (grid0.coords t) = ![t.val % 2, 0, 0] := by rw [k0_off1_eq, coord_val]
theorem off2_at (t : Fin cfg0.N) : k0_off2 (grid0.coords t) = ![t.val % 2, 0, 0] := by rw [k0_off2_eq, coord_val]
theorem off6_at (t : Fin cfg0.N) : k0_off6 (grid0.coords t) = ![t.val % 2, 0, 0] := by rw [k0_off6_eq, coord_val]
theorem off7_at (t : Fin cfg0.N) : k0_off7 (grid0.coords t) = ![t.val % 2, 0, 0] := by rw [k0_off7_eq, coord_val]
theorem off3_at (t : Fin cfg0.N) (h : t.val ≠ 0) : k0_off3 (grid0.coords t) = ![t.val - 1] := by
  have ht : t.val < 49 := Nat.lt_of_lt_of_eq t.isLt N_0
  rw [k0_off3_eq, coord_val, show (t.val + 4294967295) % 4294967296 = t.val - 1 by omega]
theorem off4_at (t : Fin cfg0.N) (h : t.val ≠ 0) : k0_off4 (grid0.coords t) = ![(t.val - 1) % 2, 0, 0] := by
  rw [k0_off4_eq, coord_val, show 1 - t.val % 2 = (t.val - 1) % 2 by omega]
theorem off5_at (t : Fin cfg0.N) (h : t.val ≠ 0) : k0_off5 (grid0.coords t) = ![(t.val - 1) % 2, 0, 0] := by
  rw [k0_off5_eq, coord_val, show 1 - t.val % 2 = (t.val - 1) % 2 by omega]

/-- A window at an offset equal to another's. -/
theorem window_congr {s : Shape} {α : Type} (x : s.Idx → α) {off off' : Fin s.rank → ℕ} (h : off = off') (size : Fin s.rank → ℕ)
    (inb : ∀ a, off a + size a ≤ s.size a) (inb' : ∀ a, off' a + size a ≤ s.size a) :
    VecWindow.window x off size inb = VecWindow.window x off' size inb' := by subst h; rfl

/-- After the point the slots of its parity hold its tile. -/
theorem slotsHold_put (c : Dev nD) (n : ℕ) (x8 : Vec F S2x512x2048 .fp8e4m3) (x9 : Vec F S2x512x128 .f32) (o8 : Fin S2x512x2048.rank → ℕ) (o9 : Fin S2x512x128.rank → ℕ)
    (h8 : o8 = ![n % 2, 0, 0]) (h9 : o9 = ![n % 2, 0, 0]) :
    slotsHold m c n (VecWindow.put (s := S2x512x2048) x8 o8 S1x512x2048.size (xSlot (xb m c n))) (VecWindow.put (s := S2x512x128) x9 o9 S1x512x128.size (sSlot (xb m c n))) := by
  subst h8; subst h9
  exact ⟨fun inb => VecWindow.window_put_same (s := S2x512x2048) _ _ _ inb _, fun inb => VecWindow.window_put_same (s := S2x512x128) _ _ _ inb _⟩

/-- The products a point computes from the slots are those of the tile before. -/
theorem prodT_of_slots (c : Dev nD) (t : Fin cfg0.N) (h : t.val ≠ 0) (x8 : Vec F S2x512x2048 .fp8e4m3) (x9 : Vec F S2x512x128 .f32)
    (hs : slotsHold m c (t.val - 1) x8 x9) (i5) (i4) :
    yTiles (VecWindow.window (s := S2x512x2048) x8 (k0_off5 (grid0.coords t)) S1x512x2048.size i5) (VecWindow.window (s := S2x512x128) x9 (k0_off4 (grid0.coords t)) S1x512x128.size i4) (wb m c t.val) (wsb m c t.val)
      = prodT m c (t.val - 1) := by
  unfold prodT
  rw [Nat.sub_add_cancel (Nat.one_le_iff_ne_zero.mpr h), window_congr x8 (off5_at t h) _ _ (by rw [← off5_at t h]; exact i5),
    window_congr x9 (off4_at t h) _ _ (by rw [← off4_at t h]; exact i4), hs.1, hs.2]

theorem accAt_step (c : Dev nD) (n : ℕ) (h : n ≠ 0) : accN (accAt m c (n - 1)) (prodT m c (n - 1)) 11 = accAt m c n := by
  obtain ⟨k, rfl⟩ := Nat.exists_eq_succ_of_ne_zero h
  rfl

end Cert.KernelIdeal.Hand

end
-- ==== Proof.Ideal.MainRun.lean ====
/-
  The body's triple at every point of the main call's grid, over the relational proof data.
-/
module

public import proofs.«01_k».proof.Proof.Ideal.Data

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at any point: from the windows' buffers and the scratch as the point before left them, to the buffers
    in the relation of the proof data and the scratch as this point leaves it. -/
theorem sound_body (c : Dev nD) (t : Fin cfg0.N) (x0 : Vec F S512x2048 .bf16) (x1 : Vec F S2048x5632 .fp8e4m3) (x2 : Vec F S1x5632 .f32) (x3 : Vec F S512x5632 .fp8e4m3) (x4 : Vec F S512x2048 .fp8e4m3) (x5 : Vec F S1x1x512 .f32) (x6 : Vec F S49 .i32) (x7 : Vec F S2 .f32) (h0 : x0 = xb m c t.val) (h1 : x1 = wb m c t.val) (h2 : x2 = wsb m c t.val) :
    iprop(PhiS m c t.val ∗ (rdat m c).owesAt () t.castSucc ∗ owns (c : Thread nD τ) (win0_0.stage (cfg0.slots t 0)) fullShare x0 ∗ owns (c : Thread nD τ) (win0_1.stage (cfg0.slots t 1)) fullShare x1 ∗ owns (c : Thread nD τ) (win0_2.stage (cfg0.slots t 2)) fullShare x2 ∗ owns (c : Thread nD τ) (win0_3.stage (cfg0.slots t 3)) fullShare x3 ∗ owns (c : Thread nD τ) (win0_4.stage (cfg0.slots t 4)) fullShare x4 ∗ owns (c : Thread nD τ) (win0_5.stage (cfg0.slots t 5)) fullShare x5 ∗ owns (c : Thread nD τ) (win0_6.stage (cfg0.slots t 6)) fullShare x6 ∗ owns (c : Thread nD τ) (win0_7.stage (cfg0.slots t 7)) fullShare x7)
      ⊢ wp frame (wpE (defs₀ (F := F)) Variants.none c none) Set.univ (bodyAt0 t) (fun _ =>
        iprop(PhiS m c (t.val + 1) ∗ (rdat m c).owesAt () t.succ ∗ (∃ X, ⌜afterRel m c t 0 x0 X⌝ ∗ owns (c : Thread nD τ) (win0_0.stage (cfg0.slots t 0)) fullShare X) ∗ (∃ X, ⌜afterRel m c t 1 x1 X⌝ ∗ owns (c : Thread nD τ) (win0_1.stage (cfg0.slots t 1)) fullShare X) ∗ (∃ X, ⌜afterRel m c t 2 x2 X⌝ ∗ owns (c : Thread nD τ) (win0_2.stage (cfg0.slots t 2)) fullShare X) ∗ (∃ X, ⌜afterRel m c t 3 x3 X⌝ ∗ owns (c : Thread nD τ) (win0_3.stage (cfg0.slots t 3)) fullShare X) ∗ (∃ X, ⌜afterRel m c t 4 x4 X⌝ ∗ owns (c : Thread nD τ) (win0_4.stage (cfg0.slots t 4)) fullShare X) ∗ (∃ X, ⌜afterRel m c t 5 x5 X⌝ ∗ owns (c : Thread nD τ) (win0_5.stage (cfg0.slots t 5)) fullShare X) ∗ (∃ X, ⌜afterRel m c t 6 x6 X⌝ ∗ owns (c : Thread nD τ) (win0_6.stage (cfg0.slots t 6)) fullShare X) ∗ (∃ X, ⌜afterRel m c t 7 x7 X⌝ ∗ owns (c : Thread nD τ) (win0_7.stage (cfg0.slots t 7)) fullShare X))) := by
  unfold bodyAt0
  rw [show (rdat m c).owesAt () t.succ = (rdat m c).owesAt () t.castSucc from rfl]
  rw [show PhiS m c (t.val + 1) = iprop(iprop((∃ x8, ∃ x9, ⌜slotsHold m c t.val x8 x9⌝ ∗ owns (c : Thread nD τ) scM0 fullShare x8 ∗ owns (c : Thread nD τ) scM1 fullShare x9) ∗ owns (c : Thread nD τ) scM2 fullShare (accAt m c t.val)) ∗ (∃ r, prngReg c r)) from rfl]
  by_cases hz : t.val = 0
  · rw [show PhiS m c t.val = Pipeline.ΦA spec0 c by rw [hz]; rfl, PhiA_eq]
    · iintro ⟨⟨⟨⟨%x8, H8⟩, ⟨%x9, H9⟩, ⟨%x10, H10⟩⟩, Hg⟩, Ho, H0, H1, H2, H3, H4, H5, H6, H7⟩
      iapply (soundA c (grid0.coords t) _ _ _ _ _ _ _ _ _ _ _ _ _ _ _ _ _ _ _ _ _ _ ((hcond1 t).mpr hz) (fun h => (hcond2 t).mp h hz) (fun h => by have := (hcond3 t).mp h; omega) x0 x1 x2 x3 x4 x5 x6 x7 x8 x9 x10 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [H8 H9 H10 Hg]
      · isplitl [H8 H9 H10]
        · isplitl [H8 H9]
          · iexists _, _; isplitr; swap
            · isplitl [H8]; · iexact H8
              iexact H9
            · ipureintro; rw [h0]; exact slotsHold_put m c t.val _ _ _ _ (off1_at t) (off2_at t)
          · rw [show accAt m c t.val = k0_pay9 by rw [hz]; rfl]; iexact H10
        · iexact Hg
      isplitl [Ho]; · iexact Ho
      isplitl [H0]
      · iexists _; isplitr; swap
        · iexact H0
        · ipureintro; exact rfl
      isplitl [H1]
      · iexists _; isplitr; swap
        · iexact H1
        · ipureintro; exact rfl
      isplitl [H2]
      · iexists _; isplitr; swap
        · iexact H2
        · ipureintro; exact rfl
      isplitl [H3]
      · iexists _; isplitr; swap
        · iexact H3
        · ipureintro; exact (fun h => absurd hz h)
      isplitl [H4]
      · iexists _; isplitr; swap
        · iexact H4
        · ipureintro; exact (congrArg xCodes h0)
      isplitl [H5]
      · iexists _; isplitr; swap
        · iexact H5
        · ipureintro; exact (congrArg sRow h0)
      isplitl [H6]
      · iexists _; isplitr; swap
        · iexact H6
        · ipureintro; exact ⟨fun _ => rfl, fun h => absurd hz h, fun h => absurd h (by omega)⟩
      iexists _; isplitr; swap
      · iexact H7
      · ipureintro; exact ⟨fun _ => rfl, fun h => absurd h (by omega)⟩
  · obtain ⟨n, hn⟩ := Nat.exists_eq_succ_of_ne_zero hz
    rw [show PhiS m c t.val = iprop(iprop((∃ x8, ∃ x9, ⌜slotsHold m c (t.val - 1) x8 x9⌝ ∗ owns (c : Thread nD τ) scM0 fullShare x8 ∗ owns (c : Thread nD τ) scM1 fullShare x9) ∗ owns (c : Thread nD τ) scM2 fullShare (accAt m c (t.val - 1))) ∗ (∃ r, prngReg c r)) by rw [hn]; rfl]
    by_cases hl : t.val = 48
    · iintro ⟨⟨⟨⟨%x8, %x9, %hs, H8, H9⟩, H10⟩, Hg⟩, Ho, H0, H1, H2, H3, H4, H5, H6, H7⟩
      have hP := prodT_of_slots m c t hz x8 x9 hs (k0_off5_inb _ ((hcond2 t).mpr hz)) (k0_off4_inb _ ((hcond2 t).mpr hz))
      rw [← h1, ← h2] at hP
      iapply (soundC c (grid0.coords t) _ _ _ _ _ _ _ _ _ _ _ _ _ _ _ _ _ _ _ _ _ _ (fun h => hz ((hcond1 t).mp h)) ((hcond2 t).mpr hz) ((hcond3 t).mpr hl) x0 x1 x2 x3 x4 x5 x6 x7 x8 x9 (accAt m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [H8 H9 H10 Hg]
      · isplitl [H8 H9 H10]
        · isplitl [H8 H9]
          · iexists _, _; isplitr; swap
            · isplitl [H8]; · iexact H8
              iexact H9
            · ipureintro; rw [h0]; exact slotsHold_put m c t.val _ _ _ _ (off6_at t) (off7_at t)
          · rw [← accAt_step m c t.val hz, ← hP]; iexact H10
        · iexact Hg
      isplitl [Ho]; · iexact Ho
      isplitl [H0]
      · iexists _; isplitr; swap
        · iexact H0
        · ipureintro; exact rfl
      isplitl [H1]
      · iexists _; isplitr; swap
        · iexact H1
        · ipureintro; exact rfl
      isplitl [H2]
      · iexists _; isplitr; swap
        · iexact H2
        · ipureintro; exact rfl
      isplitl [H3]
      · iexists _; isplitr; swap
        · iexact H3
        · ipureintro; exact (fun _ => by rw [hP]; rfl)
      isplitl [H4]
      · iexists _; isplitr; swap
        · iexact H4
        · ipureintro; exact (congrArg xCodes h0)
      isplitl [H5]
      · iexists _; isplitr; swap
        · iexact H5
        · ipureintro; exact (congrArg sRow h0)
      isplitl [H6]
      · iexists _; isplitr; swap
        · iexact H6
        · ipureintro; exact ⟨fun h => absurd h hz, fun _ h => absurd hl h, fun _ => by rw [off3_at t hz, hP, accAt_step m c t.val hz, hl]; rfl⟩
      iexists _; isplitr; swap
      · iexact H7
      · ipureintro; exact ⟨fun h => absurd hl h, fun _ => by rw [hP, accAt_step m c t.val hz, hl]; rfl⟩
    · iintro ⟨⟨⟨⟨%x8, %x9, %hs, H8, H9⟩, H10⟩, Hg⟩, Ho, H0, H1, H2, H3, H4, H5, H6, H7⟩
      have hP := prodT_of_slots m c t hz x8 x9 hs (k0_off5_inb _ ((hcond2 t).mpr hz)) (k0_off4_inb _ ((hcond2 t).mpr hz))
      rw [← h1, ← h2] at hP
      iapply (soundB c (grid0.coords t) _ _ _ _ _ _ _ _ _ _ _ _ _ _ _ _ _ _ _ _ _ _ (fun h => hz ((hcond1 t).mp h)) ((hcond2 t).mpr hz) (fun h => hl ((hcond3 t).mp h)) x0 x1 x2 x3 x4 x5 x6 x7 x8 x9 (accAt m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [H8 H9 H10 Hg]
      · isplitl [H8 H9 H10]
        · isplitl [H8 H9]
          · iexists _, _; isplitr; swap
            · isplitl [H8]; · iexact H8
              iexact H9
            · ipureintro; rw [h0]; exact slotsHold_put m c t.val _ _ _ _ (off6_at t) (off7_at t)
          · rw [← accAt_step m c t.val hz, ← hP]; iexact H10
        · iexact Hg
      isplitl [Ho]; · iexact Ho
      isplitl [H0]
      · iexists _; isplitr; swap
        · iexact H0
        · ipureintro; exact rfl
      isplitl [H1]
      · iexists _; isplitr; swap
        · iexact H1
        · ipureintro; exact rfl
      isplitl [H2]
      · iexists _; isplitr; swap
        · iexact H2
        · ipureintro; exact rfl
      isplitl [H3]
      · iexists _; isplitr; swap
        · iexact H3
        · ipureintro; exact (fun _ => by rw [hP]; rfl)
      isplitl [H4]
      · iexists _; isplitr; swap
        · iexact H4
        · ipureintro; exact (congrArg xCodes h0)
      isplitl [H5]
      · iexists _; isplitr; swap
        · iexact H5
        · ipureintro; exact (congrArg sRow h0)
      isplitl [H6]
      · iexists _; isplitr; swap
        · iexact H6
        · ipureintro; exact ⟨fun h => absurd h hz, fun _ _ => by rw [off3_at t hz]; rfl, fun h => absurd h hl⟩
      iexists _; isplitr; swap
      · iexact H7
      · ipureintro; exact ⟨fun _ => rfl, fun h => absurd h hl⟩

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : (rdat (F := F) m c).BodyObligation (defs₀ (F := F)) Variants.none () Set.univ := fun t Y hY => by
  rw [bigSep_W0, bigSep_W0, defs₀_row]
  exact triple_restated (sound_body m c t (Y 0) (Y 1) (Y 2) (Y 3) (Y 4) (Y 5) (Y 6) (Y 7) (finds0 m c t _ (hY 0)) (finds1 m c t _ (hY 1)) (finds2 m c t _ (hY 2))) rfl .rfl fun _ => .rfl

/-- What the launch hands the region is the invariant before the first point. -/
theorem hin (c : Dev nD) : Pipeline.ΦA spec0 c ⊢ (rdat m c).Φ 0 := by
  rw [show (rdat m c).Φ 0 = Pipeline.ΦA spec0 c from rfl]

/-- After the last point the scratch is forgotten. -/
theorem hout (c : Dev nD) : (rdat m c).Φ (Fin.last cfg0.N) ⊢ Pipeline.ΦA spec0 c := by
  rw [show (rdat m c).Φ (Fin.last cfg0.N) = PhiS m c (48 + 1) from (show PhiS m c (Fin.last cfg0.N).val = _ by rw [Fin.val_last, show cfg0.N = 49 from N_0]), PhiA_eq]
  unfold PhiS
  iintro ⟨⟨⟨%x8, %x9, %hs, H8, H9⟩, H10⟩, Hg⟩
  isplitl [H8 H9 H10]
  · isplitl [H8]
    · iexists _; iexact H8
    isplitl [H9]
    · iexists _; iexact H9
    iexists _; iexact H10
  iexact Hg

/-! ## The run and the frame -/

set_option backward.isDefEq.respectTransparency.types false in
/-- Every weakly fair execution ends, with every staged array at contents the relations allow, every other array as
    the region found it, and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := body_obligation m) (hshare := fun c w => by unfold Pipeline.RDat.share; split <;> rfl)
    (howed := fun _ _ => rfl) (V := V m) (hmain := hmain m Variants.none) (hA := rdat_A m) (hin := hin m) (hout := hout m)

theorem unchanged_of (r : PUnit × MemSt nD τ sig (Elt F)) (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
      (Pipeline.RDat.FramePost.arr_in h c 1 rfl).trans ((rdat_A m c 1).trans (V_main_arg1 m c)),
      ((h c).2 main_arg2 (Pipeline.mem_restRefs_of main_arg2 (by decide) (by decide))).trans (V_main_arg2 m c)⟩

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨unchanged_of m r h.1, h.2⟩) (run_main_quiescent m ρ)

end Cert.KernelIdeal.Hand

end
-- ==== Proof.Ideal.Field.lean ====
/-
  The exponent search over the reals: the field found bit by bit is the floor of the base-two logarithm plus the bias,
  so the scale and its inverse are the powers of two of the exponent the plain formula names.
-/
module

public import proofs.«01_k».proof.Proof.Ideal.Values
public import Idealize.ShloMosaic.PureOps.Ideal.Laws
public import Mathlib.Tactic.Linarith
public import Mathlib.Tactic.NormNum
public import Mathlib.Tactic.Ring
public import Mathlib.Analysis.SpecialFunctions.Pow.Real

@[expose] public section

noncomputable section

namespace Cert.KernelIdeal.Hand

open Idealize.ShloMosaic
open Cert.KernelIdeal

/-- The number whose exponent field is `n` and whose fraction is zero. -/
def pw (n : ℕ) : EReal := Ideal.ofBits .f32 (BitVec.ofNat 32 n <<< 23)

theorem bits_of_field : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

theorem pw_mid (n : ℕ) (h1 : 1 ≤ n) (h2 : n ≤ 254) : pw n = (((2 : ℝ) ^ ((n : ℤ) - 127) : ℝ) : EReal) := by
  obtain ⟨ha, hb, hc⟩ := bits_of_field ⟨n, by omega⟩
  have e1 : ¬ n = 255 := by omega
  have e2 : ¬ n = 0 := by omega
  have key : (1 * ((2 ^ 23 + 0 : ℕ) : ℝ) * (2 : ℝ) ^ ((n : ℤ) - (2 ^ (8 - 1) - 1) - (23 : ℕ))) = (2 : ℝ) ^ ((n : ℤ) - 127) := by
    rw [show (n : ℤ) - (2 ^ (8 - 1) - 1) - (23 : ℕ) = ((n : ℤ) - 127) + (-23) by norm_num; ring, zpow_add₀ (by norm_num)]
    norm_num
    ring
  unfold pw
  simp only [Ideal.ofBits, Ideal.ieee]
  simp only at ha hb hc
  rw [ha, hb, hc]
  rw [if_neg (by norm_num; omega), if_neg e2]
  exact congrArg _ key

theorem pw_top : pw 255 = ⊤ := by
  obtain ⟨ha, hb, hc⟩ := bits_of_field ⟨255, by omega⟩
  unfold pw
  simp only [Ideal.ofBits, Ideal.ieee]
  simp only at ha hb hc
  rw [ha, hb, hc]
  simp

theorem sh23V (x : BitVec 32) : IntOp.shli .vector x 23#32 = x <<< 23 := by
  rfl
theorem sh23S (x : BitVec 32) : Scalar.shli x 23#32 = x <<< 23 := by
  rfl

/-- One step of the search, when the powers of two at most `v` are those up to field `N`. -/
theorem fstepV_spec (v : Ideal .f32) (N : ℕ) (H : ∀ n, 1 ≤ n → n ≤ 255 → (pw n ≤ (v : EReal) ↔ n ≤ N)) (f b : ℕ)
    (hb : 1 ≤ b) (h1 : f ≤ N) (h2 : N < f + 2 * b) (h3 : f + 2 * b ≤ 256) :
    ∃ f', fstepV v (BitVec.ofNat 32 f) (BitVec.ofNat 32 b) = BitVec.ofNat 32 f' ∧ f' ≤ N ∧ N < f' + b ∧ f' + b ≤ 256 := by
  have e : IntOp.addi (BitVec.ofNat 32 f) (BitVec.ofNat 32 b) = BitVec.ofNat 32 (f + b) := by
    show BitVec.ofNat 32 f + BitVec.ofNat 32 b = _
    rw [BitVec.ofNat_add]
  have hH := H (f + b) (by omega) (by omega)
  unfold fstepV
  rw [e, sh23V]
  by_cases h : f + b ≤ N
  · refine ⟨f + b, ?_, h, by omega, by omega⟩
    have hc : FloatOps.cmpf (F := Ideal) .oge v (FloatOps.ofBits .f32 (BitVec.ofNat 32 (f + b) <<< 23)) = 1#1 := by
      show BitVec.ofBool (decide (pw (f + b) ≤ (v : EReal))) = 1#1
      rw [decide_eq_true (hH.mpr h)]; rfl
    rw [hc]; rfl
  · refine ⟨f, ?_, h1, by omega, by omega⟩
    have hc : FloatOps.cmpf (F := Ideal) .oge v (FloatOps.ofBits .f32 (BitVec.ofNat 32 (f + b) <<< 23)) = 0#1 := by
      show BitVec.ofBool (decide (pw (f + b) ≤ (v : EReal))) = 0#1
      rw [decide_eq_false (fun h' => h (hH.mp h'))]; rfl
    rw [hc]; rfl

/-- The search finds the largest field whose power of two is at most `v`. -/
theorem search_eq (v : Ideal .f32) (N : ℕ) (hN : N ≤ 255) (H : ∀ n, 1 ≤ n → n ≤ 255 → (pw n ≤ (v : EReal) ↔ n ≤ N)) :
    fstepV v (fstepV v (fstepV v (fstepV v (fstepV v (fstepV v (fstepV v (fstepV v 0#32 128#32) 64#32) 32#32) 16#32) 8#32) 4#32) 2#32) 1#32 = BitVec.ofNat 32 N := by
  obtain ⟨f1, e1, a1, b1, c1⟩ := fstepV_spec v N H 0 128 (by omega) (by omega) (by omega) (by omega)
  obtain ⟨f2, e2, a2, b2, c2⟩ := fstepV_spec v N H f1 64 (by omega) (by omega) (by omega) (by omega)
  obtain ⟨f3, e3, a3, b3, c3⟩ := fstepV_spec v N H f2 32 (by omega) (by omega) (by omega) (by omega)
  obtain ⟨f4, e4, a4, b4, c4⟩ := fstepV_spec v N H f3 16 (by omega) (by omega) (by omega) (by omega)
  obtain ⟨f5, e5, a5, b5, c5⟩ := fstepV_spec v N H f4 8 (by omega) (by omega) (by omega) (by omega)
  obtain ⟨f6, e6, a6, b6, c6⟩ := fstepV_spec v N H f5 4 (by omega) (by omega) (by omega) (by omega)
  obtain ⟨f7, e7, a7, b7, c7⟩ := fstepV_spec v N H f6 2 (by omega) (by omega) (by omega) (by omega)
  obtain ⟨f8, e8, a8, b8, c8⟩ := fstepV_spec v N H f7 1 (by omega) (by omega) (by omega) (by omega)
  have : f8 = N := by omega
  subst this
  rw [show (0#32) = BitVec.ofNat 32 0 from rfl, e1, e2, e3, e4, e5, e6, e7, e8]

/-- The exponent of the scale of the quotient `q`: one more than the floor of its base-two logarithm where that is a
    normal number below 2 ^ 120, and zero elsewhere. -/
def expOf (q : EReal) : EReal :=
  Scalar.select (IntOp.andi (Ideal.cmp .oge q (Ideal.ofBits .f32 0x00800000#32)) (Ideal.cmp .olt q (Ideal.ofBits .f32 0x7B800000#32)))
    (Ideal.liftRound Int.floor (Ideal.div (Ideal.log q) (Ideal.log (Ideal.ofBits .f32 0x40000000#32))) + Ideal.ofBits .f32 0x3F800000#32)
    (Ideal.ofBits .f32 0x00000000#32)

theorem lo_eq : Ideal.ofBits .f32 0x00800000#32 = pw 1 := rfl
theorem hi_eq : Ideal.ofBits .f32 0x7B800000#32 = pw 247 := rfl
theorem two_eq : Ideal.ofBits .f32 0x40000000#32 = ((2 : ℝ) : EReal) := by
  rw [show Ideal.ofBits .f32 0x40000000#32 = pw 128 from rfl, pw_mid 128 (by omega) (by omega)]; norm_num
theorem one_eq : Ideal.ofBits .f32 0x3F800000#32 = ((1 : ℝ) : EReal) := by
  rw [show Ideal.ofBits .f32 0x3F800000#32 = pw 127 from rfl, pw_mid 127 (by omega) (by omega)]; norm_num
theorem zero_eq : Ideal.ofBits .f32 0x00000000#32 = ((0 : ℝ) : EReal) := by
  rw [Ideal.ofBits_zero_f32]; rfl

theorem pw_le_pw (a b : ℕ) (ha : 1 ≤ a) (hb : b ≤ 254) (ha' : a ≤ 254) (hb' : 1 ≤ b) : pw a ≤ pw b ↔ a ≤ b := by
  rw [pw_mid a ha ha', pw_mid b hb' hb, EReal.coe_le_coe_iff, zpow_le_zpow_iff_right₀ (by norm_num)]
  omega

/-- The scale exponent and the field, together: a field `p` in 1..246 with `exponent = p - 126`. -/
theorem field_spec (q : Ideal .f32) : ∃ p : ℕ, 1 ≤ p ∧ p ≤ 246 ∧ plainV q = BitVec.ofNat 32 p ∧ expOf q = ((((p : ℤ) - 126 : ℤ) : ℝ) : EReal) := by
  by_cases hhi : (q : EReal) < pw 247
  · by_cases hlo : pw 1 ≤ (q : EReal)
    · -- a positive real
      have hne : (q : EReal) ≠ ⊤ := fun h => by rw [h] at hhi; exact absurd hhi not_top_lt
      have hnb : (q : EReal) ≠ ⊥ := fun h => by
        rw [h, pw_mid 1 (by omega) (by omega)] at hlo; exact absurd hlo (by simp)
      obtain ⟨r, hr⟩ : ∃ r : ℝ, (q : EReal) = (r : EReal) := ⟨(q : EReal).toReal, (EReal.coe_toReal hne hnb).symm⟩
      rw [hr, pw_mid 1 (by omega) (by omega), EReal.coe_le_coe_iff] at hlo
      rw [hr, pw_mid 247 (by omega) (by omega), EReal.coe_lt_coe_iff] at hhi
      have hr0 : 0 < r := lt_of_lt_of_le (zpow_pos (by norm_num) _) hlo
      set k : ℤ := ⌊Real.log r / Real.log 2⌋ with hk
      have hle : ∀ z : ℤ, (2 : ℝ) ^ z ≤ r ↔ z ≤ k := fun z => by
        rw [hk, Int.le_floor, le_div_iff₀ (Real.log_pos (by norm_num)), ← Real.log_zpow, Real.log_le_log_iff (zpow_pos (by norm_num) _) hr0]
      have hk1 : -126 ≤ k := (hle _).mp (by simpa using hlo)
      have hk2 : k < 120 := by
        by_contra h
        exact absurd ((hle 120).mpr (by omega)) (not_le.mpr (by simpa using hhi))
      obtain ⟨N, hN⟩ : ∃ N : ℕ, (N : ℤ) = k + 127 := ⟨(k + 127).toNat, by omega⟩
      have H : ∀ n, 1 ≤ n → n ≤ 255 → (pw n ≤ (q : EReal) ↔ n ≤ N) := fun n h1 h2 => by
        by_cases h255 : n = 255
        · subst h255
          rw [pw_top, hr]
          exact ⟨fun h => absurd h (by simp), fun h => absurd h (by omega)⟩
        · rw [pw_mid n h1 (by omega), hr, EReal.coe_le_coe_iff, hle]; omega
      refine ⟨N, by omega, by omega, ?_, ?_⟩
      · unfold plainV
        rw [search_eq q N (by omega) H]
        have hc : FloatOps.cmpf (F := Ideal) .olt q (FloatOps.ofBits .f32 0x7B800000#32) = 1#1 := by
          show BitVec.ofBool (decide ((q : EReal) < pw 247)) = 1#1
          rw [decide_eq_true (by rw [hr, pw_mid 247 (by omega) (by omega), EReal.coe_lt_coe_iff]; exact hhi)]; rfl
        unfold clampV
        rw [hc]
        show plainF (BitVec.ofNat 32 N) = _
        have : ∀ N : Fin 256, 1 ≤ N.val → N.val ≤ 254 → plainF (BitVec.ofNat 32 N.val) = BitVec.ofNat 32 N.val := by decide +kernel
        exact this ⟨N, by omega⟩ (by show 1 ≤ N; omega) (by show N ≤ 254; omega)
      · unfold expOf
        rw [lo_eq, hi_eq, two_eq, one_eq, zero_eq]
        have c1 : Ideal.cmp .oge (q : EReal) (pw 1) = 1#1 := by
          show BitVec.ofBool (decide (pw 1 ≤ (q : EReal))) = 1#1
          rw [decide_eq_true (by rw [hr, pw_mid 1 (by omega) (by omega), EReal.coe_le_coe_iff]; exact hlo)]; rfl
        have c2 : Ideal.cmp .olt (q : EReal) (pw 247) = 1#1 := by
          show BitVec.ofBool (decide ((q : EReal) < pw 247)) = 1#1
          rw [decide_eq_true (by rw [hr, pw_mid 247 (by omega) (by omega), EReal.coe_lt_coe_iff]; exact hhi)]; rfl
        rw [c1, c2]
        show Ideal.liftRound Int.floor (Ideal.div (Ideal.log (q : EReal)) (Ideal.log ((2 : ℝ) : EReal))) + ((1 : ℝ) : EReal) = _
        rw [hr]
        have hl2 : Real.log 2 ≠ 0 := (Real.log_pos (by norm_num)).ne'
        have d : Ideal.div (Ideal.log (r : EReal)) (Ideal.log ((2 : ℝ) : EReal)) = ((Real.log r / Real.log 2 : ℝ) : EReal) := by
          rw [Ideal.log_coe, Ideal.log_coe, if_neg (not_le.mpr hr0), if_neg (by norm_num)]
          unfold Ideal.div
          rw [if_neg (by simpa using hl2), ← EReal.coe_inv, ← EReal.coe_mul]
          rfl
        rw [d]
        show (((⌊Real.log r / Real.log 2⌋ : ℤ) : ℝ) : EReal) + ((1 : ℝ) : EReal) = _
        rw [← hk, ← EReal.coe_add]
        congr 1
        push_cast
        have : ((N : ℤ) : ℝ) = ((k + 127 : ℤ) : ℝ) := by rw [hN]
        push_cast at this
        linarith
    · have H : ∀ n, 1 ≤ n → n ≤ 255 → (pw n ≤ (q : EReal) ↔ n ≤ 0) := fun n h1 h2 => by
        refine ⟨fun h => absurd ?_ hlo, fun h => absurd h (by omega)⟩
        refine le_trans ?_ h
        by_cases h255 : n = 255
        · subst h255; rw [pw_top]; exact le_top
        · exact (pw_le_pw 1 n (by omega) (by omega) (by omega) h1).mpr h1
      refine ⟨126, by omega, by omega, ?_, ?_⟩
      · unfold plainV
        rw [search_eq q 0 (by omega) H]
        have hc : FloatOps.cmpf (F := Ideal) .olt q (FloatOps.ofBits .f32 0x7B800000#32) = 1#1 := by
          show BitVec.ofBool (decide ((q : EReal) < pw 247)) = 1#1
          rw [decide_eq_true hhi]; rfl
        unfold clampV
        rw [hc]; decide
      · unfold expOf
        rw [lo_eq, hi_eq, zero_eq]
        have c1 : Ideal.cmp .oge (q : EReal) (pw 1) = 0#1 := by
          show BitVec.ofBool (decide (pw 1 ≤ (q : EReal))) = 0#1
          rw [decide_eq_false hlo]; rfl
        rw [c1]
        show Scalar.select (0#1 &&& _) _ _ = _
        rw [BitVec.zero_and]
        show ((0 : ℝ) : EReal) = _
        norm_num
  · refine ⟨126, by omega, by omega, ?_, ?_⟩
    · unfold plainV
      have hc : FloatOps.cmpf (F := Ideal) .olt q (FloatOps.ofBits .f32 0x7B800000#32) = 0#1 := by
        show BitVec.ofBool (decide ((q : EReal) < pw 247)) = 0#1
        rw [decide_eq_false hhi]; rfl
      unfold clampV
      rw [hc]
      show plainF 255#32 = _
      decide
    · unfold expOf
      rw [lo_eq, hi_eq, zero_eq]
      have c2 : Ideal.cmp .olt (q : EReal) (pw 247) = 0#1 := by
        show BitVec.ofBool (decide ((q : EReal) < pw 247)) = 0#1
        rw [decide_eq_false hhi]; rfl
      rw [c2]
      show Scalar.select (_ &&& 0#1) _ _ = _
      rw [BitVec.and_zero]
      show ((0 : ℝ) : EReal) = _
      norm_num

theorem exp2_int (z : ℤ) : Ideal.exp2 (((z : ℝ) : ℝ) : EReal) = (((2 : ℝ) ^ z : ℝ) : EReal) := by
  rw [Ideal.exp2_coe]
  exact congrArg _ (Real.rpow_intCast 2 z)

/-- The scale on a lane is the power of two of the exponent. -/
theorem scaleV_eq (q : Ideal .f32) : scaleV q = Ideal.exp2 (expOf q) := by
  obtain ⟨p, h1, h2, hp, he⟩ := field_spec q
  rw [he, exp2_int]
  unfold scaleV
  rw [hp, sh23V]
  have e : IntOp.addi (BitVec.ofNat 32 p) 1#32 = BitVec.ofNat 32 (p + 1) := by
    show BitVec.ofNat 32 p + BitVec.ofNat 32 1 = _
    rw [BitVec.ofNat_add]
  rw [e]
  show pw (p + 1) = _
  rw [pw_mid _ (by omega) (by omega)]
  congr 2
  push_cast; ring

/-- The inverse scale on a lane is the power of two of the negated exponent. -/
theorem invV_eq (q : Ideal .f32) : invV q = Ideal.exp2 (Ideal.ofBits .f32 0x00000000#32 - expOf q) := by
  obtain ⟨p, h1, h2, hp, he⟩ := field_spec q
  rw [he, zero_eq, ← EReal.coe_sub, show (0 : ℝ) - (((p : ℤ) - 126 : ℤ) : ℝ) = ((126 - (p : ℤ) : ℤ) : ℝ) by push_cast; ring, exp2_int]
  unfold invV
  rw [hp, sh23V]
  have e : IntOp.subi 253#32 (BitVec.ofNat 32 p) = BitVec.ofNat 32 (253 - p) := by
    have : ∀ p : Fin 247, IntOp.subi 253#32 (BitVec.ofNat 32 p.val) = BitVec.ofNat 32 (253 - p.val) := by decide +kernel
    exact this ⟨p, by omega⟩
  rw [e]
  show pw (253 - p) = _
  rw [pw_mid _ (by omega) (by omega)]
  congr 2
  rw [Nat.cast_sub (by omega)]; push_cast; ring

/-- The scalar unit's search is the vector unit's. -/
theorem scaleS_eq (q : Ideal .f32) : scaleS q = Ideal.exp2 (expOf q) := (show scaleS q = scaleV q from rfl).trans (scaleV_eq q)
theorem invS_eq (q : Ideal .f32) : invS q = Ideal.exp2 (Ideal.ofBits .f32 0x00000000#32 - expOf q) := (show invS q = invV q from rfl).trans (invV_eq q)

end Cert.KernelIdeal.Hand

end
-- ==== Proof.Ideal.Spec.lean ====
/-
  The mathematics both programs compute, over the extended reals and by coordinates: the quantiser of a row, the
  scaled product of a quantised row with a column of weights, and maxima told by their upper bounds.
-/
module

public import proofs.«01_k».proof.Proof.Ideal.Field
public import Idealize.ShloMosaic.Lib.Pointwise

@[expose] public section

noncomputable section

namespace Cert.Spec

open Idealize.ShloMosaic
open Cert.KernelIdeal.Hand (expOf)

/-- The magnitude of an extended real. -/
def mag (a : EReal) : EReal := max a (-a)

theorem mag_nonneg (a : EReal) : 0 ≤ mag a := by
  unfold mag
  rcases le_total 0 a with h | h
  · exact le_max_of_le_left h
  · exact le_max_of_le_right (EReal.neg_nonneg.mpr h)

/-- The reciprocal of 448 as the programs hold it. -/
def c448 : EReal := Ideal.ofBits .f32 0x3B124925#32

/-- A row of a rectangle. -/
def rowOf {n K : ℕ} (x : (⟨2, ![n, K]⟩ : Shape).Idx → EReal) (r : Fin n) : Fin K → EReal := fun k => x (ix2 r k)

/-- The largest magnitude of a row. -/
def rowSup {K : ℕ} (f : Fin K → EReal) : EReal := Finset.univ.sup fun k => mag (f k)

/-- The exponent of a row's scale. -/
def rowExp {K : ℕ} (f : Fin K → EReal) : EReal := expOf (rowSup f * c448)

/-- The scale of a row. -/
def scal {K : ℕ} (f : Fin K → EReal) : EReal := Ideal.exp2 (rowExp f)

/-- The code of one element of a row: the element times the inverse scale, clipped to the format's range. -/
def code {K : ℕ} (f : Fin K → EReal) (k : Fin K) : EReal :=
  min (Ideal.ofBits .f32 0x43E00000#32) (max (Ideal.ofBits .f32 0xC3E00000#32) (f k * Ideal.exp2 (Ideal.ofBits .f32 0x00000000#32 - rowExp f)))

/-- The product of a quantised row with a column of weight codes, times both scales. -/
def yval {K : ℕ} (f : Fin K → EReal) (w : Fin K → EReal) (s : EReal) : EReal :=
  (∑ k : Fin K, code f k * w k) * scal f * s

theorem rowSup_le {K : ℕ} (f : Fin K → EReal) (b : EReal) : rowSup f ≤ b ↔ ∀ k, mag (f k) ≤ b := by
  unfold rowSup; simp

/-- The value a maximum starts at. -/
theorem ofBits_bot : Ideal.ofBits .f32 0xFF800000#32 = ⊥ := by
  simp [Ideal.ofBits, Ideal.ieee]

theorem fold_max_le {ι : Type} (S : Finset ι) (f : ι → EReal) (b : EReal) : S.fold max (Ideal.ofBits .f32 0xFF800000#32) f ≤ b ↔ ∀ i ∈ S, f i ≤ b := by
  rw [ofBits_bot]; exact Finset.sup_le_iff

theorem lo_eq : Ideal.ofBits .bf16 0xC3E0#16 = Ideal.ofBits .f32 0xC3E00000#32 := by
  simp [Ideal.ofBits, Ideal.ieee]; norm_num
  rw [← EReal.coe_mul, ← EReal.coe_mul]; norm_num
theorem hi_eq : Ideal.ofBits .bf16 0x43E0#16 = Ideal.ofBits .f32 0x43E00000#32 := by
  simp [Ideal.ofBits, Ideal.ieee]; norm_num
  rw [← EReal.coe_mul, ← EReal.coe_mul]; norm_num

end Cert.Spec

end
-- ==== Proof.Ideal.PureMax.lean ====
/-
  The row maximum of a block of x, as the body takes it lane group by lane group, is the maximum of the whole row.
-/
module

public import proofs.«01_k».proof.Proof.Ideal.Spec

@[expose] public section

set_option maxRecDepth 16384

noncomputable section

namespace Cert.KernelIdeal.Hand

open Idealize.ShloMosaic Idealize.ShloMosaic.TcCoe Idealize.SL.Sem
open Cert.KernelIdeal Cert.KernelIdeal.Gen Cert.Spec

theorem pay12_at (a0 a1 a2 a3 a4 a5 a6 a7 a8 a9 a10 a11 a12 a13 a14 a15 : FVec Ideal S512x128 .bf16) (r : Fin 512) (z : Fin 1) :
    k0_pay12 (F := Ideal) (k0_pay10 (F := Ideal) a0 a1 a2 a3 a4 a5 a6 a7) (k0_pay11 (F := Ideal) a8) a9 a10 a11 a12 a13 a14 a15 (ix2 r z)
      = (Finset.univ.fold max (Ideal.ofBits .f32 0xFF800000#32) fun l : Fin 128 =>
          max (max (max (max (max (max (max (max (max (max (max (max (max (max (max (mag (a0 (ix2 r l))) (mag (a1 (ix2 r l)))) (mag (a2 (ix2 r l)))) (mag (a3 (ix2 r l)))) (mag (a4 (ix2 r l)))) (mag (a5 (ix2 r l)))) (mag (a6 (ix2 r l)))) (mag (a7 (ix2 r l)))) (mag (a8 (ix2 r l)))) (mag (a9 (ix2 r l)))) (mag (a10 (ix2 r l)))) (mag (a11 (ix2 r l)))) (mag (a12 (ix2 r l)))) (mag (a13 (ix2 r l)))) (mag (a14 (ix2 r l)))) (mag (a15 (ix2 r l)))) * c448 := by
  pointwise [k0_pay12, k0_pay10, k0_pay11]
  rfl

/-- A group of lanes of a block, read at a lane. -/
theorem win_at (x : FVec Ideal S512x2048 .bf16) (r : Fin 512) (o : ℕ) (inb : ∀ a, ![0, o] a + (![512, 128] : Fin 2 → ℕ) a ≤ S512x2048.size a) (l : Fin 128)
    (k : Fin 2048) (hk : k.val = o + l.val) :
    VecWindow.window (s := S512x2048) (α := Elt Ideal .bf16) x ![0, o] ![512, 128] inb (ix2 r l) = rowOf x r k := by
  refine congrArg x (funext fun a => Fin.ext ?_)
  match a with
  | ⟨0, _⟩ => exact (show 0 + 1 * r.val = r.val by omega)
  | ⟨1, _⟩ => exact (show o + 1 * l.val = k.val by omega)

/-- The quotient of a row: its largest magnitude over 448. -/
theorem xQ_at (x : FVec Ideal S512x2048 .bf16) (r : Fin 512) (z : Fin 1) : xQ (F := Ideal) x (ix2 r z) = rowSup (rowOf x r) * c448 := by
  refine (pay12_at _ _ _ _ _ _ _ _ _ _ _ _ _ _ _ _ r z).trans (congrArg (· * c448) (eq_of_forall_ge_iff fun b => ?_))
  rw [fold_max_le, rowSup_le]
  simp only [max_le_iff]
  constructor
  · intro h k
    have hl := h ⟨k.val % 128, by omega⟩ (Finset.mem_univ _)
    obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := hl
    have hk := k.isLt
    obtain hg | hg | hg | hg | hg | hg | hg | hg | hg | hg | hg | hg | hg | hg | hg | hg :
      k.val / 128 = 0 ∨ k.val / 128 = 1 ∨ k.val / 128 = 2 ∨ k.val / 128 = 3 ∨ k.val / 128 = 4 ∨ k.val / 128 = 5 ∨ k.val / 128 = 6 ∨ k.val / 128 = 7 ∨ k.val / 128 = 8 ∨ k.val / 128 = 9 ∨ k.val / 128 = 10 ∨ k.val / 128 = 11 ∨ k.val / 128 = 12 ∨ k.val / 128 = 13 ∨ k.val / 128 = 14 ∨ k.val / 128 = 15 := by omega
    · exact (win_at x r 0 _ ⟨k.val % 128, by omega⟩ k (by show k.val = 0 + k.val % 128; omega)) ▸ h0
    · exact (win_at x r 128 _ ⟨k.val % 128, by omega⟩ k (by show k.val = 128 + k.val % 128; omega)) ▸ h1
    · exact (win_at x r 256 _ ⟨k.val % 128, by omega⟩ k (by show k.val = 256 + k.val % 128; omega)) ▸ h2
    · exact (win_at x r 384 _ ⟨k.val % 128, by omega⟩ k (by show k.val = 384 + k.val % 128; omega)) ▸ h3
    · exact (win_at x r 512 _ ⟨k.val % 128, by omega⟩ k (by show k.val = 512 + k.val % 128; omega)) ▸ h4
    · exact (win_at x r 640 _ ⟨k.val % 128, by omega⟩ k (by show k.val = 640 + k.val % 128; omega)) ▸ h5
    · exact (win_at x r 768 _ ⟨k.val % 128, by omega⟩ k (by show k.val = 768 + k.val % 128; omega)) ▸ h6
    · exact (win_at x r 896 _ ⟨k.val % 128, by omega⟩ k (by show k.val = 896 + k.val % 128; omega)) ▸ h7
    · exact (win_at x r 1024 _ ⟨k.val % 128, by omega⟩ k (by show k.val = 1024 + k.val % 128; omega)) ▸ h8
    · exact (win_at x r 1152 _ ⟨k.val % 128, by omega⟩ k (by show k.val = 1152 + k.val % 128; omega)) ▸ h9
    · exact (win_at x r 1280 _ ⟨k.val % 128, by omega⟩ k (by show k.val = 1280 + k.val % 128; omega)) ▸ h10
    · exact (win_at x r 1408 _ ⟨k.val % 128, by omega⟩ k (by show k.val = 1408 + k.val % 128; omega)) ▸ h11
    · exact (win_at x r 1536 _ ⟨k.val % 128, by omega⟩ k (by show k.val = 1536 + k.val % 128; omega)) ▸ h12
    · exact (win_at x r 1664 _ ⟨k.val % 128, by omega⟩ k (by show k.val = 1664 + k.val % 128; omega)) ▸ h13
    · exact (win_at x r 1792 _ ⟨k.val % 128, by omega⟩ k (by show k.val = 1792 + k.val % 128; omega)) ▸ h14
    · exact (win_at x r 1920 _ ⟨k.val % 128, by omega⟩ k (by show k.val = 1920 + k.val % 128; omega)) ▸ h15
  · intro h l _
    exact ⟨⟨⟨⟨⟨⟨⟨⟨⟨⟨⟨⟨⟨⟨⟨by exact (win_at x r 0 _ l ⟨0 + l.val, by omega⟩ rfl) ▸ h _, by exact (win_at x r 128 _ l ⟨128 + l.val, by omega⟩ rfl) ▸ h _⟩, by exact (win_at x r 256 _ l ⟨256 + l.val, by omega⟩ rfl) ▸ h _⟩, by exact (win_at x r 384 _ l ⟨384 + l.val, by omega⟩ rfl) ▸ h _⟩, by exact (win_at x r 512 _ l ⟨512 + l.val, by omega⟩ rfl) ▸ h _⟩, by exact (win_at x r 640 _ l ⟨640 + l.val, by omega⟩ rfl) ▸ h _⟩, by exact (win_at x r 768 _ l ⟨768 + l.val, by omega⟩ rfl) ▸ h _⟩, by exact (win_at x r 896 _ l ⟨896 + l.val, by omega⟩ rfl) ▸ h _⟩, by exact (win_at x r 1024 _ l ⟨1024 + l.val, by omega⟩ rfl) ▸ h _⟩, by exact (win_at x r 1152 _ l ⟨1152 + l.val, by omega⟩ rfl) ▸ h _⟩, by exact (win_at x r 1280 _ l ⟨1280 + l.val, by omega⟩ rfl) ▸ h _⟩, by exact (win_at x r 1408 _ l ⟨1408 + l.val, by omega⟩ rfl) ▸ h _⟩, by exact (win_at x r 1536 _ l ⟨1536 + l.val, by omega⟩ rfl) ▸ h _⟩, by exact (win_at x r 1664 _ l ⟨1664 + l.val, by omega⟩ rfl) ▸ h _⟩, by exact (win_at x r 1792 _ l ⟨1792 + l.val, by omega⟩ rfl) ▸ h _⟩, by exact (win_at x r 1920 _ l ⟨1920 + l.val, by omega⟩ rfl) ▸ h _⟩

end Cert.KernelIdeal.Hand

end
-- ==== Proof.Ideal.Pure.lean ====
/-
  The pieces of the kernel's body read at an index over the extended reals.
-/
module

public import proofs.«01_k».proof.Proof.Ideal.PureMax

@[expose] public section

set_option maxRecDepth 16384

noncomputable section

namespace Cert.KernelIdeal.Hand

open Idealize.ShloMosaic Idealize.ShloMosaic.TcCoe Idealize.SL.Sem
open Cert.KernelIdeal Cert.KernelIdeal.Gen Cert.Spec

theorem xMul_at (x : FVec Ideal S512x2048 .bf16) (r : Fin 512) (k : Fin 2048) : xMul (F := Ideal) x (ix2 r k) = x (ix2 r k) * invV (xQ (F := Ideal) x (ix2 r 0)) := by
  pointwise [xMul]

theorem xCodes_at (x : FVec Ideal S512x2048 .bf16) (r : Fin 512) (k : Fin 2048) : xCodes (F := Ideal) x (ix2 r k) = code (rowOf x r) k := by
  pointwise [xCodes, k0_pay1, xMul_at]
  rw [xQ_at, invV_eq, Cert.Spec.lo_eq, Cert.Spec.hi_eq]
  rfl

theorem xSlot_at (x : FVec Ideal S512x2048 .bf16) (z : Fin 1) (r : Fin 512) (k : Fin 2048) : xSlot (F := Ideal) x (ix3 z r k) = code (rowOf x r) k := by
  pointwise [xSlot, k0_pay2]
  exact xCodes_at x r k

theorem sSlot_at (x : FVec Ideal S512x2048 .bf16) (z : Fin 1) (r : Fin 512) (k : Fin 128) : sSlot (F := Ideal) x (ix3 z r k) = scal (rowOf x r) := by
  pointwise [sSlot, k0_pay4, k0_pay3, xScale]
  rw [xQ_at, scaleV_eq]
  rfl

theorem sRow_at (x : FVec Ideal S512x2048 .bf16) (z z' : Fin 1) (r : Fin 512) : sRow (F := Ideal) x (ix3 z z' r) = scal (rowOf x r) := by
  pointwise [sRow, k0_pay5, k0_pay3, xScale]
  rw [xQ_at, scaleV_eq]
  rfl

theorem yTile_at (c : FVec Ideal S1x512x2048 .fp8e4m3) (s : FVec Ideal S1x512x128 .f32) (w : FVec Ideal S2048x512 .fp8e4m3) (ws : FVec Ideal S1x512 .f32) (r j : Fin 512) :
    yTile (F := Ideal) c s w ws (ix2 r j) = (∑ k : Fin 2048, c (ix3 0 r k) * w (ix2 k j)) * s (ix3 0 r 0) * ws (ix2 0 j) := by
  pointwise [yTile, k0_pay32, k0_pay28]

theorem accStep_at (a : FVec Ideal S8x512 .f32) (y : FVec Ideal S512x512 .f32) (p : Fin 8) (q : Fin 512) (b : EReal) :
    accStep (F := Ideal) a y (ix2 p q) ≤ b ↔ a (ix2 p q) ≤ b ∧ ∀ s : Fin 64, mag (y (ix2 ⟨s.val * 8 + p.val, by omega⟩ q)) ≤ b := by
  pointwise [accStep]
  rw [max_le_iff, fold_max_le]
  exact and_congr_right fun _ => ⟨fun h s => h s (Finset.mem_univ _), fun h s _ => h s⟩

theorem amaxS_at (a : FVec Ideal S8x512 .f32) (b : EReal) :
    amaxS (F := Ideal) a ≤ b ↔ ∀ p : Fin 8, ∀ q : Fin 512, a (ix2 p q) ≤ b := by
  pointwise [amaxS, k0_pay79]
  rw [fold_max_le]
  exact ⟨fun h p q => h (p, q) (Finset.mem_univ _), fun h s _ => h s.1 s.2⟩

end Cert.KernelIdeal.Hand

end
-- ==== Proof.Ideal.Blocks.lean ====
/-
  The kernel's blocks and running values over the extended reals, in terms of the arrays the call is given: the rows of a
  row tile, a column tile of scaled products, the running maximum by its upper bounds.
-/
module

public import proofs.«01_k».proof.Proof.Ideal.Pure
public import proofs.«01_k».proof.Proof.Ideal.Data
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal Cert.KernelIdeal.Gen Cert.Spec

variable (m : (ℓ : Loc nD τ sig) → Buf (Elt Ideal) ℓ)

/-- The rows of `x` as the call gets them. -/
def xIn (c : Dev nD) : FVec Ideal S24576x2048 .bf16 := V m c main_v1
/-- The weight codes as the call gets them. -/
def wIn (c : Dev nD) : FVec Ideal S2048x5632 .fp8e4m3 := V m c main_arg1
/-- The weight scales as the call gets them. -/
def sIn (c : Dev nD) : FVec Ideal S1x5632 .f32 := V m c main_v0

/-- Where each window's block sits at a point. -/
theorem idx : ∀ t : Fin cfg0.N, win0_0.index t = ![min t.val 47, 0] ∧ win0_1.index t = ![0, 0] ∧ win0_2.index t = ![0, 0]
    ∧ win0_4.index t = ![min t.val 47, 0] ∧ win0_5.index t = ![min t.val 47, 0, 0] :=
  (by decide +kernel : ∀ t : Fin grid0.N, win0_0.index t = ![min t.val 47, 0] ∧ win0_1.index t = ![0, 0] ∧ win0_2.index t = ![0, 0]
    ∧ win0_4.index t = ![min t.val 47, 0] ∧ win0_5.index t = ![min t.val 47, 0, 0])

theorem iblk0_at (c : Dev nD) (t : Fin cfg0.N) (r : Fin 512) (k : Fin 2048) (R : Fin 24576) (hR : R.val = 512 * min t.val 47 + r.val) :
    (show FVec Ideal S512x2048 .bf16 from iblk m c 0 t) (ix2 r k) = xIn m c (ix2 R k) := by
  unfold xIn
  blk_ext! [iblk, idx t]

theorem iblk1_eq (c : Dev nD) (t : Fin cfg0.N) : (show FVec Ideal S2048x5632 .fp8e4m3 from iblk m c 1 t) = wIn m c := by
  unfold wIn
  blk_ext! [iblk, idx t]

theorem iblk2_eq (c : Dev nD) (t : Fin cfg0.N) : (show FVec Ideal S1x5632 .f32 from iblk m c 2 t) = sIn m c := by
  unfold sIn
  blk_ext! [iblk, idx t]

theorem pt_of_lt (n : ℕ) (h : n < 49) : (pt n).val = n := Nat.mod_eq_of_lt h

/-- A row of row tile `n` is that row of the whole array. -/
theorem xb_row (c : Dev nD) (n : ℕ) (hn : n < 49) (r : Fin 512) (R : Fin 24576) (hR : R.val = 512 * min n 47 + r.val) :
    rowOf (show FVec Ideal S512x2048 .bf16 from xb m c n) r = rowOf (xIn m c) R :=
  funext fun k => iblk0_at m c (pt n) r k R (by rw [pt_of_lt n hn]; exact hR)

/-- The scaled products of the whole arrays. -/
def yAll (c : Dev nD) (R : Fin 24576) (C : Fin 5632) : EReal :=
  yval (rowOf (xIn m c) R) (fun k => wIn m c (ix2 k C)) (sIn m c (ix2 0 C))

theorem wCol_at (w : FVec Ideal S2048x5632 .fp8e4m3) (j : ℕ) (k : Fin 2048) (q : Fin 512) (C : Fin 5632) (hC : C.val = 512 * j + q.val) :
    wCol (F := Ideal) w j (ix2 k q) = w (ix2 k C) := by
  have hlt := C.isLt
  refine congrArg w (funext fun a => Fin.ext ?_)
  match a with
  | ⟨0, _⟩ => rfl
  | ⟨1, _⟩ => exact (show (512 * j + q.val) % 5632 = C.val by rw [Nat.mod_eq_of_lt (by omega)]; omega)

theorem sCol_at (s : FVec Ideal S1x5632 .f32) (j : ℕ) (k : Fin 1) (q : Fin 512) (C : Fin 5632) (hC : C.val = 512 * j + q.val) :
    sCol (F := Ideal) s j (ix2 k q) = s (ix2 k C) := by
  have hlt := C.isLt
  refine congrArg s (funext fun a => Fin.ext ?_)
  match a with
  | ⟨0, _⟩ => rfl
  | ⟨1, _⟩ => exact (show (512 * j + q.val) % 5632 = C.val by rw [Nat.mod_eq_of_lt (by omega)]; omega)

/-- A column tile of scaled products of a row tile is that tile of the whole product. -/
theorem prodT_at (c : Dev nD) (n j : ℕ) (hn : n < 48) (r q : Fin 512) (R : Fin 24576) (C : Fin 5632)
    (hR : R.val = 512 * n + r.val) (hC : C.val = 512 * j + q.val) :
    (show FVec Ideal S512x512 .f32 from prodT m c n j) (ix2 r q) = yAll m c R C := by
  refine (yTile_at (xSlot (F := Ideal) (xb m c n)) (sSlot (F := Ideal) (xb m c n)) (wCol (F := Ideal) (wb m c (n + 1)) j) (sCol (F := Ideal) (wsb m c (n + 1)) j) r q).trans ?_
  unfold yAll yval
  have hw : (show FVec Ideal S2048x5632 .fp8e4m3 from wb m c (n + 1)) = wIn m c := iblk1_eq m c _
  have hs : (show FVec Ideal S1x5632 .f32 from wsb m c (n + 1)) = sIn m c := iblk2_eq m c _
  rw [← xb_row m c n (by omega) r R (by rw [Nat.min_eq_left (by omega)]; exact hR), ← hw, ← hs]
  refine congrArg₂ (· * ·) (congrArg₂ (· * ·) (Finset.sum_congr rfl fun k _ => congrArg₂ (· * ·) ?_ ?_) ?_) ?_
  · exact xSlot_at _ 0 r k
  · exact wCol_at _ j k q C hC
  · exact sSlot_at _ 0 r 0
  · exact sCol_at _ j 0 q C hC

/-- The running maximum after some column tiles, by its upper bounds. -/
theorem accN_le (a : FVec Ideal S8x512 .f32) (Y : ℕ → FVec Ideal S512x512 .f32) (n : ℕ) (p : Fin 8) (q : Fin 512) (b : EReal) :
    (show FVec Ideal S8x512 .f32 from accN (F := Ideal) a Y n) (ix2 p q) ≤ b ↔ a (ix2 p q) ≤ b ∧ ∀ j < n, ∀ s : Fin 64, mag (Y j (ix2 ⟨s.val * 8 + p.val, by omega⟩ q)) ≤ b := by
  induction n with
  | zero => exact ⟨fun h => ⟨h, fun j hj => absurd hj (Nat.not_lt_zero _)⟩, fun h => h.1⟩
  | succ n ih =>
    refine (accStep_at (accN (F := Ideal) a Y n) (Y n) p q b).trans ?_
    rw [show (accN (F := Ideal) a Y n (ix2 p q) ≤ b ↔ _) from ih]
    constructor
    · rintro ⟨⟨h1, h2⟩, h3⟩
      refine ⟨h1, fun j hj => ?_⟩
      rcases Nat.lt_succ_iff_lt_or_eq.mp hj with h | rfl
      · exact h2 j h
      · exact h3
    · rintro ⟨h1, h2⟩
      exact ⟨⟨h1, fun j hj => h2 j (Nat.lt_succ_of_lt hj)⟩, h2 n (Nat.lt_succ_self n)⟩

/-- The running maximum after some row tiles, by its upper bounds. -/
theorem accAt_le (c : Dev nD) (n : ℕ) (p : Fin 8) (q : Fin 512) (b : EReal) :
    (show FVec Ideal S8x512 .f32 from accAt m c n) (ix2 p q) ≤ b ↔ 0 ≤ b ∧ ∀ i < n, ∀ j < 11, ∀ s : Fin 64,
      mag ((show FVec Ideal S512x512 .f32 from prodT m c i j) (ix2 ⟨s.val * 8 + p.val, by omega⟩ q)) ≤ b := by
  induction n with
  | zero =>
    have h0 : (show FVec Ideal S8x512 .f32 from accAt m c 0) (ix2 p q) = 0 := by
      show k0_pay9 (F := Ideal) (ix2 p q) = 0
      pointwise [k0_pay9]
    rw [h0]
    exact ⟨fun h => ⟨h, fun j hj => absurd hj (Nat.not_lt_zero _)⟩, fun h => h.1⟩
  | succ n ih =>
    refine (accN_le (accAt m c n) (prodT m c n) 11 p q b).trans ?_
    rw [show (accAt m c n (ix2 p q) ≤ b ↔ _) from ih]
    constructor
    · rintro ⟨⟨h1, h2⟩, h3⟩
      refine ⟨h1, fun j hj => ?_⟩
      rcases Nat.lt_succ_iff_lt_or_eq.mp hj with h | rfl
      · exact h2 j h
      · exact h3
    · rintro ⟨h1, h2⟩
      exact ⟨⟨h1, fun j hj => h2 j (Nat.lt_succ_of_lt hj)⟩, h2 n (Nat.lt_succ_self n)⟩

/-- The final maximum is the largest magnitude of the whole product. -/
theorem amax_le (c : Dev nD) (b : EReal) :
    (show EReal from amaxS (F := Ideal) (accAt m c 48)) ≤ b ↔ ∀ R C, mag (yAll m c R C) ≤ b := by
  refine (amaxS_at (accAt m c 48) b).trans ?_
  constructor
  · intro h R C
    have hR := R.isLt
    have hC := C.isLt
    have h1 := ((accAt_le m c 48 ⟨R.val % 8, by omega⟩ ⟨C.val % 512, by omega⟩ b).mp (h _ _)).2 (R.val / 512) (by omega) (C.val / 512) (by omega) ⟨R.val % 512 / 8, by omega⟩
    rw [prodT_at m c (R.val / 512) (C.val / 512) (by omega) _ _ R C (by show R.val = 512 * (R.val / 512) + (R.val % 512 / 8 * 8 + R.val % 8); omega)
      (by show C.val = 512 * (C.val / 512) + C.val % 512; omega)] at h1
    exact h1
  · intro h p q
    refine (accAt_le m c 48 p q b).mpr ⟨(mag_nonneg _).trans (h ⟨0, by omega⟩ ⟨0, by omega⟩), fun i hi j hj s => ?_⟩
    rw [prodT_at m c i j hi _ _ ⟨512 * i + (s.val * 8 + p.val), by omega⟩ ⟨512 * j + q.val, by omega⟩ rfl rfl]
    exact h _ _

end Cert.KernelIdeal.Hand

end
-- ==== Proof.Ideal.Arrays.lean ====
/-
  What the result arrays of the main call hold after the run over the extended reals: the codes and the scales of
  every row, and the two statistics.
-/
module

public import proofs.«01_k».proof.Proof.Ideal.Blocks
public import proofs.«01_k».proof.Proof.Ideal.MainRun
public import Idealize.ShloMosaic.Lib.Claim

@[expose] public section

set_option maxRecDepth 16384

noncomputable section

namespace Cert.KernelIdeal.Hand

open Idealize.ShloMosaic Idealize.ShloMosaic.TcCoe Idealize.SL.Sem
open Cert.KernelIdeal Cert.KernelIdeal.Gen Cert.Spec

variable (m : (ℓ : Loc nD τ sig) → Buf (Elt Ideal) ℓ)

/-- The codes of `x`. -/
def codesOut (c : Dev nD) : FVec Ideal S24576x2048 .fp8e4m3 := fun i => code (rowOf (xIn m c) (i 0)) (i 1)

/-- The scales of `x`, row tile by row tile. -/
def scalesOut (c : Dev nD) : FVec Ideal S48x1x512 .f32 := fun i =>
  scal (rowOf (xIn m c) ⟨512 * (i 0).val + (i 2).val, by have h0 : (i 0).val < 48 := (i 0).isLt; have h2 : (i 2).val < 512 := (i 2).isLt; omega⟩)

/-- The statistics: the scale of the product and its largest magnitude. -/
def statOut (c : Dev nD) : FVec Ideal S2 .f32 := fun i =>
  if (i 0).val = 0 then scaleS (F := Ideal) (amaxQ (accAt m c 48)) else amaxS (F := Ideal) (accAt m c 48)

theorem codes_point (c : Dev nD) (n : ℕ) (hn : n < 49) (y : S512x2048.Idx) (i : S24576x2048.Idx) (h0 : (i 0).val = 512 * min n 47 + (y 0).val) (h1 : (i 1).val = (y 1).val) :
    xCodes (F := Ideal) (xb m c n) y = codesOut m c i := by
  refine (congrArg (xCodes (F := Ideal) (xb m c n)) (eq_ix2 y)).trans ((xCodes_at (xb m c n) (y 0) (y 1)).trans ?_)
  unfold codesOut
  rw [show rowOf (xb m c n) (y 0) = rowOf (xIn m c) (i 0) from xb_row m c n hn (y 0) (i 0) h0]
  exact congrArg (code (rowOf (xIn m c) (i 0))) (Fin.ext h1.symm)

theorem scales_point (c : Dev nD) (n : ℕ) (hn : n < 49) (y : S1x1x512.Idx) (i : S48x1x512.Idx) (h0 : (i 0).val = min n 47) (h2 : (i 2).val = (y 2).val) :
    sRow (F := Ideal) (xb m c n) y = scalesOut m c i := by
  refine (congrArg (sRow (F := Ideal) (xb m c n)) (eq_ix3 y)).trans ((sRow_at (xb m c n) (y 0) (y 1) (y 2)).trans ?_)
  unfold scalesOut
  refine congrArg scal (xb_row m c n hn (y 2) _ ?_)
  show 512 * (i 0).val + (i 2).val = 512 * min n 47 + (y 2).val
  rw [h0, h2]

theorem stat_point (c : Dev nD) (Y : FVec Ideal S2 .f32) (y i : S2.Idx) (h : (i 0).val = (y 0).val) : statAt m c Y y = statOut m c i := by
  have hy : (y 0).val < 2 := (y 0).isLt
  unfold statAt statOut
  simp only [VecWindow.put]
  by_cases h0 : (y 0).val = 0
  · rw [if_pos (h.trans h0), dif_neg fun hh => absurd (hh 0).1 (show ¬ 1 ≤ (y 0).val by omega), dif_pos]
    intro a
    obtain rfl : a = 0 := Subsingleton.elim _ _
    exact (show 0 ≤ (y 0).val ∧ (y 0).val < 0 + 1 by omega)
  · rw [if_neg (fun e => h0 (h.symm.trans e)), dif_pos]
    intro a
    obtain rfl : a = 0 := Subsingleton.elim _ _
    exact (show 1 ≤ (y 0).val ∧ (y 0).val < 1 + 1 by omega)

variable {m}

theorem codes_final {r : PUnit × MemSt nD τ sig (Elt Ideal)} (h : Pipeline.RDat.FramePost (cfgs 0) (rdat m) (V m) r) (c : Dev nD) :
    r.2.mem ((c.tc : Thread nD τ).loc main_v2_1) = codesOut m c := by
  obtain ⟨after, hL, hA⟩ := h.exists_exact c
  refine (hA 4).trans ?_
  refine Pipeline.Dat.arrAt_eq_of_covers _ 4 _ (by decide +kernel) fun t hf y => ?_
  obtain ⟨Y, -, hX⟩ := hL 4 t hf
  have hX' : after 4 t = xCodes (F := Ideal) (xb m c t.val) := hX
  blk_simp
  rw [Pipeline.RDat.withAfter_after, hX']
  have ht : t.val < 49 := Nat.lt_of_lt_of_eq t.isLt N_0
  have h0 : ((((win0_4.blk t).view.emb y) 0 : ℕ)) = 512 * min t.val 47 + (y 0).val := by blk_simp [idx t] <;> (try omega)
  have h1 : ((((win0_4.blk t).view.emb y) 1 : ℕ)) = (y 1).val := by blk_simp [idx t]
  exact codes_point m c t.val ht y _ h0 h1

theorem scales_final {r : PUnit × MemSt nD τ sig (Elt Ideal)} (h : Pipeline.RDat.FramePost (cfgs 0) (rdat m) (V m) r) (c : Dev nD) :
    r.2.mem ((c.tc : Thread nD τ).loc main_v2_2) = scalesOut m c := by
  obtain ⟨after, hL, hA⟩ := h.exists_exact c
  refine (hA 5).trans ?_
  refine Pipeline.Dat.arrAt_eq_of_covers _ 5 _ (by decide +kernel) fun t hf y => ?_
  obtain ⟨Y, -, hX⟩ := hL 5 t hf
  have hX' : after 5 t = sRow (F := Ideal) (xb m c t.val) := hX
  blk_simp
  rw [Pipeline.RDat.withAfter_after, hX']
  have ht : t.val < 49 := Nat.lt_of_lt_of_eq t.isLt N_0
  have h0 : ((((win0_5.blk t).view.emb y) 0 : ℕ)) = min t.val 47 := by
    have := (y 0).isLt
    have h : (y 0).val < 1 := this
    blk_simp [idx t] <;> (try omega)
  have h1 : ((((win0_5.blk t).view.emb y) 2 : ℕ)) = (y 2).val := by blk_simp [idx t]
  exact scales_point m c t.val ht y _ h0 h1

theorem stat_final {r : PUnit × MemSt nD τ sig (Elt Ideal)} (h : Pipeline.RDat.FramePost (cfgs 0) (rdat m) (V m) r) (c : Dev nD) :
    r.2.mem ((c.tc : Thread nD τ).loc main_v2_4) = statOut m c := by
  obtain ⟨after, hL, hA⟩ := h.exists_exact c
  refine (hA 7).trans ?_
  refine Pipeline.Dat.arrAt_eq_of_covers _ 7 _ (by decide +kernel) fun t hf y => ?_
  obtain ⟨Y, -, hX⟩ := hL 7 t hf
  have ht : t.val = 48 := by have := (flush0_7 t).mp hf; have h2 : t.val < 49 := Nat.lt_of_lt_of_eq t.isLt N_0; omega
  have hX' : after 7 t = statAt m c Y := hX.2 ht
  blk_simp
  rw [Pipeline.RDat.withAfter_after, hX']
  have h0 : ((((win0_7.blk t).view.emb y) 0 : ℕ)) = (y 0).val := by
    have e : win0_7.index t = ![0] := (by decide +kernel : ∀ t : Fin grid0.N, win0_7.index t = ![0]) t
    blk_simp [e]
  exact stat_point m c Y y _ h0

theorem xIn_eq (c : Dev nD) : xIn m c = shapeCast S24576x2048 (m ((c : Thread nD τ).loc main_arg0)) shapeCasts_S24x1024x2048_S24576x2048 := by
  unfold xIn
  entry_read
  rfl

theorem sIn_eq (c : Dev nD) : sIn m c = shapeCast S1x5632 (m ((c : Thread nD τ).loc main_arg2)) shapeCasts_S5632_S1x5632 := by
  unfold sIn
  entry_read
  rfl

theorem wIn_eq (c : Dev nD) : wIn m c = m ((c : Thread nD τ).loc main_arg1) := V_main_arg1 m c

/-- The run of the call with its results named. -/
theorem run_values (ρ : Dev nD → PrngReg) : θ_run defs (onTc (τ := τ) (main (F := Ideal))) ⟨m, fun _ => 0, ρ⟩ (fun r => ∀ c : Dev nD,
      r.2.mem ((c.tc : Thread nD τ).loc main_v2_4) = statOut m c
      ∧ r.2.mem ((c.tc : Thread nD τ).loc main_v2_1) = codesOut m c
      ∧ r.2.mem ((c.tc : Thread nD τ).loc main_v2_2) = scalesOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨stat_final h.1 c, codes_final h.1 c, scales_final h.1 c, unchanged_of m r h.1 c⟩) (run_main_quiescent m ρ)

end Cert.KernelIdeal.Hand

end
-- ==== Proof.Ideal.Reference.lean ====
/-
  The reference read at an index over the extended reals, and what its result arrays hold.
-/
module

public import proofs.«01_k».proof.Proof.Ideal.Spec
public import proofs.«01_k».proof.Proof.Gen.ReferenceIdeal.Frame
public import Idealize.ShloMosaic.Lib.Pipeline.ValueKit
public import Idealize.ShloMosaic.Lib.Claim
public import Idealize.ShloMosaic.Lib.Pointwise

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.Spec
open Cert.KernelIdeal.Hand (expOf)

/-- The exponents of an array of quotients, as the reference computes them. -/
def expVec {s : Shape} (q : FVec Ideal s .f32) : FVec Ideal s .f32 :=
  select (andi (cmpf .oge q (broadcast s (Scalar.ofBits (F := Ideal) .f32 0x00800000#32))) (cmpf .olt q (broadcast s (Scalar.ofBits (F := Ideal) .f32 0x7B800000#32))))
    (addf (floor (divf (log q) (log (broadcast s (Scalar.ofBits (F := Ideal) .f32 0x40000000#32))))) (broadcast s (Scalar.ofBits (F := Ideal) .f32 0x3F800000#32)))
    (broadcast s (Scalar.ofBits (F := Ideal) .f32 0x00000000#32))

theorem expVec_at {s : Shape} (q : FVec Ideal s .f32) (i : s.Idx) : expVec q i = expOf (q i) := rfl

theorem exp2_at {s : Shape} (q : FVec Ideal s .f32) (i : s.Idx) : exp2 q i = Ideal.exp2 (q i) := rfl

theorem pay2_at (x : FVec Ideal S24576x2048 .bf16) (R : Fin 24576) (k : Fin 2048) : k0_pay2 (F := Ideal) x (ix2 R k) = x (ix2 R k) := by
  pointwise [k0_pay2]

theorem fold_univ_le {ι : Type} [Fintype ι] (f : ι → EReal) (b : EReal) :
    Finset.univ.fold max (Ideal.ofBits .f32 0xFF800000#32) f ≤ b ↔ ∀ i, f i ≤ b := by
  rw [fold_max_le]; simp

theorem mulc_at {s : Shape} (q : FVec Ideal s .f32) (i : s.Idx) :
    mulf q (broadcast s (Scalar.ofBits (F := Ideal) .f32 0x3B124925#32)) i = q i * c448 := rfl

theorem absf_at {s : Shape} (q : FVec Ideal s .f32) (i : s.Idx) : absf q i = mag (q i) := rfl

theorem rowmax_at (v : FVec Ideal S24576x2048 .f32) (R : Fin 24576) :
    multiReduction (F := Ideal) .maximumf [1] S24576 v 0xFF800000#32 reduces_S24576x2048_S24576 (.inl rfl) rfl (ix1 R) = Finset.univ.fold max (Ideal.ofBits .f32 0xFF800000#32) fun k : Fin 2048 => v (ix2 R k) := by
  pointwise []

theorem cast_at (v : FVec Ideal S24576 .f32) (R : Fin 24576) (z : Fin 1) :
    shapeCast S24576x1 v shapeCasts_S24576_S24576x1 (ix2 R z) = v (ix1 R) := by
  pointwise []

/-- The quotient of each row. -/
def quot (v : FVec Ideal S24576x2048 .f32) : FVec Ideal S24576x1 .f32 :=
  mulf (shapeCast S24576x1 (multiReduction .maximumf [1] S24576 (absf v) 0xFF800000#32 reduces_S24576x2048_S24576 (.inl rfl) rfl) shapeCasts_S24576_S24576x1)
    (broadcast S24576x1 (Scalar.ofBits (F := Ideal) .f32 0x3B124925#32))

theorem quot_at (v : FVec Ideal S24576x2048 .f32) (R : Fin 24576) (z : Fin 1) :
    quot v (ix2 R z) = (Finset.univ.fold max (Ideal.ofBits .f32 0xFF800000#32) fun k : Fin 2048 => mag (v (ix2 R k))) * c448 := by
  unfold quot
  rw [mulc_at, cast_at, rowmax_at]
  simp only [absf_at]

theorem pay3_def (x : FVec Ideal S24576x2048 .bf16) : k0_pay3 (F := Ideal) x = expVec (quot (k0_pay2 (F := Ideal) x)) := rfl

theorem pay3_at (x : FVec Ideal S24576x2048 .bf16) (R : Fin 24576) (z : Fin 1) :
    k0_pay3 (F := Ideal) x (ix2 R z) = rowExp (rowOf x R) := by
  have h : (Finset.univ.fold max (Ideal.ofBits .f32 0xFF800000#32) fun k : Fin 2048 => mag (k0_pay2 (F := Ideal) x (ix2 R k))) = rowSup (rowOf x R) := by
    refine eq_of_forall_ge_iff fun b => ?_
    rw [fold_univ_le, rowSup_le]
    refine forall_congr' fun k => ?_
    rw [pay2_at, rowOf]
  rw [pay3_def, expVec_at, quot_at, h, rowExp]

/-- The codes of an array at given exponents. -/
def codesAt (v : FVec Ideal S24576x2048 .f32) (e : FVec Ideal S24576x1 .f32) : FVec Ideal S24576x2048 .fp8e4m3 :=
  truncf .fp8e4m3 (minimumf (broadcast S24576x2048 (Scalar.ofBits (F := Ideal) .f32 0x43E00000#32))
    (maximumf (broadcast S24576x2048 (Scalar.ofBits (F := Ideal) .f32 0xC3E00000#32))
      (mulf v (broadcastTo S24576x2048 (exp2 (subf (broadcast S24576x1 (Scalar.ofBits (F := Ideal) .f32 0x00000000#32)) e)) broadcasts_S24576x1_S24576x2048)))) bitsLt_fp8e4m3_f32

theorem broadcast_at (e : FVec Ideal S24576x1 .f32) (R : Fin 24576) (k : Fin 2048) :
    broadcastTo S24576x2048 e broadcasts_S24576x1_S24576x2048 (ix2 R k) = e (ix2 R 0) := by
  pointwise []

theorem codesAt_at' (v : FVec Ideal S24576x2048 .f32) (e : FVec Ideal S24576x1 .f32) (i : S24576x2048.Idx) :
    codesAt v e i = min (Ideal.ofBits .f32 0x43E00000#32) (max (Ideal.ofBits .f32 0xC3E00000#32) (v i *
      broadcastTo S24576x2048 (exp2 (subf (broadcast S24576x1 (Scalar.ofBits (F := Ideal) .f32 0x00000000#32)) e)) broadcasts_S24576x1_S24576x2048 i)) := rfl

theorem subf_at {s : Shape} (q : FVec Ideal s .f32) (i : s.Idx) :
    subf (broadcast s (Scalar.ofBits (F := Ideal) .f32 0x00000000#32)) q i = Ideal.ofBits .f32 0x00000000#32 - q i := rfl

theorem pay4_def (x : FVec Ideal S24576x2048 .bf16) : k0_pay4 (F := Ideal) x = codesAt (k0_pay2 (F := Ideal) x) (k0_pay3 (F := Ideal) x) := rfl

theorem pay4_at (x : FVec Ideal S24576x2048 .bf16) (R : Fin 24576) (k : Fin 2048) :
    k0_pay4 (F := Ideal) x (ix2 R k) = code (rowOf x R) k := by
  rw [pay4_def, codesAt_at', broadcast_at, exp2_at, subf_at, pay3_at, pay2_at, code, rowOf]

theorem pay5_def (x : FVec Ideal S24576x2048 .bf16) : k0_pay5 (F := Ideal) x = exp2 (k0_pay3 (F := Ideal) x) := rfl

theorem pay5_at (x : FVec Ideal S24576x2048 .bf16) (R : Fin 24576) (z : Fin 1) :
    k0_pay5 (F := Ideal) x (ix2 R z) = scal (rowOf x R) := by
  rw [pay5_def, exp2_at, pay3_at, scal]

theorem pay6_raw (x : FVec Ideal S24576x2048 .bf16) (w : FVec Ideal S2048x5632 .fp8e4m3) (s : FVec Ideal S1x5632 .f32) (z : Fin 1) (R : Fin 24576) (C : Fin 5632) :
    k0_pay6 (F := Ideal) x w s (ix3 z R C) = mag ((∑ k : Fin 2048, k0_pay4 (F := Ideal) x (ix2 R k) * w (ix2 k C)) * k0_pay5 (F := Ideal) x (ix2 R 0) * s (ix2 0 C)) := by
  pointwise [k0_pay6]
  rfl

theorem pay6_at (x : FVec Ideal S24576x2048 .bf16) (w : FVec Ideal S2048x5632 .fp8e4m3) (s : FVec Ideal S1x5632 .f32) (z : Fin 1) (R : Fin 24576) (C : Fin 5632) :
    k0_pay6 (F := Ideal) x w s (ix3 z R C) = mag (yval (rowOf x R) (fun k => w (ix2 k C)) (s (ix2 0 C))) := by
  rw [pay6_raw, pay5_at, yval]
  simp only [pay4_at]

/-- The largest of the magnitudes. -/
def big (y : FVec Ideal S1x24576x5632 .f32) : FVec Ideal S1 .f32 :=
  multiReduction .maximumf [1, 2] S1 y 0xFF800000#32 reduces_S1x24576x5632_S1 (.inl rfl) rfl

theorem big_at (y : FVec Ideal S1x24576x5632 .f32) (b : EReal) : big y (ix1 0) ≤ b ↔ ∀ R C, y (ix3 0 R C) ≤ b := by
  pointwise [big]
  rw [fold_univ_le, Prod.forall]

/-- The pair of results made of the largest magnitude. -/
def pairOf (g : FVec Ideal S1 .f32) : FVec Ideal S1x2 .f32 :=
  have a : FVec Ideal S1x1 .f32 := broadcast S1x1 (extractAt ![0, 0, 0] (shapeCast S1x1x1 g shapeCasts_S1_S1x1x1) inpos_S1x1x1_p0_0_0)
  concatenate S1x2 1 [⟨S1x1, exp2 (expVec (mulf a (broadcast S1x1 (Scalar.ofBits (F := Ideal) .f32 0x3B124925#32))))⟩, ⟨S1x1, a⟩] concatenates_S1x1_S1x1_S1x2_d1

theorem pay1_def (y : FVec Ideal S1x24576x5632 .f32) : k0_pay1 (F := Ideal) y = pairOf (big y) := rfl

theorem cat0 (a b : FVec Ideal S1x1 .f32) (z : Fin 1) : concatenate S1x2 1 [⟨S1x1, a⟩, ⟨S1x1, b⟩] concatenates_S1x1_S1x1_S1x2_d1 (ix2 z 0) = a (ix2 0 0) := by
  pointwise []
theorem cat1 (a b : FVec Ideal S1x1 .f32) (z : Fin 1) : concatenate S1x2 1 [⟨S1x1, a⟩, ⟨S1x1, b⟩] concatenates_S1x1_S1x1_S1x2_d1 (ix2 z 1) = b (ix2 0 0) := by
  pointwise []

theorem amaxAt (g : FVec Ideal S1 .f32) (i : S1x1.Idx) :
    (broadcast S1x1 (extractAt ![0, 0, 0] (shapeCast S1x1x1 g shapeCasts_S1_S1x1x1) inpos_S1x1x1_p0_0_0) : FVec Ideal S1x1 .f32) i = g (ix1 0) := by
  pointwise []

theorem pair0 (g : FVec Ideal S1 .f32) (z : Fin 1) : pairOf g (ix2 z 0) = Ideal.exp2 (expOf (g (ix1 0) * c448)) := by
  unfold pairOf
  rw [cat0, exp2_at, expVec_at, mulc_at, amaxAt]

theorem pair1 (g : FVec Ideal S1 .f32) (z : Fin 1) : pairOf g (ix2 z 1) = g (ix1 0) := by
  unfold pairOf
  rw [cat1, amaxAt]

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0])

theorem final3 (c : Dev nD) : (dats m 0 c).arrAt 3 (cfgs 0).N = k0_pay1 (F := Ideal) (k0_pay6 (F := Ideal) (V m c main_v0) (V m c main_arg1) (V m c main_v1)) := by
  refine (dats m 0 c).arrAt_eq_of_after_last 3 t0_0 (by decide +kernel) _ fun j => ?_
  blk_simp
  rw [after0_3]; frame_out
  blk_point [iblk, idx t0_0]

theorem final4 (c : Dev nD) : (dats m 0 c).arrAt 4 (cfgs 0).N = k0_pay4 (F := Ideal) (V m c main_v0) := by
  refine (dats m 0 c).arrAt_eq_of_after_last 4 t0_0 (by decide +kernel) _ fun j => ?_
  blk_simp
  rw [after0_4]; frame_out
  blk_point [iblk, idx t0_0]

theorem final5 (c : Dev nD) : (dats m 0 c).arrAt 5 (cfgs 0).N = k0_pay5 (F := Ideal) (V m c main_v0) := by
  refine (dats m 0 c).arrAt_eq_of_after_last 5 t0_0 (by decide +kernel) _ fun j => ?_
  blk_simp
  rw [after0_5]; frame_out
  blk_point [iblk, idx t0_0]

/-- The rows as the reference's call finds them: the first argument as a rectangle. -/
theorem x_eq (c : Dev nD) : V m c main_v0 = shapeCast S24576x2048 (m ((c.tc : Thread nD τ).loc main_arg0)) shapeCasts_S24x1024x2048_S24576x2048 := by
  entry_read
  rfl

theorem s_eq (c : Dev nD) : V m c main_v1 = shapeCast S1x5632 (m ((c.tc : Thread nD τ).loc main_arg2)) shapeCasts_S5632_S1x5632 := by
  entry_read
  rfl

theorem w_eq (c : Dev nD) : V m c main_arg1 = m ((c.tc : Thread nD τ).loc main_arg1) := by
  entry_read
  rfl

theorem lanes_at (v : FVec Ideal S24576x1 .f32) (i : Fin 48) (z : Fin 1) (j : Fin 512) :
    shapeCast S48x1x512 v shapeCasts_S24576x1_S48x1x512 (ix3 i z j) = v (ix2 ⟨512 * i.val + j.val, by omega⟩ 0) := by
  pointwise []
  simp only [Nat.mul_comm]

theorem pair_at (v : FVec Ideal S1x2 .f32) (e : Fin 2) :
    shapeCast S2 v shapeCasts_S1x2_S2 (ix1 e) = v (ix2 0 e) := by
  pointwise []

/-- The pair of results, after the operations that follow the call. -/
theorem tail3 (c : Dev nD) : Pipeline.afterTail₀ cfgs (dats m) 0 (V0 m) [hostOps1] c main_v3
    = shapeCast S2 ((dats m 0 c).arrAt 3 (cfgs 0).N) shapeCasts_S1x2_S2 := by
  unfold Pipeline.afterTail₀
  rw [← Pipeline.withArrays_arr (cfgs 0).spec (by decide +kernel) c (V0 m c) (fun w => (dats m 0 c).arrAt w (cfgs 0).N) 3]
  after_results
  rfl

/-- The scales, after the operations that follow the call. -/
theorem tail4 (c : Dev nD) : Pipeline.afterTail₀ cfgs (dats m) 0 (V0 m) [hostOps1] c main_v4
    = shapeCast S48x1x512 ((dats m 0 c).arrAt 5 (cfgs 0).N) shapeCasts_S24576x1_S48x1x512 := by
  unfold Pipeline.afterTail₀
  rw [← Pipeline.withArrays_arr (cfgs 0).spec (by decide +kernel) c (V0 m c) (fun w => (dats m 0 c).arrAt w (cfgs 0).N) 5]
  after_results
  rfl

/-- The run of the reference with its results named. -/
theorem run_values (ρ : Dev nD → PrngReg) : θ_run defs (onTc (τ := τ) (main (F := Ideal))) ⟨m, fun _ => 0, ρ⟩ (fun r => ∀ c : Dev nD,
      r.2.mem ((c.tc : Thread nD τ).loc main_v3) = shapeCast S2 (k0_pay1 (F := Ideal) (k0_pay6 (F := Ideal) (V m c main_v0) (V m c main_arg1) (V m c main_v1))) shapeCasts_S1x2_S2
      ∧ r.2.mem ((c.tc : Thread nD τ).loc main_v2_1) = k0_pay4 (F := Ideal) (V m c main_v0)
      ∧ r.2.mem ((c.tc : Thread nD τ).loc main_v4) = shapeCast S48x1x512 (k0_pay5 (F := Ideal) (V m c main_v0)) shapeCasts_S24576x1_S48x1x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from run_main m ρ
  · rw [tail3, final3]
  · exact final4 m c
  · rw [tail4, final5]
  · exact W_main_arg0 m (dats m) c
  · exact W_main_arg2 m (dats m) c

end Cert.ReferenceIdeal.Hand

end
-- ==== Proof.Ideal.Algebraic.lean ====
/-
  Over the extended reals the kernel and the reference leave the same three arrays.
-/
module

public import proofs.«01_k».proof.Defs
public import proofs.«01_k».proof.Proof.Ideal.Arrays
public import proofs.«01_k».proof.Proof.Ideal.Reference

@[expose] public section

set_option maxRecDepth 16384

noncomputable section

namespace Cert

open Idealize.ShloMosaic Idealize.ShloMosaic.TcCoe Idealize.SL.Sem

section

variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ}
  (c : Dev KernelIdeal.nD)

/-- The two calls find the same rows. -/
theorem x_agree (h : m' ((c.tc : Thread ReferenceIdeal.nD ReferenceIdeal.τ).loc ReferenceIdeal.main_arg0) = m ((c.tc : Thread KernelIdeal.nD KernelIdeal.τ).loc KernelIdeal.main_arg0)) :
    ReferenceIdeal.Gen.V m' c ReferenceIdeal.main_v0 = KernelIdeal.Hand.xIn m c := by
  rw [ReferenceIdeal.Hand.x_eq, KernelIdeal.Hand.xIn_eq, h]

theorem w_agree (h : m' ((c.tc : Thread ReferenceIdeal.nD ReferenceIdeal.τ).loc ReferenceIdeal.main_arg1) = m ((c.tc : Thread KernelIdeal.nD KernelIdeal.τ).loc KernelIdeal.main_arg1)) :
    ReferenceIdeal.Gen.V m' c ReferenceIdeal.main_arg1 = KernelIdeal.Hand.wIn m c := by
  rw [ReferenceIdeal.Hand.w_eq, KernelIdeal.Hand.wIn_eq, h]

theorem s_agree (h : m' ((c.tc : Thread ReferenceIdeal.nD ReferenceIdeal.τ).loc ReferenceIdeal.main_arg2) = m ((c.tc : Thread KernelIdeal.nD KernelIdeal.τ).loc KernelIdeal.main_arg2)) :
    ReferenceIdeal.Gen.V m' c ReferenceIdeal.main_v1 = KernelIdeal.Hand.sIn m c := by
  rw [ReferenceIdeal.Hand.s_eq, KernelIdeal.Hand.sIn_eq, h]

theorem codesOut_at (R : Fin 24576) (k : Fin 2048) : KernelIdeal.Hand.codesOut m c (ix2 R k) = Spec.code (Spec.rowOf (KernelIdeal.Hand.xIn m c) R) k := by
  unfold KernelIdeal.Hand.codesOut
  rfl

/-- The codes are the same. -/
theorem codes_agree : ReferenceIdeal.Gen.k0_pay4 (F := Ideal) (KernelIdeal.Hand.xIn m c) = KernelIdeal.Hand.codesOut m c := by
  funext i
  obtain ⟨R, k, rfl⟩ : ∃ (R : Fin 24576) (k : Fin 2048), i = ix2 R k := ⟨i 0, i 1, eq_ix2 i⟩
  exact (ReferenceIdeal.Hand.pay4_at _ R k).trans (codesOut_at c R k).symm

theorem scalesOut_at (p : Fin 48) (z : Fin 1) (q : Fin 512) : KernelIdeal.Hand.scalesOut m c (ix3 p z q)
    = Spec.scal (Spec.rowOf (KernelIdeal.Hand.xIn m c) ⟨512 * p.val + q.val, by omega⟩) := by
  unfold KernelIdeal.Hand.scalesOut
  rfl

/-- The scales are the same. -/
theorem scales_agree : shapeCast ReferenceIdeal.S48x1x512 (ReferenceIdeal.Gen.k0_pay5 (F := Ideal) (KernelIdeal.Hand.xIn m c)) ReferenceIdeal.Gen.shapeCasts_S24576x1_S48x1x512
    = KernelIdeal.Hand.scalesOut m c := by
  funext i
  obtain ⟨p, z, q, rfl⟩ : ∃ (p : Fin 48) (z : Fin 1) (q : Fin 512), i = ix3 p z q := ⟨i 0, i 1, i 2, eq_ix3 i⟩
  exact ((ReferenceIdeal.Hand.lanes_at _ p z q).trans (ReferenceIdeal.Hand.pay5_at _ _ 0)).trans (scalesOut_at c p z q).symm

/-- The largest magnitude is the same. -/
theorem amax_agree : ReferenceIdeal.Hand.big (ReferenceIdeal.Gen.k0_pay6 (F := Ideal) (KernelIdeal.Hand.xIn m c) (KernelIdeal.Hand.wIn m c) (KernelIdeal.Hand.sIn m c)) (ix1 0)
    = KernelIdeal.Hand.amaxS (KernelIdeal.Hand.accAt m c 48) := by
  refine eq_of_forall_ge_iff fun b => ?_
  rw [ReferenceIdeal.Hand.big_at, KernelIdeal.Hand.amax_le]
  refine forall_congr' fun R => forall_congr' fun C => ?_
  rw [ReferenceIdeal.Hand.pay6_at, KernelIdeal.Hand.yAll]

theorem amaxQ_eq (a : FVec Ideal KernelIdeal.S8x512 .f32) : KernelIdeal.Hand.amaxQ (F := Ideal) a = KernelIdeal.Hand.amaxS (F := Ideal) a * Spec.c448 := by
  unfold KernelIdeal.Hand.amaxQ KernelIdeal.Hand.amaxS KernelIdeal.Gen.k0_pay80
  rfl

theorem stat0 : KernelIdeal.Hand.statOut m c (ix1 0) = KernelIdeal.Hand.scaleS (KernelIdeal.Hand.amaxQ (F := Ideal) (KernelIdeal.Hand.accAt m c 48)) := by
  unfold KernelIdeal.Hand.statOut
  exact if_pos rfl

theorem stat1 : KernelIdeal.Hand.statOut m c (ix1 1) = KernelIdeal.Hand.amaxS (F := Ideal) (KernelIdeal.Hand.accAt m c 48) := by
  unfold KernelIdeal.Hand.statOut
  exact if_neg (by decide)

/-- The scale and the largest magnitude are the same. -/
theorem stat_agree : shapeCast ReferenceIdeal.S2 (ReferenceIdeal.Gen.k0_pay1 (F := Ideal)
      (ReferenceIdeal.Gen.k0_pay6 (F := Ideal) (KernelIdeal.Hand.xIn m c) (KernelIdeal.Hand.wIn m c) (KernelIdeal.Hand.sIn m c))) ReferenceIdeal.Gen.shapeCasts_S1x2_S2
    = KernelIdeal.Hand.statOut m c := by
  funext i
  obtain ⟨e, rfl⟩ : ∃ e : Fin 2, i = ix1 e := ⟨i 0, eq_ix1 i⟩
  rw [ReferenceIdeal.Hand.pair_at, ReferenceIdeal.Hand.pay1_def]
  fin_cases e
  · refine (ReferenceIdeal.Hand.pair0 _ _).trans ?_
    rw [amax_agree, ← amaxQ_eq, ← KernelIdeal.Hand.scaleS_eq]
    exact (stat0 c).symm
  · refine (ReferenceIdeal.Hand.pair1 _ _).trans ?_
    rw [amax_agree]
    exact (stat1 c).symm

end

theorem algebraic_hand : Cert.algebraic_KernelIdeal_ReferenceIdeal := by
  intro m g m' g' hpre hagree
  refine ⟨fun c => KernelIdeal.Hand.statOut m c, fun c => KernelIdeal.Hand.codesOut m c, fun c => KernelIdeal.Hand.scalesOut m c,
    KernelIdeal.Hand.run_values g, ?_⟩
  refine (θ_run _ _ _).mono (fun r h c => ?_) (ReferenceIdeal.Hand.run_values m' g')
  obtain ⟨h0, h1, h2⟩ := hagree c
  obtain ⟨e3, e1, e4, ea⟩ := h c
  refine ⟨?_, ?_, ?_, ea⟩
  · rw [e3, x_agree c h0, w_agree c h1, s_agree c h2]; exact stat_agree c
  · rw [e1, x_agree c h0]; exact codes_agree c
  · rw [e4, x_agree c h0]; exact scales_agree c

end Cert

end
-- ==== Proof.RepairTrip.lean ====
/-
  One trip of the repairing loop: a tile whose words were made with another scale is multiplied and quantised again.
-/
module

public import proofs.«01_k».proof.Proof.Gen.Repair.Loops
public import proofs.«01_k».proof.Proof.Gen.Repair.Frame
public import Idealize.ShloMosaic.Lib.Pipeline.FrameValue

@[expose] public section

set_option maxRecDepth 16384

noncomputable section

namespace Cert.Repair.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Repair Cert.Repair.Gen

variable {F : FTy → Type} [FloatOps F]

local notation "𝕄" => MT nD τ sig Unit (Elt F) ℕ (Pipeline.UD sig nD τ) ℕ

/-- A buffer of core `c`. -/
abbrev Bf (c : Dev nD) (b : Ref sig .tc) : Type := Buf (Elt F) ((Memref.whole b).view.loc (c : Thread nD τ))
/-- The buffer held whole. -/
abbrev pt (c : Dev nD) (b : Ref sig .tc) (f : Bf (F := F) c b) : sProp 𝕄 := (Memref.whole b).view.loc (c : Thread nD τ) ↦{fullShare} f

/-- The region of the loop, on the buffers it is called with. -/
abbrev body := k0_t1_body (F := F) (Memref.whole cc0_stg0_0) (Memref.isWhole_whole _) (Memref.whole main_arg1) (Memref.isWhole_whole _) (Memref.whole cc0_stg1_0) (Memref.isWhole_whole _) (Memref.whole main_arg3) (Memref.isWhole_whole _) (Memref.whole cc0_stg2_0) (Memref.isWhole_whole _) (Memref.whole main_v1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2

/-- The three counters at zero. -/
abbrev sems (c : Dev nD) : sProp 𝕄 :=
  iprop(semVal ((c : Thread nD τ), SemLoc.dma (4 : DmaSem sig)) 0 ∗ semVal ((c : Thread nD τ), SemLoc.dma (5 : DmaSem sig)) 0 ∗ semVal ((c : Thread nD τ), SemLoc.dma (6 : DmaSem sig)) 0)

/-- The word the tile of trip `k` was made with. -/
abbrev usedAt (c : Dev nD) (f0 : Bf (F := F) c cc0_stg0_0) (k : Fin k0_t1_loop.trips) : BitVec 32 :=
  (Memref.whole cc0_stg0_0).view.readAt (Elt F) (Rect.unit (s := S49) (k0_off1 k) S1.size (k0_off1_inb k)).toLoadRect f0 (Shape.Idx.first (numel1_S1.symm ▸ Nat.one_pos))
/-- The final word. -/
abbrev usedEnd (c : Dev nD) (f0 : Bf (F := F) c cc0_stg0_0) : BitVec 32 :=
  (Memref.whole cc0_stg0_0).view.readAt (Elt F) (Rect.unit (s := S49) ![48] S1.size inb_S49_S1_48).toLoadRect f0 (Shape.Idx.first (numel1_S1.symm ▸ Nat.one_pos))

set_option maxHeartbeats 4000000 in
noncomputable def trip (c : Dev nD) (k : Fin k0_t1_loop.trips) (f0 : Bf (F := F) c cc0_stg0_0) (x : Bf (F := F) c main_arg1) (xs : Bf (F := F) c cc0_stg1_0)
    (w : Bf (F := F) c main_arg3) (ws : Bf (F := F) c cc0_stg2_0) (y : Bf (F := F) c main_v1) (s0 : Bf (F := F) c cc0_scratch0)
    (s1 : Bf (F := F) c cc0_scratch1) (s2 : Bf (F := F) c cc0_scratch2) (s3 : Bf (F := F) c cc0_scratch3) (s4 : Bf (F := F) c cc0_scratch4)
    (W : Waits sig Unit) :
    Σ' (y' : Bf (F := F) c main_v1) (s0' : Bf (F := F) c cc0_scratch0) (s1' : Bf (F := F) c cc0_scratch1) (s2' : Bf (F := F) c cc0_scratch2)
      (s3' : Bf (F := F) c cc0_scratch3) (s4' : Bf (F := F) c cc0_scratch4), { W' : Waits sig Unit // ∀ K : Unit → sProp 𝕄,
    iprop(pt c cc0_stg0_0 f0 ∗ pt c main_arg1 x ∗ pt c cc0_stg1_0 xs ∗ pt c main_arg3 w ∗ pt c cc0_stg2_0 ws ∗ pt c main_v1 y
        ∗ pt c cc0_scratch0 s0 ∗ pt c cc0_scratch1 s1 ∗ pt c cc0_scratch2 s2 ∗ pt c cc0_scratch3 s3 ∗ pt c cc0_scratch4 s4
        ∗ sems c ∗ owes (c : Thread nD τ) 0 W
        ∗ ((pt c cc0_stg0_0 f0 ∗ pt c main_arg1 x ∗ pt c cc0_stg1_0 xs ∗ pt c main_arg3 w ∗ pt c cc0_stg2_0 ws ∗ pt c main_v1 y'
          ∗ pt c cc0_scratch0 s0' ∗ pt c cc0_scratch1 s1' ∗ pt c cc0_scratch2 s2' ∗ pt c cc0_scratch3 s3' ∗ pt c cc0_scratch4 s4'
          ∗ sems c ∗ owes (c : Thread nD τ) 0 W') -∗ K ()))
      ⊢ wp frame (wpE (defs₀ (F := F)) Variants.none c none) Set.univ (body (F := F) k ()) K } := by
  refine ⟨?_, ?_, ?_, ?_, ?_, ?_, ?_, fun K => ?run⟩
  case run =>
    iintro ⟨H0, H1, H2, H3, H4, H6, H7, H8, H9, H10, H11, ⟨Ha, Hb, Hc⟩, HO, Hk⟩
    unfold body k0_t1_body
    simp only [k0_part1_eq_skeleton, k0_part2_eq_skeleton, k0_part3_eq_skeleton, k0_part4_eq_skeleton, k0_part5_eq_skeleton, k0_part6_eq_skeleton]
    sl_exec
    sl_step
    iapply Hk
    isplitl [H0]; · iexact H0
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [Ha Hb Hc]
    · isplitl [Ha]; · iexact Ha
      isplitl [Hb]; · iexact Hb
      iexact Hc
    iexact HO

end Cert.Repair.Hand
end
-- ==== Proof.RepairLoop.lean ====
/-
  The repairing loop whole: forty-eight trips carry a relation between the words of y, the buffer of weights and the
  flag that says the weights are in it.
-/
module

public import proofs.«01_k».proof.Proof.RepairTrip

@[expose] public section

set_option maxRecDepth 16384

noncomputable section

namespace Cert.Repair.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Repair Cert.Repair.Gen

variable {F : FTy → Type} [FloatOps F]

local notation "𝕄" => MT nD τ sig Unit (Elt F) ℕ (Pipeline.UD sig nD τ) ℕ

variable (c : Dev nD) (f0 : Bf (F := F) c cc0_stg0_0) (x : Bf (F := F) c main_arg1) (xs : Bf (F := F) c cc0_stg1_0) (w : Bf (F := F) c main_arg3) (ws : Bf (F := F) c cc0_stg2_0)
  (P : ℕ → Bf (F := F) c main_v1 → Bf (F := F) c cc0_scratch0 → Bf (F := F) c cc0_scratch4 → Prop)

/-- Before trip `k`: the inputs as they were, the rest at contents the relation holds of. -/
def inv (k : ℕ) : sProp 𝕄 :=
  iprop(∃ y, ∃ s0, ∃ s1, ∃ s2, ∃ s3, ∃ s4, ∃ W, ⌜P k y s0 s4⌝
    ∗ pt c cc0_stg0_0 f0 ∗ pt c main_arg1 x ∗ pt c cc0_stg1_0 xs ∗ pt c main_arg3 w ∗ pt c cc0_stg2_0 ws ∗ pt c main_v1 y
    ∗ pt c cc0_scratch0 s0 ∗ pt c cc0_scratch1 s1 ∗ pt c cc0_scratch2 s2 ∗ pt c cc0_scratch3 s3 ∗ pt c cc0_scratch4 s4
    ∗ sems c ∗ owes (c : Thread nD τ) 0 W)

/-- The relation passes each trip. -/
def Passes : Prop := ∀ (k : Fin k0_t1_loop.trips) y s0 s1 s2 s3 s4 W, P k.val y s0 s4 →
  P (k.val + 1) (trip c k f0 x xs w ws y s0 s1 s2 s3 s4 W).1 (trip c k f0 x xs w ws y s0 s1 s2 s3 s4 W).2.1 (trip c k f0 x xs w ws y s0 s1 s2 s3 s4 W).2.2.2.2.2.1

theorem step (hP : Passes c f0 x xs w ws P) (k : Fin k0_t1_loop.trips) :
    inv c f0 x xs w ws P k.val ⊢ wp frame (wpE (defs₀ (F := F)) Variants.none c none) Set.univ (body (F := F) k ()) (fun _ => inv c f0 x xs w ws P (k.val + 1)) := by
  unfold inv
  iintro ⟨%y, %s0, %s1, %s2, %s3, %s4, %W, %h, H0, H1, H2, H3, H4, H6, H7, H8, H9, H10, H11, Hs, HO⟩
  iapply ((trip c k f0 x xs w ws y s0 s1 s2 s3 s4 W).2.2.2.2.2.2.2 _)
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [Hs]; · iexact Hs
  isplitl [HO]; · iexact HO
  iintro H
  iexists _, _, _, _, _, _, _
  isplitr
  swap; · iexact H
  ipureintro; exact hP k y s0 s1 s2 s3 s4 W h

/-- The whole body: the flag lowered, then the loop. -/
theorem bodyRun (hP : Passes c f0 x xs w ws P) (y : Bf (F := F) c main_v1)
    (h0 : ∀ s0 s4, P 0 y s0 ((Memref.whole cc0_scratch4).view.writes (Elt F) s4 [⟨Rect.unit ![0] S1.size inb_S1_S1_0, fun _ => 0#32⟩]))
    (W : Waits sig Unit) (K : PUnit → sProp 𝕄) :
    iprop(pt c cc0_stg0_0 f0 ∗ pt c main_arg1 x ∗ pt c cc0_stg1_0 xs ∗ pt c main_arg3 w ∗ pt c cc0_stg2_0 ws ∗ pt c main_v1 y
        ∗ (∃ s0, pt c cc0_scratch0 s0) ∗ (∃ s1, pt c cc0_scratch1 s1) ∗ (∃ s2, pt c cc0_scratch2 s2) ∗ (∃ s3, pt c cc0_scratch3 s3) ∗ (∃ s4, pt c cc0_scratch4 s4)
        ∗ sems c ∗ owes (c : Thread nD τ) 0 W ∗ (inv c f0 x xs w ws P 48 -∗ K ⟨⟩))
      ⊢ wp frame (wpE (defs₀ (F := F)) Variants.none c none) Set.univ
          (cc0_repair (F := F) (Memref.whole cc0_stg0_0) (Memref.isWhole_whole _) (Memref.whole main_arg1) (Memref.isWhole_whole _) (Memref.whole cc0_stg1_0) (Memref.isWhole_whole _) (Memref.whole main_arg3) (Memref.isWhole_whole _) (Memref.whole cc0_stg2_0) (Memref.isWhole_whole _) (Memref.whole main_v1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2) K := by
  iintro ⟨H0, H1, H2, H3, H4, H6, ⟨%s0, H7⟩, ⟨%s1, H8⟩, ⟨%s2, H9⟩, ⟨%s3, H10⟩, ⟨%s4, H11⟩, Hs, HO, Hk⟩
  simp only [cc0_repair_eq_skeleton]; unfold cc0_repair_skel
  sl_exec
  iapply (Scf.wp_for_bind (Idealize.ShloMosaic.frame) (wpE (defs₀ (F := F)) Variants.none c none) Set.univ _ _ _ _ _ _ (fun k _ => inv c f0 x xs w ws P k) (fun k _ => step c f0 x xs w ws P hP k)) $$ [H0 H1 H2 H3 H4 H6 H7 H8 H9 H10 H11 Hs HO]
  · unfold inv
    iexists y, s0, s1, s2, s3, _, W
    isplitr
    swap
    · isplitl [H0]; · iexact H0
      isplitl [H1]; · iexact H1
      isplitl [H2]; · iexact H2
      isplitl [H3]; · iexact H3
      isplitl [H4]; · iexact H4
      isplitl [H6]; · iexact H6
      isplitl [H7]; · iexact H7
      isplitl [H8]; · iexact H8
      isplitl [H9]; · iexact H9
      isplitl [H10]; · iexact H10
      isplitl [H11]; · iexact H11
      isplitl [Hs]; · iexact Hs
      iexact HO
    ipureintro; exact h0 s0 _
  iintro %a H
  sl_step
  iapply Hk
  iexact H

end Cert.Repair.Hand
end
-- ==== Proof.RepairRegion.lean ====
/-
  The repairing call as a region: the body run on the staged blocks, what it leaves in y known by a relation, and the
  frame.
-/
module

public import proofs.«01_k».proof.Proof.RepairLoop
public import Idealize.ShloMosaic.Lib.Pipeline.FrameValue

@[expose] public section

set_option maxRecDepth 16384

noncomputable section

namespace Cert.Repair.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Repair Cert.Repair.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The written array, the arrays read in place, the body's counters. -/
def R0 : Finset (Ref sig .tc) := {main_v1}
def H0 : Finset (Ref sig .tc) := {main_arg1, main_arg3}
abbrev osem0 : Fin 4 → SemLoc sig := fun j => (![SemLoc.dma 3, SemLoc.dma 4, SemLoc.dma 5, SemLoc.dma 6] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ sems c) := by
  rw [Pipeline.ownSems0_eq_of_list c osem0 [0, 1, 2, 3] (by decide) (by decide)]; rfl
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄)
      = iprop(pt c main_arg1 (V m c main_arg1) ∗ pt c main_arg3 (V m c main_arg3)) := by
  rw [BI.bigSep_eq_bigSepL_of_eq [main_arg1, main_arg3] (by decide) (by decide)]; rfl
theorem ownedPts0_eq (c : Dev nD) : (Pipeline.owned R0 c : sProp 𝕄) = iprop(∃ f, pt c main_v1 f) := by
  unfold Pipeline.owned; rw [BI.bigSep_eq_bigSepL_of_eq [main_v1] (by decide) (by decide)]; rfl
theorem routedPts0_eq (c : Dev nD) (G : (b : Ref sig .tc) → Buf (Elt F) ((c : Thread nD τ).loc b)) :
    (Pipeline.routed R0 c G : sProp 𝕄) = pt c main_v1 (G main_v1) := by
  unfold Pipeline.routed; rw [BI.bigSep_eq_bigSepL_of_eq [main_v1] (by decide) (by decide)]; rfl

/-- The invariant: what the body needs beside its windows, the written array at contents `A` holds of. -/
def ΦS (A : (c : Dev nD) → Bf (F := F) c main_v1 → Prop) (c : Dev nD) : sProp 𝕄 :=
  iprop(iprop((∃ f, pt c cc0_scratch0 f) ∗ (∃ f, pt c cc0_scratch1 f) ∗ (∃ f, pt c cc0_scratch2 f) ∗ (∃ f, pt c cc0_scratch3 f) ∗ (∃ f, pt c cc0_scratch4 f))
    ∗ (∃ r, prngReg c r) ∗ iprop(semVal ((c : Thread nD τ), SemLoc.dma (3 : DmaSem sig)) 0 ∗ sems c)
    ∗ iprop(pt c main_arg1 (V m c main_arg1) ∗ pt c main_arg3 (V m c main_arg3))
    ∗ (∃ f, ⌜A c f⌝ ∗ pt c main_v1 f))

theorem ΦDR_ΦS (c : Dev nD) : (Pipeline.ΦDR osem0 spec0 H0 R0 (V m) c : sProp 𝕄) ⊢ ΦS m (fun _ _ => True) c := by
  rw [Pipeline.ΦDR_eq, scopedRest0_eq, ownSems00_eq, hbmPts0_eq, ownedPts0_eq]
  unfold ΦS
  iintro ⟨H1, H2, H3, H4, ⟨%f, H5⟩⟩
  isplitl [H1]; · iexact H1
  isplitl [H2]; · iexact H2
  isplitl [H3]; · iexact H3
  isplitl [H4]; · iexact H4
  iexists f; isplitr; · ipureintro; trivial
  iexact H5
theorem ΦS_ΦDR (c : Dev nD) : ΦS m (fun _ _ => True) c ⊢ (Pipeline.ΦDR osem0 spec0 H0 R0 (V m) c : sProp 𝕄) := by
  rw [Pipeline.ΦDR_eq, scopedRest0_eq, ownSems00_eq, hbmPts0_eq, ownedPts0_eq]
  unfold ΦS
  iintro ⟨H1, H2, H3, H4, ⟨%f, -, H5⟩⟩
  isplitl [H1]; · iexact H1
  isplitl [H2]; · iexact H2
  isplitl [H3]; · iexact H3
  isplitl [H4]; · iexact H4
  iexists f; iexact H5

variable (A B : (c : Dev nD) → Bf (F := F) c main_v1 → Prop)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨_ + 3, h⟩ => absurd h (Nat.not_lt.2 (Nat.le_add_left _ _))
  Φ t := if t.val = 0 then ΦS m A c else ΦS m B c
  q _ := fullShare
  owed _ := 0

theorem A_eq (c : Dev nD) (w : Fin cfg0.W) : (dats m A B 0 c).A w = V m c (Pipeline.arrRef spec0 w) := by dsimp only [dats]
theorem after0 (c : Dev nD) (t : Fin cfg0.N) : (dats m A B 0 c).after 0 t = iblk m c 0 t := by dsimp only [dats]
theorem after1 (c : Dev nD) (t : Fin cfg0.N) : (dats m A B 0 c).after 1 t = iblk m c 1 t := by dsimp only [dats]
theorem after2 (c : Dev nD) (t : Fin cfg0.N) : (dats m A B 0 c).after 2 t = iblk m c 2 t := by dsimp only [dats]

theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The staged blocks, as the buffers they lie in. -/
abbrev blk0 (c : Dev nD) (t : Fin cfg0.N) : Bf (F := F) c cc0_stg0_0 := iblk m c 0 t
abbrev blk1 (c : Dev nD) (t : Fin cfg0.N) : Bf (F := F) c cc0_stg1_0 := iblk m c 1 t
abbrev blk2 (c : Dev nD) (t : Fin cfg0.N) : Bf (F := F) c cc0_stg2_0 := iblk m c 2 t

/-- A relation for the loop of each core, entered from `A`, left at `B`. -/
structure Carries where
  P : (c : Dev nD) → ℕ → Bf (F := F) c main_v1 → Bf (F := F) c cc0_scratch0 → Bf (F := F) c cc0_scratch4 → Prop
  pass : ∀ c, Passes c (blk0 m c t0_0) (V m c main_arg1) (blk1 m c t0_0) (V m c main_arg3) (blk2 m c t0_0) (P c)
  start : ∀ c y, A c y → ∀ s0 s4, P c 0 y s0 ((Memref.whole cc0_scratch4).view.writes (Elt F) s4 [⟨Rect.unit ![0] S1.size inb_S1_S1_0, fun _ => 0#32⟩])
  stop : ∀ c y s0 s4, P c 48 y s0 s4 → B c y

variable {A B} (C : Carries m A B)

def bodyPre (c : Dev nD) (t : Fin cfg0.N) : sProp 𝕄 :=
  iprop((dats m A B 0 c).Φ t.castSucc ∗ (dats m A B 0 c).owesAt () t.castSucc
    ∗ (∃ d, owns (c : Thread nD τ) (win0_0.stage (cfg0.slots t 0)) fullShare ((dats m A B 0 c).before 0 t d))
    ∗ (∃ d, owns (c : Thread nD τ) (win0_1.stage (cfg0.slots t 1)) fullShare ((dats m A B 0 c).before 1 t d))
    ∗ (∃ d, owns (c : Thread nD τ) (win0_2.stage (cfg0.slots t 2)) fullShare ((dats m A B 0 c).before 2 t d)))
def bodyPost (c : Dev nD) (t : Fin cfg0.N) : sProp 𝕄 :=
  iprop((dats m A B 0 c).Φ t.succ ∗ (dats m A B 0 c).owesAt () t.succ
    ∗ owns (c : Thread nD τ) (win0_0.stage (cfg0.slots t 0)) fullShare ((dats m A B 0 c).after 0 t)
    ∗ owns (c : Thread nD τ) (win0_1.stage (cfg0.slots t 1)) fullShare ((dats m A B 0 c).after 1 t)
    ∗ owns (c : Thread nD τ) (win0_2.stage (cfg0.slots t 2)) fullShare ((dats m A B 0 c).after 2 t))

theorem pre0 (c : Dev nD) (t : Fin cfg0.N) : iprop(∃ d, owns (c : Thread nD τ) (win0_0.stage (cfg0.slots t 0)) fullShare ((dats m A B 0 c).before 0 t d)) ⊢ pt c cc0_stg0_0 (blk0 m c t) := by
  simp only [before0 m (dats m A B 0 c) (A_eq m A B c 0) (after0 m A B c)]
  iintro ⟨%d, H⟩
  iapply (BIBase.Entails.of_eq (owns_whole ..)); iexact H
theorem post0 (c : Dev nD) (t : Fin cfg0.N) : pt c cc0_stg0_0 (blk0 m c t) ⊢ owns (c : Thread nD τ) (win0_0.stage (cfg0.slots t 0)) fullShare ((dats m A B 0 c).after 0 t) := by
  rw [after0]; exact BIBase.Entails.of_eq (owns_whole ..).symm
theorem pre1 (c : Dev nD) (t : Fin cfg0.N) : iprop(∃ d, owns (c : Thread nD τ) (win0_1.stage (cfg0.slots t 1)) fullShare ((dats m A B 0 c).before 1 t d)) ⊢ pt c cc0_stg1_0 (blk1 m c t) := by
  simp only [before1 m (dats m A B 0 c) (A_eq m A B c 1) (after1 m A B c)]
  iintro ⟨%d, H⟩
  iapply (BIBase.Entails.of_eq (owns_whole ..)); iexact H
theorem post1 (c : Dev nD) (t : Fin cfg0.N) : pt c cc0_stg1_0 (blk1 m c t) ⊢ owns (c : Thread nD τ) (win0_1.stage (cfg0.slots t 1)) fullShare ((dats m A B 0 c).after 1 t) := by
  rw [after1]; exact BIBase.Entails.of_eq (owns_whole ..).symm
theorem pre2 (c : Dev nD) (t : Fin cfg0.N) : iprop(∃ d, owns (c : Thread nD τ) (win0_2.stage (cfg0.slots t 2)) fullShare ((dats m A B 0 c).before 2 t d)) ⊢ pt c cc0_stg2_0 (blk2 m c t) := by
  simp only [before2 m (dats m A B 0 c) (A_eq m A B c 2) (after2 m A B c)]
  iintro ⟨%d, H⟩
  iapply (BIBase.Entails.of_eq (owns_whole ..)); iexact H
theorem post2 (c : Dev nD) (t : Fin cfg0.N) : pt c cc0_stg2_0 (blk2 m c t) ⊢ owns (c : Thread nD τ) (win0_2.stage (cfg0.slots t 2)) fullShare ((dats m A B 0 c).after 2 t) := by
  rw [after2]; exact BIBase.Entails.of_eq (owns_whole ..).symm

include C in
theorem sound_body (c : Dev nD) (t : Fin cfg0.N) :
    bodyPre (A := A) (B := B) m c t ⊢ wp frame (wpE (defs₀ (F := F)) Variants.none c none) Set.univ (bodyAt0 t) (fun _ => bodyPost (A := A) (B := B) m c t) := by
  obtain rfl := fin_N0 t
  unfold bodyPre bodyPost bodyAt0
  rw [show (dats m A B 0 c).Φ (t0_0 : Fin cfg0.N).castSucc = ΦS m A c from rfl, show (dats m A B 0 c).Φ (t0_0 : Fin cfg0.N).succ = ΦS m B c from rfl]
  unfold Dat.owesAt Pipeline.owesWithin ΦS
  rw [show (dats m A B 0 c).owed (t0_0 : Fin cfg0.N).castSucc = 0 from rfl, show (dats m A B 0 c).owed (t0_0 : Fin cfg0.N).succ = 0 from rfl]
  iintro ⟨⟨⟨HS0, HS1, HS2, HS3, HS4⟩, Hg, ⟨Hq, Hs⟩, ⟨Hx, Hw⟩, ⟨%y, %hy, Hy⟩⟩, ⟨%W, -, HW⟩, H0, H1, H2⟩
  iapply (bodyRun c (blk0 m c t0_0) (V m c main_arg1) (blk1 m c t0_0) (V m c main_arg3) (blk2 m c t0_0) (C.P c) (C.pass c) y (C.start c y hy) W _)
  isplitl [H0]; · iapply (pre0 (A := A) (B := B) m c t0_0); iexact H0
  isplitl [Hx]; · iexact Hx
  isplitl [H1]; · iapply (pre1 (A := A) (B := B) m c t0_0); iexact H1
  isplitl [Hw]; · iexact Hw
  isplitl [H2]; · iapply (pre2 (A := A) (B := B) m c t0_0); iexact H2
  isplitl [Hy]; · iexact Hy
  isplitl [HS0]; · iexact HS0
  isplitl [HS1]; · iexact HS1
  isplitl [HS2]; · iexact HS2
  isplitl [HS3]; · iexact HS3
  isplitl [HS4]; · iexact HS4
  isplitl [Hs]; · iexact Hs
  isplitl [HW]; · iexact HW
  unfold inv
  iintro ⟨%y', %s0, %s1, %s2, %s3, %s4, %W', %h, H0, Hx, H1, Hw, H2, Hy, HS0, HS1, HS2, HS3, HS4, Hs, HW'⟩
  isplitl [HS0 HS1 HS2 HS3 HS4 Hg Hq Hs Hx Hw Hy]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    isplitl [Hg]; · iexact Hg
    isplitl [Hq Hs]
    · isplitl [Hq]; · iexact Hq
      iexact Hs
    isplitl [Hx Hw]
    · isplitl [Hx]; · iexact Hx
      iexact Hw
    iexists y'; isplitr; · ipureintro; exact C.stop c y' s0 s4 h
    iexact Hy
  isplitl [HW']
  · iexists W'; isplitr; · ipureintro; exact fun _ _ => Or.inl trivial
    iexact HW'
  isplitl [H0]; · iapply (post0 (A := A) (B := B) m c t0_0); iexact H0
  isplitl [H1]; · iapply (post1 (A := A) (B := B) m c t0_0); iexact H1
  iapply (post2 (A := A) (B := B) m c t0_0); iexact H2

theorem defs₀_row (t : Fin cfg0.N) :
    defs₀ (F := F) .tc cfg0.body (cfg0.bodyArgs t (cfg0.slots t)) = bodyAt0 t := by
  unfold defs₀; rw [Defs.onTc_tc]

include C in
theorem body_obligation (c : Dev nD) : BodyObligation (dats (F := F) m A B 0 c) (defs₀ (F := F)) Variants.none () Set.univ := fun t => by
  rw [bigSep_W0, bigSep_W0, defs₀_row]
  exact triple_restated (sound_body m C c t) rfl .rfl fun _ => .rfl

/-- The trivial relation. -/
def anything : Carries m (fun _ _ => True) (fun _ _ => True) where
  P _ _ _ _ _ := True
  pass _ _ _ _ _ _ _ _ _ _ := trivial
  start _ _ _ _ _ := trivial
  stop _ _ _ _ _ := trivial

theorem args_of {A B : (c : Dev nD) → Bf (F := F) c main_v1 → Prop} {r : PUnit × MemSt nD τ sig (Elt F)}
    (h : Pipeline.FramePostR cfgs (dats m A B) 0 R0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m A B 0 c).arrAt_in 0 rfl _).trans ((A_eq m A B c 0).trans (V_main_arg0 m c))),
    ((h c).2 main_arg1 (Finset.mem_sdiff.mpr ⟨Pipeline.mem_restRefs_of main_arg1 (by decide) (by decide), by decide⟩)).trans (V_main_arg1 m c),
    ((h c).1 1).trans (((dats m A B 0 c).arrAt_in 1 rfl _).trans ((A_eq m A B c 1).trans (V_main_arg2 m c))),
    ((h c).2 main_arg3 (Finset.mem_sdiff.mpr ⟨Pipeline.mem_restRefs_of main_arg3 (by decide) (by decide), by decide⟩)).trans (V_main_arg3 m c),
    ((h c).2 main_arg4 (Finset.mem_sdiff.mpr ⟨Pipeline.mem_restRefs_of main_arg4 (by decide) (by decide), by decide⟩)).trans (V_main_arg4 m c),
    ((h c).2 main_arg5 (Finset.mem_sdiff.mpr ⟨Pipeline.mem_restRefs_of main_arg5 (by decide) (by decide), by decide⟩)).trans (V_main_arg5 m c)⟩

set_option backward.isDefEq.respectTransparency.types false in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r (h : Pipeline.FramePostR cfgs (dats m (fun _ _ => True) (fun _ _ => True)) 0 R0 (V m) r ∧ r.2.sem = fun _ => 0) => ⟨fun c => args_of m h.1 c, h.2⟩)
    (Pipeline.θ_run_frame_dmaR (Q' := _) cfgs (dats m (fun _ _ => True) (fun _ _ => True)) (0 : Fin 1) launch0 osem0 defs₀ Variants.none ownSemFacts0 H0 R0 H0_sub R0_sub m ρ main
      (hbody := fun c => (body_obligation m (anything m) c).loose) (hshare := fun c => (dats m _ _ 0 c).share_full fun _ => rfl)
      (howed := fun _ _ => rfl) (V := V m) (hmain := hmainD m Variants.none) (hA := A_eq m _ _)
      (hin := fun c => ΦDR_ΦS m c) (hout := fun c => ΦS_ΦDR m c))

end Cert.Repair.Hand
end
-- ==== Proof.Ideal.RepairTrip.lean ====
/-
  One trip of the repairing loop: a tile whose words were made with another scale is multiplied and quantised again.
-/
module

public import proofs.«01_k».proof.Proof.Gen.RepairIdeal.Loops
public import proofs.«01_k».proof.Proof.Gen.RepairIdeal.Frame
public import Idealize.ShloMosaic.Lib.Pipeline.FrameValue

@[expose] public section

set_option maxRecDepth 16384

noncomputable section

namespace Cert.RepairIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RepairIdeal Cert.RepairIdeal.Gen

variable {F : FTy → Type} [FloatOps F]

local notation "𝕄" => MT nD τ sig Unit (Elt F) ℕ (Pipeline.UD sig nD τ) ℕ

/-- A buffer of core `c`. -/
abbrev Bf (c : Dev nD) (b : Ref sig .tc) : Type := Buf (Elt F) ((Memref.whole b).view.loc (c : Thread nD τ))
/-- The buffer held whole. -/
abbrev pt (c : Dev nD) (b : Ref sig .tc) (f : Bf (F := F) c b) : sProp 𝕄 := (Memref.whole b).view.loc (c : Thread nD τ) ↦{fullShare} f

/-- The region of the loop, on the buffers it is called with. -/
abbrev body := k0_t1_body (F := F) (Memref.whole cc0_stg0_0) (Memref.isWhole_whole _) (Memref.whole main_arg1) (Memref.isWhole_whole _) (Memref.whole cc0_stg1_0) (Memref.isWhole_whole _) (Memref.whole main_arg3) (Memref.isWhole_whole _) (Memref.whole cc0_stg2_0) (Memref.isWhole_whole _) (Memref.whole main_v1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2

/-- The three counters at zero. -/
abbrev sems (c : Dev nD) : sProp 𝕄 :=
  iprop(semVal ((c : Thread nD τ), SemLoc.dma (4 : DmaSem sig)) 0 ∗ semVal ((c : Thread nD τ), SemLoc.dma (5 : DmaSem sig)) 0 ∗ semVal ((c : Thread nD τ), SemLoc.dma (6 : DmaSem sig)) 0)

/-- The word the tile of trip `k` was made with. -/
abbrev usedAt (c : Dev nD) (f0 : Bf (F := F) c cc0_stg0_0) (k : Fin k0_t1_loop.trips) : BitVec 32 :=
  (Memref.whole cc0_stg0_0).view.readAt (Elt F) (Rect.unit (s := S49) (k0_off1 k) S1.size (k0_off1_inb k)).toLoadRect f0 (Shape.Idx.first (numel1_S1.symm ▸ Nat.one_pos))
/-- The final word. -/
abbrev usedEnd (c : Dev nD) (f0 : Bf (F := F) c cc0_stg0_0) : BitVec 32 :=
  (Memref.whole cc0_stg0_0).view.readAt (Elt F) (Rect.unit (s := S49) ![48] S1.size inb_S49_S1_48).toLoadRect f0 (Shape.Idx.first (numel1_S1.symm ▸ Nat.one_pos))

set_option maxHeartbeats 4000000 in
noncomputable def trip (c : Dev nD) (k : Fin k0_t1_loop.trips) (f0 : Bf (F := F) c cc0_stg0_0) (x : Bf (F := F) c main_arg1) (xs : Bf (F := F) c cc0_stg1_0)
    (w : Bf (F := F) c main_arg3) (ws : Bf (F := F) c cc0_stg2_0) (y : Bf (F := F) c main_v1) (s0 : Bf (F := F) c cc0_scratch0)
    (s1 : Bf (F := F) c cc0_scratch1) (s2 : Bf (F := F) c cc0_scratch2) (s3 : Bf (F := F) c cc0_scratch3) (s4 : Bf (F := F) c cc0_scratch4)
    (W : Waits sig Unit) :
    Σ' (y' : Bf (F := F) c main_v1) (s0' : Bf (F := F) c cc0_scratch0) (s1' : Bf (F := F) c cc0_scratch1) (s2' : Bf (F := F) c cc0_scratch2)
      (s3' : Bf (F := F) c cc0_scratch3) (s4' : Bf (F := F) c cc0_scratch4), { W' : Waits sig Unit // ∀ K : Unit → sProp 𝕄,
    iprop(pt c cc0_stg0_0 f0 ∗ pt c main_arg1 x ∗ pt c cc0_stg1_0 xs ∗ pt c main_arg3 w ∗ pt c cc0_stg2_0 ws ∗ pt c main_v1 y
        ∗ pt c cc0_scratch0 s0 ∗ pt c cc0_scratch1 s1 ∗ pt c cc0_scratch2 s2 ∗ pt c cc0_scratch3 s3 ∗ pt c cc0_scratch4 s4
        ∗ sems c ∗ owes (c : Thread nD τ) 0 W
        ∗ ((pt c cc0_stg0_0 f0 ∗ pt c main_arg1 x ∗ pt c cc0_stg1_0 xs ∗ pt c main_arg3 w ∗ pt c cc0_stg2_0 ws ∗ pt c main_v1 y'
          ∗ pt c cc0_scratch0 s0' ∗ pt c cc0_scratch1 s1' ∗ pt c cc0_scratch2 s2' ∗ pt c cc0_scratch3 s3' ∗ pt c cc0_scratch4 s4'
          ∗ sems c ∗ owes (c : Thread nD τ) 0 W') -∗ K ()))
      ⊢ wp frame (wpE (defs₀ (F := F)) Variants.none c none) Set.univ (body (F := F) k ()) K } := by
  refine ⟨?_, ?_, ?_, ?_, ?_, ?_, ?_, fun K => ?run⟩
  case run =>
    iintro ⟨H0, H1, H2, H3, H4, H6, H7, H8, H9, H10, H11, ⟨Ha, Hb, Hc⟩, HO, Hk⟩
    unfold body k0_t1_body
    simp only [k0_part1_eq_skeleton, k0_part2_eq_skeleton, k0_part3_eq_skeleton, k0_part4_eq_skeleton, k0_part5_eq_skeleton, k0_part6_eq_skeleton]
    sl_exec
    sl_step
    iapply Hk
    isplitl [H0]; · iexact H0
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [Ha Hb Hc]
    · isplitl [Ha]; · iexact Ha
      isplitl [Hb]; · iexact Hb
      iexact Hc
    iexact HO

end Cert.RepairIdeal.Hand
end
-- ==== Proof.Ideal.RepairTile.lean ====
/-
  The tile the repair stages for a row tile, read at an index over the extended reals.
-/
module

public import proofs.«01_k».proof.Proof.Ideal.RepairTrip
public import Idealize.ShloMosaic.Lib.Pipeline.ValueKit
public import Idealize.ShloMosaic.Lib.Claim
public import Idealize.ShloMosaic.Lib.Pointwise

@[expose] public section

set_option maxRecDepth 16384

noncomputable section

namespace Cert.RepairIdeal.Hand

open Idealize.ShloMosaic Idealize.ShloMosaic.TcCoe Idealize.SL.Sem
open Cert.RepairIdeal Cert.RepairIdeal.Gen

theorem off2 : ∀ k : Fin k0_t1_loop.trips, k0_off2 k = ![512 * k.val, 0] := by decide +kernel
theorem off3 : ∀ k : Fin k0_t1_loop.trips, k0_off3 k = ![k.val, 0, 0] := by decide +kernel
theorem off4 : ∀ k : Fin k0_t1_loop.trips, k0_off4 k = ![512 * k.val, 0] := by decide +kernel

/-- A product requantised at the inverse scale `inv`. -/
def fz (y inv : EReal) : EReal := min (Ideal.ofBits .f32 0x43E00000#32) (max (Ideal.ofBits .f32 0xC3E00000#32) (y * inv))

theorem tile_at (inv : EReal) (sc : FVec Ideal S512x1 .f32) (A : Vec Ideal S512x2048 .fp8e4m3) (W : Vec Ideal S2048x512 .fp8e4m3) (S : Vec Ideal S1x512 .f32) (r j : Fin 512) :
    k0_pay7 (F := Ideal) inv sc A W S (ix2 r j) = fz ((∑ κ : Fin 2048, A (ix2 r κ) * W (ix2 κ j)) * sc (ix2 r 0) * S (ix2 0 j)) inv := by
  pointwise [k0_pay7]
  rfl

/-- The whole staged tile. -/
def fresh (inv : EReal) (sc : FVec Ideal S512x1 .f32) (A : Vec Ideal S512x2048 .fp8e4m3) (w : Vec Ideal S2048x5632 .fp8e4m3) (ws : Vec Ideal S1x5632 .f32) : Vec Ideal S512x5632 .fp8e4m3 :=
  fun i => fz ((∑ κ : Fin 2048, A (ix2 (i 0) κ) * w (ix2 κ (i 1))) * sc (ix2 (i 0) 0) * ws (ix2 0 (i 1))) inv

theorem piece_at (c : Dev nD) (inv : EReal) (sc : FVec Ideal S512x1 .f32) (A : Vec Ideal S512x2048 .fp8e4m3) (wb w : Bf (F := Ideal) c cc0_scratch0) (hb : wb = w) (ws : Bf (F := Ideal) c cc0_stg2_0)
    (q : ℕ) (inb : ∀ a, ![0, 512 * q] a + S512x512.size a ≤ S512x5632.size a) (inw : ∀ a, ![0, 512 * q] a + S2048x512.size a ≤ S2048x5632.size a) (ins : ∀ a, ![0, 512 * q] a + S1x512.size a ≤ S1x5632.size a)
    (x : (Rect.unit (s := S512x5632) ![0, 512 * q] S512x512.size inb).shape.Idx) :
    k0_pay7 (F := Ideal) inv sc A (View.readAt (Elt Ideal) (Memref.whole cc0_scratch0).view (Rect.unit (s := S2048x5632) ![0, 512 * q] S2048x512.size inw).toLoadRect wb)
        (View.readAt (Elt Ideal) (Memref.whole cc0_stg2_0).view (Rect.unit (s := S1x5632) ![0, 512 * q] S1x512.size ins).toLoadRect ws) x
      = fresh inv sc A w ws ((Rect.unit (s := S512x5632) ![0, 512 * q] S512x512.size inb).emb x) := by
  subst hb
  obtain ⟨r, j, rfl⟩ : ∃ (r : Fin 512) (j : Fin 512), x = ix2 r j := ⟨x 0, x 1, eq_ix2 x⟩
  rw [tile_at]
  have hq : 512 * q + 512 ≤ 5632 := inb 1
  have he : (Rect.unit (s := S512x5632) ![0, 512 * q] S512x512.size inb).emb (ix2 r j) = ix2 r (⟨512 * q + j.val, by omega⟩ : Fin 5632) := by
    refine funext fun a => Fin.ext ?_
    rw [ValueKit.rect_emb_unit_val]
    match a with
    | ⟨0, _⟩ => exact Nat.zero_add _
    | ⟨1, _⟩ => rfl
  have hw : ∀ κ : Fin 2048, View.readAt (Elt Ideal) (Memref.whole cc0_scratch0).view (Rect.unit (s := S2048x5632) ![0, 512 * q] S2048x512.size inw).toLoadRect wb (ix2 κ j) = wb (ix2 κ (⟨512 * q + j.val, by omega⟩ : Fin 5632)) := by
    intro κ
    show wb ((Rect.unit (s := S2048x5632) ![0, 512 * q] S2048x512.size inw).emb (ix2 κ j)) = _
    refine congrArg wb (funext fun a => Fin.ext ?_)
    rw [ValueKit.rect_emb_unit_val]
    match a with
    | ⟨0, _⟩ => exact Nat.zero_add _
    | ⟨1, _⟩ => rfl
  have hs : View.readAt (Elt Ideal) (Memref.whole cc0_stg2_0).view (Rect.unit (s := S1x5632) ![0, 512 * q] S1x512.size ins).toLoadRect ws (ix2 0 j) = ws (ix2 0 (⟨512 * q + j.val, by omega⟩ : Fin 5632)) := by
    show ws ((Rect.unit (s := S1x5632) ![0, 512 * q] S1x512.size ins).emb (ix2 0 j)) = _
    refine congrArg ws (funext fun a => Fin.ext ?_)
    rw [ValueKit.rect_emb_unit_val]
    match a with
    | ⟨0, _⟩ => rfl
    | ⟨1, _⟩ => rfl
  rw [he]
  simp only [hw, hs]
  rfl

/-- The weights the trip multiplies by: copied now or by an earlier trip. -/
theorem wbuf_eq (c : Dev nD) (w : Bf (F := Ideal) c main_arg3) (s0 : Bf (F := Ideal) c cc0_scratch0) (s4 : Bf (F := Ideal) c cc0_scratch4)
    (h : trip.sl.v13 c s4 = 1#1 ∨ s0 = w) :
    (if hc : trip.sl.v13 c s4 = 1#1 then View.write (Elt Ideal) (Memref.whole cc0_scratch0).view s0 (trip.sl.dma5 c w) Finset.univ else s0) = w := by
  split_ifs with hc
  · exact View.write_whole_univ _ _ _
  · exact h.resolve_left hc

theorem dma65_eq (c : Dev nD) (k : Fin k0_t1_loop.trips) (f0 : Bf (F := Ideal) c cc0_stg0_0) (x : Bf (F := Ideal) c main_arg1) (xs : Bf (F := Ideal) c cc0_stg1_0) (w : Bf (F := Ideal) c main_arg3) (ws : Bf (F := Ideal) c cc0_stg2_0)
    (s0 : Bf (F := Ideal) c cc0_scratch0) (s1 : Bf (F := Ideal) c cc0_scratch1) (s3 : Bf (F := Ideal) c cc0_scratch3) (s4 : Bf (F := Ideal) c cc0_scratch4)
    (h : trip.sl.v13 c s4 = 1#1 ∨ s0 = w) :
    trip.sl.dma65 (F := Ideal) c k f0 x xs w ws s0 s1 s3 s4 = fresh (trip.sl.r_4 c f0) (trip.sl.r_5 c k xs) (trip.sl.v27 c k x s1) w ws := by
  unfold trip.sl.dma65
  show View.read _ _ _ = _
  funext y
  refine View.read_writes_apply_of_pieces (Memref.whole cc0_scratch3).view s3 (fresh (trip.sl.r_4 c f0) (trip.sl.r_5 c k xs) (trip.sl.v27 c k x s1) w ws) _ ?_ y (View.cover_of_tiled (s := S512x5632) _ S512x512.size rfl y)
  intro p hp i
  unfold trip.sl.H10_11 at hp
  simp only [List.mem_cons, List.not_mem_nil, or_false] at hp
  have hb := wbuf_eq c w s0 s4 h
  rcases hp with rfl | rfl | rfl | rfl | rfl | rfl | rfl | rfl | rfl | rfl | rfl
  · exact piece_at c _ _ _ _ w hb ws 10 inb_S512x5632_S512x512_0_5120 _ _ i
  · exact piece_at c _ _ _ _ w hb ws 9 inb_S512x5632_S512x512_0_4608 _ _ i
  · exact piece_at c _ _ _ _ w hb ws 8 inb_S512x5632_S512x512_0_4096 _ _ i
  · exact piece_at c _ _ _ _ w hb ws 7 inb_S512x5632_S512x512_0_3584 _ _ i
  · exact piece_at c _ _ _ _ w hb ws 6 inb_S512x5632_S512x512_0_3072 _ _ i
  · exact piece_at c _ _ _ _ w hb ws 5 inb_S512x5632_S512x512_0_2560 _ _ i
  · exact piece_at c _ _ _ _ w hb ws 4 inb_S512x5632_S512x512_0_2048 _ _ i
  · exact piece_at c _ _ _ _ w hb ws 3 inb_S512x5632_S512x512_0_1536 _ _ i
  · exact piece_at c _ _ _ _ w hb ws 2 inb_S512x5632_S512x512_0_1024 _ _ i
  · exact piece_at c _ _ _ _ w hb ws 1 inb_S512x5632_S512x512_0_512 _ _ i
  · exact piece_at c _ _ _ _ w hb ws 0 inb_S512x5632_S512x512_0_0 _ _ i

theorem v27_at (c : Dev nD) (k : Fin k0_t1_loop.trips) (x : Bf (F := Ideal) c main_arg1) (s1 : Bf (F := Ideal) c cc0_scratch1) (r : Fin 512) (κ : Fin 2048) (R : Fin 24576) (hR : R.val = 512 * k.val + r.val) :
    (trip.sl.v27 c k x s1 : Vec Ideal S512x2048 .fp8e4m3) (ix2 r κ) = x (ix2 R κ) := by
  unfold trip.sl.v27
  rw [View.write_whole_univ]
  show x _ = _
  refine congrArg x (funext fun a => Fin.ext ?_)
  match a with
  | ⟨0, _⟩ =>
    show k0_off2 k 0 + 1 * (0 + 1 * r.val) = R.val
    rw [off2, hR]
    show 512 * k.val + _ = _
    omega
  | ⟨1, _⟩ =>
    show k0_off2 k 1 + 1 * (0 + 1 * κ.val) = κ.val
    rw [off2]
    show 0 + _ = _
    omega

theorem r5_at (c : Dev nD) (k : Fin k0_t1_loop.trips) (xs : Bf (F := Ideal) c cc0_stg1_0) (r : Fin 512) (K : Fin 48) (hK : K.val = k.val) :
    trip.sl.r_5 (F := Ideal) c k xs (ix2 r 0) = xs (ix3 K 0 r) := by
  unfold trip.sl.r_5 trip.sl.v25
  pointwise [k0_pay4, k0_pay2]
  unfold trip.sl.H9_1
  rw [View.readCov_cons_toLoadRect]
  pointwise [k0_pay2]
  show xs _ = _
  refine congrArg xs (funext fun a => Fin.ext ?_)
  match a with
  | ⟨0, _⟩ =>
    show k0_off3 k 0 + 1 * 0 = K.val
    rw [off3, hK]
    rfl
  | ⟨1, _⟩ =>
    show k0_off3 k 1 + 1 * 0 = 0
    rw [off3]
    rfl
  | ⟨2, _⟩ =>
    show k0_off3 k 2 + 1 * r.val = r.val
    rw [off3]
    show 0 + _ = _
    omega

theorem r4_eq (c : Dev nD) (f0 : Bf (F := Ideal) c cc0_stg0_0) : trip.sl.r_4 (F := Ideal) c f0 = Ideal.ofBits .f32 (f0 (ix1 (48 : Fin 49))) := by
  unfold trip.sl.r_4 trip.sl.r_3 k0_pay3
  show Ideal.ofBits .f32 (f0 _) = _
  refine congrArg (fun i => Ideal.ofBits .f32 (f0 i)) (funext fun a => Fin.ext ?_)
  match a with
  | ⟨0, _⟩ => rfl

end Cert.RepairIdeal.Hand
end
-- ==== Proof.Ideal.RepairLoop.lean ====
/-
  The repairing loop whole: forty-eight trips carry a relation between the words of y, the buffer of weights and the
  flag that says the weights are in it.
-/
module

public import proofs.«01_k».proof.Proof.Ideal.RepairTrip

@[expose] public section

set_option maxRecDepth 16384

noncomputable section

namespace Cert.RepairIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RepairIdeal Cert.RepairIdeal.Gen

variable {F : FTy → Type} [FloatOps F]

local notation "𝕄" => MT nD τ sig Unit (Elt F) ℕ (Pipeline.UD sig nD τ) ℕ

variable (c : Dev nD) (f0 : Bf (F := F) c cc0_stg0_0) (x : Bf (F := F) c main_arg1) (xs : Bf (F := F) c cc0_stg1_0) (w : Bf (F := F) c main_arg3) (ws : Bf (F := F) c cc0_stg2_0)
  (P : ℕ → Bf (F := F) c main_v1 → Bf (F := F) c cc0_scratch0 → Bf (F := F) c cc0_scratch4 → Prop)

/-- Before trip `k`: the inputs as they were, the rest at contents the relation holds of. -/
def inv (k : ℕ) : sProp 𝕄 :=
  iprop(∃ y, ∃ s0, ∃ s1, ∃ s2, ∃ s3, ∃ s4, ∃ W, ⌜P k y s0 s4⌝
    ∗ pt c cc0_stg0_0 f0 ∗ pt c main_arg1 x ∗ pt c cc0_stg1_0 xs ∗ pt c main_arg3 w ∗ pt c cc0_stg2_0 ws ∗ pt c main_v1 y
    ∗ pt c cc0_scratch0 s0 ∗ pt c cc0_scratch1 s1 ∗ pt c cc0_scratch2 s2 ∗ pt c cc0_scratch3 s3 ∗ pt c cc0_scratch4 s4
    ∗ sems c ∗ owes (c : Thread nD τ) 0 W)

/-- The relation passes each trip. -/
def Passes : Prop := ∀ (k : Fin k0_t1_loop.trips) y s0 s1 s2 s3 s4 W, P k.val y s0 s4 →
  P (k.val + 1) (trip c k f0 x xs w ws y s0 s1 s2 s3 s4 W).1 (trip c k f0 x xs w ws y s0 s1 s2 s3 s4 W).2.1 (trip c k f0 x xs w ws y s0 s1 s2 s3 s4 W).2.2.2.2.2.1

theorem step (hP : Passes c f0 x xs w ws P) (k : Fin k0_t1_loop.trips) :
    inv c f0 x xs w ws P k.val ⊢ wp frame (wpE (defs₀ (F := F)) Variants.none c none) Set.univ (body (F := F) k ()) (fun _ => inv c f0 x xs w ws P (k.val + 1)) := by
  unfold inv
  iintro ⟨%y, %s0, %s1, %s2, %s3, %s4, %W, %h, H0, H1, H2, H3, H4, H6, H7, H8, H9, H10, H11, Hs, HO⟩
  iapply ((trip c k f0 x xs w ws y s0 s1 s2 s3 s4 W).2.2.2.2.2.2.2 _)
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [Hs]; · iexact Hs
  isplitl [HO]; · iexact HO
  iintro H
  iexists _, _, _, _, _, _, _
  isplitr
  swap; · iexact H
  ipureintro; exact hP k y s0 s1 s2 s3 s4 W h

/-- The whole body: the flag lowered, then the loop. -/
theorem bodyRun (hP : Passes c f0 x xs w ws P) (y : Bf (F := F) c main_v1)
    (h0 : ∀ s0 s4, P 0 y s0 ((Memref.whole cc0_scratch4).view.writes (Elt F) s4 [⟨Rect.unit ![0] S1.size inb_S1_S1_0, fun _ => 0#32⟩]))
    (W : Waits sig Unit) (K : PUnit → sProp 𝕄) :
    iprop(pt c cc0_stg0_0 f0 ∗ pt c main_arg1 x ∗ pt c cc0_stg1_0 xs ∗ pt c main_arg3 w ∗ pt c cc0_stg2_0 ws ∗ pt c main_v1 y
        ∗ (∃ s0, pt c cc0_scratch0 s0) ∗ (∃ s1, pt c cc0_scratch1 s1) ∗ (∃ s2, pt c cc0_scratch2 s2) ∗ (∃ s3, pt c cc0_scratch3 s3) ∗ (∃ s4, pt c cc0_scratch4 s4)
        ∗ sems c ∗ owes (c : Thread nD τ) 0 W ∗ (inv c f0 x xs w ws P 48 -∗ K ⟨⟩))
      ⊢ wp frame (wpE (defs₀ (F := F)) Variants.none c none) Set.univ
          (cc0_repair (F := F) (Memref.whole cc0_stg0_0) (Memref.isWhole_whole _) (Memref.whole main_arg1) (Memref.isWhole_whole _) (Memref.whole cc0_stg1_0) (Memref.isWhole_whole _) (Memref.whole main_arg3) (Memref.isWhole_whole _) (Memref.whole cc0_stg2_0) (Memref.isWhole_whole _) (Memref.whole main_v1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2) K := by
  iintro ⟨H0, H1, H2, H3, H4, H6, ⟨%s0, H7⟩, ⟨%s1, H8⟩, ⟨%s2, H9⟩, ⟨%s3, H10⟩, ⟨%s4, H11⟩, Hs, HO, Hk⟩
  simp only [cc0_repair_eq_skeleton]; unfold cc0_repair_skel
  sl_exec
  iapply (Scf.wp_for_bind (Idealize.ShloMosaic.frame) (wpE (defs₀ (F := F)) Variants.none c none) Set.univ _ _ _ _ _ _ (fun k _ => inv c f0 x xs w ws P k) (fun k _ => step c f0 x xs w ws P hP k)) $$ [H0 H1 H2 H3 H4 H6 H7 H8 H9 H10 H11 Hs HO]
  · unfold inv
    iexists y, s0, s1, s2, s3, _, W
    isplitr
    swap
    · isplitl [H0]; · iexact H0
      isplitl [H1]; · iexact H1
      isplitl [H2]; · iexact H2
      isplitl [H3]; · iexact H3
      isplitl [H4]; · iexact H4
      isplitl [H6]; · iexact H6
      isplitl [H7]; · iexact H7
      isplitl [H8]; · iexact H8
      isplitl [H9]; · iexact H9
      isplitl [H10]; · iexact H10
      isplitl [H11]; · iexact H11
      isplitl [Hs]; · iexact Hs
      iexact HO
    ipureintro; exact h0 s0 _
  iintro %a H
  sl_step
  iapply Hk
  iexact H

end Cert.RepairIdeal.Hand
end
-- ==== Proof.Ideal.RepairRegion.lean ====
/-
  The repairing call as a region: the body run on the staged blocks, what it leaves in y known by a relation, and the
  frame.
-/
module

public import proofs.«01_k».proof.Proof.Ideal.RepairLoop
public import Idealize.ShloMosaic.Lib.Pipeline.FrameValue

@[expose] public section

set_option maxRecDepth 16384

noncomputable section

namespace Cert.RepairIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RepairIdeal Cert.RepairIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The written array, the arrays read in place, the body's counters. -/
def R0 : Finset (Ref sig .tc) := {main_v1}
def H0 : Finset (Ref sig .tc) := {main_arg1, main_arg3}
abbrev osem0 : Fin 4 → SemLoc sig := fun j => (![SemLoc.dma 3, SemLoc.dma 4, SemLoc.dma 5, SemLoc.dma 6] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ sems c) := by
  rw [Pipeline.ownSems0_eq_of_list c osem0 [0, 1, 2, 3] (by decide) (by decide)]; rfl
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄)
      = iprop(pt c main_arg1 (V m c main_arg1) ∗ pt c main_arg3 (V m c main_arg3)) := by
  rw [BI.bigSep_eq_bigSepL_of_eq [main_arg1, main_arg3] (by decide) (by decide)]; rfl
theorem ownedPts0_eq (c : Dev nD) : (Pipeline.owned R0 c : sProp 𝕄) = iprop(∃ f, pt c main_v1 f) := by
  unfold Pipeline.owned; rw [BI.bigSep_eq_bigSepL_of_eq [main_v1] (by decide) (by decide)]; rfl
theorem routedPts0_eq (c : Dev nD) (G : (b : Ref sig .tc) → Buf (Elt F) ((c : Thread nD τ).loc b)) :
    (Pipeline.routed R0 c G : sProp 𝕄) = pt c main_v1 (G main_v1) := by
  unfold Pipeline.routed; rw [BI.bigSep_eq_bigSepL_of_eq [main_v1] (by decide) (by decide)]; rfl

/-- The invariant: what the body needs beside its windows, the written array at contents `A` holds of. -/
def ΦS (A : (c : Dev nD) → Bf (F := F) c main_v1 → Prop) (c : Dev nD) : sProp 𝕄 :=
  iprop(iprop((∃ f, pt c cc0_scratch0 f) ∗ (∃ f, pt c cc0_scratch1 f) ∗ (∃ f, pt c cc0_scratch2 f) ∗ (∃ f, pt c cc0_scratch3 f) ∗ (∃ f, pt c cc0_scratch4 f))
    ∗ (∃ r, prngReg c r) ∗ iprop(semVal ((c : Thread nD τ), SemLoc.dma (3 : DmaSem sig)) 0 ∗ sems c)
    ∗ iprop(pt c main_arg1 (V m c main_arg1) ∗ pt c main_arg3 (V m c main_arg3))
    ∗ (∃ f, ⌜A c f⌝ ∗ pt c main_v1 f))

theorem ΦDR_ΦS (c : Dev nD) : (Pipeline.ΦDR osem0 spec0 H0 R0 (V m) c : sProp 𝕄) ⊢ ΦS m (fun _ _ => True) c := by
  rw [Pipeline.ΦDR_eq, scopedRest0_eq, ownSems00_eq, hbmPts0_eq, ownedPts0_eq]
  unfold ΦS
  iintro ⟨H1, H2, H3, H4, ⟨%f, H5⟩⟩
  isplitl [H1]; · iexact H1
  isplitl [H2]; · iexact H2
  isplitl [H3]; · iexact H3
  isplitl [H4]; · iexact H4
  iexists f; isplitr; · ipureintro; trivial
  iexact H5
theorem ΦS_ΦDR (c : Dev nD) : ΦS m (fun _ _ => True) c ⊢ (Pipeline.ΦDR osem0 spec0 H0 R0 (V m) c : sProp 𝕄) := by
  rw [Pipeline.ΦDR_eq, scopedRest0_eq, ownSems00_eq, hbmPts0_eq, ownedPts0_eq]
  unfold ΦS
  iintro ⟨H1, H2, H3, H4, ⟨%f, -, H5⟩⟩
  isplitl [H1]; · iexact H1
  isplitl [H2]; · iexact H2
  isplitl [H3]; · iexact H3
  isplitl [H4]; · iexact H4
  iexists f; iexact H5

variable (A B : (c : Dev nD) → Bf (F := F) c main_v1 → Prop)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨_ + 3, h⟩ => absurd h (Nat.not_lt.2 (Nat.le_add_left _ _))
  Φ t := if t.val = 0 then ΦS m A c else ΦS m B c
  q _ := fullShare
  owed _ := 0

theorem A_eq (c : Dev nD) (w : Fin cfg0.W) : (dats m A B 0 c).A w = V m c (Pipeline.arrRef spec0 w) := by dsimp only [dats]
theorem after0 (c : Dev nD) (t : Fin cfg0.N) : (dats m A B 0 c).after 0 t = iblk m c 0 t := by dsimp only [dats]
theorem after1 (c : Dev nD) (t : Fin cfg0.N) : (dats m A B 0 c).after 1 t = iblk m c 1 t := by dsimp only [dats]
theorem after2 (c : Dev nD) (t : Fin cfg0.N) : (dats m A B 0 c).after 2 t = iblk m c 2 t := by dsimp only [dats]

theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The staged blocks, as the buffers they lie in. -/
abbrev blk0 (c : Dev nD) (t : Fin cfg0.N) : Bf (F := F) c cc0_stg0_0 := iblk m c 0 t
abbrev blk1 (c : Dev nD) (t : Fin cfg0.N) : Bf (F := F) c cc0_stg1_0 := iblk m c 1 t
abbrev blk2 (c : Dev nD) (t : Fin cfg0.N) : Bf (F := F) c cc0_stg2_0 := iblk m c 2 t

/-- A relation for the loop of each core, entered from `A`, left at `B`. -/
structure Carries where
  P : (c : Dev nD) → ℕ → Bf (F := F) c main_v1 → Bf (F := F) c cc0_scratch0 → Bf (F := F) c cc0_scratch4 → Prop
  pass : ∀ c, Passes c (blk0 m c t0_0) (V m c main_arg1) (blk1 m c t0_0) (V m c main_arg3) (blk2 m c t0_0) (P c)
  start : ∀ c y, A c y → ∀ s0 s4, P c 0 y s0 ((Memref.whole cc0_scratch4).view.writes (Elt F) s4 [⟨Rect.unit ![0] S1.size inb_S1_S1_0, fun _ => 0#32⟩])
  stop : ∀ c y s0 s4, P c 48 y s0 s4 → B c y

variable {A B} (C : Carries m A B)

def bodyPre (c : Dev nD) (t : Fin cfg0.N) : sProp 𝕄 :=
  iprop((dats m A B 0 c).Φ t.castSucc ∗ (dats m A B 0 c).owesAt () t.castSucc
    ∗ (∃ d, owns (c : Thread nD τ) (win0_0.stage (cfg0.slots t 0)) fullShare ((dats m A B 0 c).before 0 t d))
    ∗ (∃ d, owns (c : Thread nD τ) (win0_1.stage (cfg0.slots t 1)) fullShare ((dats m A B 0 c).before 1 t d))
    ∗ (∃ d, owns (c : Thread nD τ) (win0_2.stage (cfg0.slots t 2)) fullShare ((dats m A B 0 c).before 2 t d)))
def bodyPost (c : Dev nD) (t : Fin cfg0.N) : sProp 𝕄 :=
  iprop((dats m A B 0 c).Φ t.succ ∗ (dats m A B 0 c).owesAt () t.succ
    ∗ owns (c : Thread nD τ) (win0_0.stage (cfg0.slots t 0)) fullShare ((dats m A B 0 c).after 0 t)
    ∗ owns (c : Thread nD τ) (win0_1.stage (cfg0.slots t 1)) fullShare ((dats m A B 0 c).after 1 t)
    ∗ owns (c : Thread nD τ) (win0_2.stage (cfg0.slots t 2)) fullShare ((dats m A B 0 c).after 2 t))

theorem pre0 (c : Dev nD) (t : Fin cfg0.N) : iprop(∃ d, owns (c : Thread nD τ) (win0_0.stage (cfg0.slots t 0)) fullShare ((dats m A B 0 c).before 0 t d)) ⊢ pt c cc0_stg0_0 (blk0 m c t) := by
  simp only [before0 m (dats m A B 0 c) (A_eq m A B c 0) (after0 m A B c)]
  iintro ⟨%d, H⟩
  iapply (BIBase.Entails.of_eq (owns_whole ..)); iexact H
theorem post0 (c : Dev nD) (t : Fin cfg0.N) : pt c cc0_stg0_0 (blk0 m c t) ⊢ owns (c : Thread nD τ) (win0_0.stage (cfg0.slots t 0)) fullShare ((dats m A B 0 c).after 0 t) := by
  rw [after0]; exact BIBase.Entails.of_eq (owns_whole ..).symm
theorem pre1 (c : Dev nD) (t : Fin cfg0.N) : iprop(∃ d, owns (c : Thread nD τ) (win0_1.stage (cfg0.slots t 1)) fullShare ((dats m A B 0 c).before 1 t d)) ⊢ pt c cc0_stg1_0 (blk1 m c t) := by
  simp only [before1 m (dats m A B 0 c) (A_eq m A B c 1) (after1 m A B c)]
  iintro ⟨%d, H⟩
  iapply (BIBase.Entails.of_eq (owns_whole ..)); iexact H
theorem post1 (c : Dev nD) (t : Fin cfg0.N) : pt c cc0_stg1_0 (blk1 m c t) ⊢ owns (c : Thread nD τ) (win0_1.stage (cfg0.slots t 1)) fullShare ((dats m A B 0 c).after 1 t) := by
  rw [after1]; exact BIBase.Entails.of_eq (owns_whole ..).symm
theorem pre2 (c : Dev nD) (t : Fin cfg0.N) : iprop(∃ d, owns (c : Thread nD τ) (win0_2.stage (cfg0.slots t 2)) fullShare ((dats m A B 0 c).before 2 t d)) ⊢ pt c cc0_stg2_0 (blk2 m c t) := by
  simp only [before2 m (dats m A B 0 c) (A_eq m A B c 2) (after2 m A B c)]
  iintro ⟨%d, H⟩
  iapply (BIBase.Entails.of_eq (owns_whole ..)); iexact H
theorem post2 (c : Dev nD) (t : Fin cfg0.N) : pt c cc0_stg2_0 (blk2 m c t) ⊢ owns (c : Thread nD τ) (win0_2.stage (cfg0.slots t 2)) fullShare ((dats m A B 0 c).after 2 t) := by
  rw [after2]; exact BIBase.Entails.of_eq (owns_whole ..).symm

include C in
theorem sound_body (c : Dev nD) (t : Fin cfg0.N) :
    bodyPre (A := A) (B := B) m c t ⊢ wp frame (wpE (defs₀ (F := F)) Variants.none c none) Set.univ (bodyAt0 t) (fun _ => bodyPost (A := A) (B := B) m c t) := by
  obtain rfl := fin_N0 t
  unfold bodyPre bodyPost bodyAt0
  rw [show (dats m A B 0 c).Φ (t0_0 : Fin cfg0.N).castSucc = ΦS m A c from rfl, show (dats m A B 0 c).Φ (t0_0 : Fin cfg0.N).succ = ΦS m B c from rfl]
  unfold Dat.owesAt Pipeline.owesWithin ΦS
  rw [show (dats m A B 0 c).owed (t0_0 : Fin cfg0.N).castSucc = 0 from rfl, show (dats m A B 0 c).owed (t0_0 : Fin cfg0.N).succ = 0 from rfl]
  iintro ⟨⟨⟨HS0, HS1, HS2, HS3, HS4⟩, Hg, ⟨Hq, Hs⟩, ⟨Hx, Hw⟩, ⟨%y, %hy, Hy⟩⟩, ⟨%W, -, HW⟩, H0, H1, H2⟩
  iapply (bodyRun c (blk0 m c t0_0) (V m c main_arg1) (blk1 m c t0_0) (V m c main_arg3) (blk2 m c t0_0) (C.P c) (C.pass c) y (C.start c y hy) W _)
  isplitl [H0]; · iapply (pre0 (A := A) (B := B) m c t0_0); iexact H0
  isplitl [Hx]; · iexact Hx
  isplitl [H1]; · iapply (pre1 (A := A) (B := B) m c t0_0); iexact H1
  isplitl [Hw]; · iexact Hw
  isplitl [H2]; · iapply (pre2 (A := A) (B := B) m c t0_0); iexact H2
  isplitl [Hy]; · iexact Hy
  isplitl [HS0]; · iexact HS0
  isplitl [HS1]; · iexact HS1
  isplitl [HS2]; · iexact HS2
  isplitl [HS3]; · iexact HS3
  isplitl [HS4]; · iexact HS4
  isplitl [Hs]; · iexact Hs
  isplitl [HW]; · iexact HW
  unfold inv
  iintro ⟨%y', %s0, %s1, %s2, %s3, %s4, %W', %h, H0, Hx, H1, Hw, H2, Hy, HS0, HS1, HS2, HS3, HS4, Hs, HW'⟩
  isplitl [HS0 HS1 HS2 HS3 HS4 Hg Hq Hs Hx Hw Hy]
  · isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    isplitl [Hg]; · iexact Hg
    isplitl [Hq Hs]
    · isplitl [Hq]; · iexact Hq
      iexact Hs
    isplitl [Hx Hw]
    · isplitl [Hx]; · iexact Hx
      iexact Hw
    iexists y'; isplitr; · ipureintro; exact C.stop c y' s0 s4 h
    iexact Hy
  isplitl [HW']
  · iexists W'; isplitr; · ipureintro; exact fun _ _ => Or.inl trivial
    iexact HW'
  isplitl [H0]; · iapply (post0 (A := A) (B := B) m c t0_0); iexact H0
  isplitl [H1]; · iapply (post1 (A := A) (B := B) m c t0_0); iexact H1
  iapply (post2 (A := A) (B := B) m c t0_0); iexact H2

theorem defs₀_row (t : Fin cfg0.N) :
    defs₀ (F := F) .tc cfg0.body (cfg0.bodyArgs t (cfg0.slots t)) = bodyAt0 t := by
  unfold defs₀; rw [Defs.onTc_tc]

include C in
theorem body_obligation (c : Dev nD) : BodyObligation (dats (F := F) m A B 0 c) (defs₀ (F := F)) Variants.none () Set.univ := fun t => by
  rw [bigSep_W0, bigSep_W0, defs₀_row]
  exact triple_restated (sound_body m C c t) rfl .rfl fun _ => .rfl

/-- The trivial relation. -/
def anything : Carries m (fun _ _ => True) (fun _ _ => True) where
  P _ _ _ _ _ := True
  pass _ _ _ _ _ _ _ _ _ _ := trivial
  start _ _ _ _ _ := trivial
  stop _ _ _ _ _ := trivial

theorem args_of {A B : (c : Dev nD) → Bf (F := F) c main_v1 → Prop} {r : PUnit × MemSt nD τ sig (Elt F)}
    (h : Pipeline.FramePostR cfgs (dats m A B) 0 R0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m A B 0 c).arrAt_in 0 rfl _).trans ((A_eq m A B c 0).trans (V_main_arg0 m c))),
    ((h c).2 main_arg1 (Finset.mem_sdiff.mpr ⟨Pipeline.mem_restRefs_of main_arg1 (by decide) (by decide), by decide⟩)).trans (V_main_arg1 m c),
    ((h c).1 1).trans (((dats m A B 0 c).arrAt_in 1 rfl _).trans ((A_eq m A B c 1).trans (V_main_arg2 m c))),
    ((h c).2 main_arg3 (Finset.mem_sdiff.mpr ⟨Pipeline.mem_restRefs_of main_arg3 (by decide) (by decide), by decide⟩)).trans (V_main_arg3 m c),
    ((h c).2 main_arg4 (Finset.mem_sdiff.mpr ⟨Pipeline.mem_restRefs_of main_arg4 (by decide) (by decide), by decide⟩)).trans (V_main_arg4 m c),
    ((h c).2 main_arg5 (Finset.mem_sdiff.mpr ⟨Pipeline.mem_restRefs_of main_arg5 (by decide) (by decide), by decide⟩)).trans (V_main_arg5 m c)⟩

set_option backward.isDefEq.respectTransparency.types false in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r (h : Pipeline.FramePostR cfgs (dats m (fun _ _ => True) (fun _ _ => True)) 0 R0 (V m) r ∧ r.2.sem = fun _ => 0) => ⟨fun c => args_of m h.1 c, h.2⟩)
    (Pipeline.θ_run_frame_dmaR (Q' := _) cfgs (dats m (fun _ _ => True) (fun _ _ => True)) (0 : Fin 1) launch0 osem0 defs₀ Variants.none ownSemFacts0 H0 R0 H0_sub R0_sub m ρ main
      (hbody := fun c => (body_obligation m (anything m) c).loose) (hshare := fun c => (dats m _ _ 0 c).share_full fun _ => rfl)
      (howed := fun _ _ => rfl) (V := V m) (hmain := hmainD m Variants.none) (hA := A_eq m _ _)
      (hin := fun c => ΦDR_ΦS m c) (hout := fun c => ΦS_ΦDR m c))

end Cert.RepairIdeal.Hand
end
-- ==== Proof.Ideal.RepairValue.lean ====
/-
  The values the repairing call leaves: each tile made with a word other than the last is made afresh.
-/
module

public import proofs.«01_k».proof.Proof.Ideal.RepairTile
public import proofs.«01_k».proof.Proof.Ideal.RepairRegion

@[expose] public section

set_option maxRecDepth 16384

noncomputable section

namespace Cert.RepairIdeal.Hand

open Idealize.ShloMosaic Idealize.ShloMosaic.TcCoe Idealize.SL.Sem
open Cert.RepairIdeal Cert.RepairIdeal.Gen

theorem ne_word (a b : BitVec 32) : Scalar.cmpi .ne (Scalar.extui (Scalar.cmpi .ne a b) : BitVec 32) 0#32 = 1#1 ↔ a ≠ b := by
  by_cases h : a = b
  · subst h; simp [Scalar.cmpi, Scalar.extui, IntOp.cmpi]
  · have hb : (a != b) = true := by simpa using h
    simp [Scalar.cmpi, Scalar.extui, IntOp.cmpi, h, hb]

theorem eq_word (a b : BitVec 32) : Scalar.cmpi .ne (Scalar.extui (Scalar.cmpi .eq a b) : BitVec 32) 0#32 = 1#1 ↔ a = b := by
  by_cases h : a = b
  · subst h; simp [Scalar.cmpi, Scalar.extui, IntOp.cmpi]
  · have hb : (a == b) = false := by simpa using h
    simp [Scalar.cmpi, Scalar.extui, IntOp.cmpi, h, hb]

theorem off1 : ∀ k : Fin k0_t1_loop.trips, k0_off1 k = ![k.val] := by decide +kernel

/-- A tile laid over an array, at an index. -/
theorem slice_at {α : Type} (y : S24576x5632.Idx → α) (d : S512x5632.Idx → α) (off : Fin 2 → ℕ) (h : S24576x5632.Slices off S512x5632) (k : ℕ) (ho : off = ![512 * k, 0])
    (R : Fin 24576) (C : Fin 5632) :
    updateSlice y d off h (ix2 R C) = if hb : 512 * k ≤ R.val ∧ R.val < 512 * k + 512 then d (ix2 ⟨R.val - 512 * k, by omega⟩ C) else y (ix2 R C) := by
  subst ho
  unfold updateSlice
  by_cases hb : 512 * k ≤ R.val ∧ R.val < 512 * k + 512
  · rw [dif_pos hb, dif_pos (fun a => match a with
      | ⟨0, _⟩ => hb
      | ⟨1, _⟩ => ⟨Nat.zero_le _, by show C.val < 0 + 5632; omega⟩)]
    refine congrArg d (funext fun a => Fin.ext ?_)
    match a with
    | ⟨0, _⟩ => rfl
    | ⟨1, _⟩ => rfl
  · rw [dif_neg hb, dif_neg (fun h => hb (h 0))]

section

variable (u : Vec Ideal S49 .i32) (x : FVec Ideal S24576x2048 .fp8e4m3) (xs : FVec Ideal S48x1x512 .f32) (w : FVec Ideal S2048x5632 .fp8e4m3) (ws : FVec Ideal S1x5632 .f32)
  (y : FVec Ideal S24576x5632 .fp8e4m3)

/-- The code of an element made afresh. -/
def made (R : Fin 24576) (C : Fin 5632) : EReal :=
  fz ((∑ κ : Fin 2048, x (ix2 R κ) * w (ix2 κ C)) * xs (ix3 ⟨R.val / 512, by omega⟩ 0 ⟨R.val % 512, by omega⟩) * ws (ix2 0 C)) (Ideal.ofBits .f32 (u (ix1 (48 : Fin 49))))

/-- Whether a row's tile was made with a word other than the last. -/
def stale (R : Fin 24576) : Prop := u (ix1 ⟨R.val / 512, by omega⟩) ≠ u (ix1 (48 : Fin 49))

open Classical in
/-- An element when the tiles before `n` have been looked at. -/
def elemTo (n : ℕ) (R : Fin 24576) (C : Fin 5632) : EReal :=
  if R.val / 512 < n ∧ stale u R then made u x xs w ws R C else y (ix2 R C)

/-- The array then. -/
def upTo (n : ℕ) : FVec Ideal S24576x5632 .fp8e4m3 := fun i => elemTo u x xs w ws y n (i 0) (i 1)

theorem upTo_at (n : ℕ) (R : Fin 24576) (C : Fin 5632) : upTo u x xs w ws y n (ix2 R C) = elemTo u x xs w ws y n R C := rfl

theorem fresh_made (inv : EReal) (sc : FVec Ideal S512x1 .f32) (A : FVec Ideal S512x2048 .fp8e4m3) (R : Fin 24576) (C : Fin 5632) (r : Fin 512)
    (hinv : inv = Ideal.ofBits .f32 (u (ix1 (48 : Fin 49)))) (hsc : sc (ix2 r 0) = xs (ix3 ⟨R.val / 512, by omega⟩ 0 ⟨R.val % 512, by omega⟩))
    (hA : ∀ κ : Fin 2048, A (ix2 r κ) = x (ix2 R κ)) : fresh inv sc A w ws (ix2 r C) = made u x xs w ws R C := by
  show fz ((∑ κ : Fin 2048, A (ix2 r κ) * w (ix2 κ C)) * sc (ix2 r 0) * ws (ix2 0 C)) inv = _
  unfold made
  simp only [hA]
  rw [hsc, hinv]

theorem upTo_zero : upTo u x xs w ws y 0 = y := by
  funext i
  obtain ⟨R, C, rfl⟩ : ∃ (R : Fin 24576) (C : Fin 5632), i = ix2 R C := ⟨i 0, i 1, eq_ix2 i⟩
  rw [upTo_at, elemTo, if_neg (fun h => absurd h.1 (Nat.not_lt_zero _))]

end

section

variable (c : Dev nD) (k : Fin k0_t1_loop.trips) (f0 : Bf (F := Ideal) c cc0_stg0_0) (x : Bf (F := Ideal) c main_arg1) (xs : Bf (F := Ideal) c cc0_stg1_0)
    (w : Bf (F := Ideal) c main_arg3) (ws : Bf (F := Ideal) c cc0_stg2_0) (y : Bf (F := Ideal) c main_v1) (s0 : Bf (F := Ideal) c cc0_scratch0)
    (s1 : Bf (F := Ideal) c cc0_scratch1) (s2 : Bf (F := Ideal) c cc0_scratch2) (s3 : Bf (F := Ideal) c cc0_scratch3) (s4 : Bf (F := Ideal) c cc0_scratch4)
    (W : Waits sig Unit) {y' : Bf (F := Ideal) c main_v1}

/-- Whether the tile of a trip is made afresh. -/
abbrev remade : Prop := Scalar.cmpi .ne (Scalar.extui (Scalar.cmpi .ne (trip.sl.r c k f0) (trip.sl.r_1 c f0)) : BitVec 32) 0#32 = 1#1

theorem trip_y : (trip c k f0 x xs w ws y s0 s1 s2 s3 s4 W).1 = if remade c k f0 then trip.sl.H6_w2 c k f0 x xs w ws y s0 s1 s3 s4 else y := rfl
theorem trip_s0 : (trip c k f0 x xs w ws y s0 s1 s2 s3 s4 W).2.1 = if remade c k f0 then (if hc : trip.sl.v13 c s4 = 1#1 then View.write (Elt Ideal) (Memref.whole cc0_scratch0).view s0 (trip.sl.dma5 c w) Finset.univ else s0) else s0 := rfl
theorem trip_s4 : (trip c k f0 x xs w ws y s0 s1 s2 s3 s4 W).2.2.2.2.2.1 = if remade c k f0 then (if trip.sl.v13 c s4 = 1#1 then (Memref.whole cc0_scratch4).view.writes (Elt Ideal) s4 [⟨Rect.unit ![0] S1.size inb_S1_S1_0, fun _ => 1#32⟩] else s4) else s4 := rfl

theorem r_eq (K : Fin 49) (hK : K.val = k.val) : trip.sl.r c k f0 = f0 (ix1 K) := by
  unfold trip.sl.r
  show f0 _ = _
  refine congrArg f0 (funext fun a => Fin.ext ?_)
  match a with
  | ⟨0, _⟩ =>
    show k0_off1 k 0 + 1 * 0 = K.val
    rw [off1, hK]
    rfl
theorem r1_eq : trip.sl.r_1 c f0 = f0 (ix1 (48 : Fin 49)) := by
  unfold trip.sl.r_1
  show f0 _ = _
  refine congrArg f0 (funext fun a => Fin.ext ?_)
  match a with
  | ⟨0, _⟩ => rfl

theorem remade_iff (K : Fin 49) (hK : K.val = k.val) : remade c k f0 ↔ f0 (ix1 K) ≠ f0 (ix1 (48 : Fin 49)) := by
  unfold remade
  rw [ne_word, r_eq c k f0 K hK, r1_eq]

theorem lowered : trip.sl.v13 (F := Ideal) c ((Memref.whole cc0_scratch4).view.writes (Elt Ideal) s4 [⟨Rect.unit ![0] S1.size inb_S1_S1_0, fun _ => 0#32⟩]) = 1#1 := by
  show Scalar.cmpi .ne (Scalar.extui (Scalar.cmpi .eq (trip.sl.r_2 (F := Ideal) c ((Memref.whole cc0_scratch4).view.writes (Elt Ideal) s4 [⟨Rect.unit ![0] S1.size inb_S1_S1_0, fun _ => 0#32⟩])) 0#32) : BitVec 32) 0#32 = 1#1
  rw [eq_word]
  unfold trip.sl.r_2
  rfl

theorem h6_at (R : Fin 24576) (C : Fin 5632) : trip.sl.H6_w2 c k f0 x xs w ws y s0 s1 s3 s4 (ix2 R C)
    = if hb : 512 * k.val ≤ R.val ∧ R.val < 512 * k.val + 512 then trip.sl.dma65 c k f0 x xs w ws s0 s1 s3 s4 (ix2 ⟨R.val - 512 * k.val, by omega⟩ C) else y (ix2 R C) := by
  unfold trip.sl.H6_w2
  refine (congrFun (View.write_whole_slice_unit (Val := Elt Ideal) main_v1 (k0_off4 k) ![512, 5632] _ y _) _).trans ?_
  exact slice_at y _ _ _ k.val (off4 k) R C

theorem trips_eq : k0_t1_loop.trips = 48 := by decide +kernel

/-- A trip's step. -/
theorem next_y (h : trip.sl.v13 c s4 = 1#1 ∨ s0 = w) (hy : y' = upTo f0 x xs w ws y k.val) :
    (trip c k f0 x xs w ws y' s0 s1 s2 s3 s4 W).1 = upTo f0 x xs w ws y (k.val + 1) := by
  have hk : k.val < 48 := trips_eq ▸ k.isLt
  rw [trip_y]
  funext i
  obtain ⟨R, C, rfl⟩ : ∃ (R : Fin 24576) (C : Fin 5632), i = ix2 R C := ⟨i 0, i 1, eq_ix2 i⟩
  rw [upTo_at]
  by_cases hr : R.val / 512 = k.val
  · have hm : remade c k f0 ↔ stale f0 R := remade_iff c k f0 ⟨R.val / 512, by omega⟩ hr
    by_cases hc : remade c k f0
    · rw [if_pos hc, elemTo, if_pos ⟨by omega, hm.mp hc⟩, h6_at, dif_pos (by omega), dma65_eq c k f0 x xs w ws s0 s1 s3 s4 h]
      have e : R.val - 512 * k.val = R.val % 512 := by omega
      refine fresh_made f0 x xs w ws _ _ _ R C _ (r4_eq c f0) ?_ fun κ => v27_at c k x s1 _ κ R (by show R.val = 512 * k.val + (R.val - 512 * k.val); omega)
      rw [r5_at c k xs _ ⟨R.val / 512, by omega⟩ hr]
      simp only [e]
    · rw [if_neg hc, elemTo, if_neg (fun e => hc (hm.mpr e.2)), hy, upTo_at, elemTo, if_neg (by omega)]
  · have e : (if remade c k f0 then trip.sl.H6_w2 c k f0 x xs w ws y' s0 s1 s3 s4 else y') (ix2 R C) = y' (ix2 R C) := by
      split
      · rw [h6_at, dif_neg (by omega)]
      · rfl
    rw [e, hy, upTo_at, elemTo, elemTo]
    have hp : (R.val / 512 < k.val ∧ stale f0 R) ↔ (R.val / 512 < k.val + 1 ∧ stale f0 R) := and_congr_left' (by omega)
    by_cases q : R.val / 512 < k.val ∧ stale f0 R
    · rw [if_pos q, if_pos (hp.mp q)]
    · rw [if_neg q, if_neg (fun z => q (hp.mpr z))]

theorem next_s0 (h : trip.sl.v13 c s4 = 1#1 ∨ s0 = w) :
    trip.sl.v13 c (trip c k f0 x xs w ws y s0 s1 s2 s3 s4 W).2.2.2.2.2.1 = 1#1 ∨ (trip c k f0 x xs w ws y s0 s1 s2 s3 s4 W).2.1 = w := by
  by_cases hc : remade c k f0
  · exact .inr ((trip_s0 c k f0 x xs w ws y s0 s1 s2 s3 s4 W).trans ((if_pos hc).trans (wbuf_eq c w s0 s4 h)))
  · rcases h with h | h
    · exact .inl ((congrArg (fun z => trip.sl.v13 (F := Ideal) c z) ((trip_s4 c k f0 x xs w ws y s0 s1 s2 s3 s4 W).trans (if_neg hc))).trans h)
    · exact .inr ((trip_s0 c k f0 x xs w ws y s0 s1 s2 s3 s4 W).trans ((if_neg hc).trans h))

end

end Cert.RepairIdeal.Hand
end
-- ==== Proof.Ideal.RepairRun.lean ====
/-
  The repairing call run over the extended reals, what it leaves named.
-/
module

public import proofs.«01_k».proof.Proof.Ideal.RepairValue

@[expose] public section

set_option maxRecDepth 16384

noncomputable section

namespace Cert.RepairIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.RepairIdeal Cert.RepairIdeal.Gen

local notation "𝕄" => MT nD τ sig Unit (Elt Ideal) ℕ (Pipeline.UD sig nD τ) ℕ

variable (m : (ℓ : Loc nD τ sig) → Buf (Elt Ideal) ℓ) (ρ : Dev nD → PrngReg)

/-- The array after the tiles before `n`. -/
abbrev yTo (c : Dev nD) (n : ℕ) : Bf (F := Ideal) c main_v1 :=
  upTo (blk0 m c t0_0) (V m c main_arg1) (blk1 m c t0_0) (V m c main_arg3) (blk2 m c t0_0) (V m c main_v1) n

/-- The loop carries the array's contents. -/
def values : Carries m (fun c f => f = V m c main_v1) (fun c f => f = yTo m c 48) where
  P c k y s0 s4 := (trip.sl.v13 (F := Ideal) c s4 = 1#1 ∨ s0 = V m c main_arg3) ∧ y = yTo m c k
  pass c k y s0 s1 s2 s3 s4 W h :=
    ⟨next_s0 c k (blk0 m c t0_0) (V m c main_arg1) (blk1 m c t0_0) (V m c main_arg3) (blk2 m c t0_0) y s0 s1 s2 s3 s4 W h.1,
      next_y c k (blk0 m c t0_0) (V m c main_arg1) (blk1 m c t0_0) (V m c main_arg3) (blk2 m c t0_0) (V m c main_v1) s0 s1 s2 s3 s4 W h.1 h.2⟩
  start c y h s0 s4 := ⟨.inl (lowered c s4), h.trans (upTo_zero _ _ _ _ _ _).symm⟩
  stop c y s0 s4 h := h.2

/-- What the written array ends at. -/
def Gout (c : Dev nD) (b : Ref sig .tc) : Buf (Elt Ideal) ((c : Thread nD τ).loc b) :=
  if h : b = main_v1 then h ▸ yTo m c 48 else V m c b

theorem Gout_v1 (c : Dev nD) : Gout m c main_v1 = yTo m c 48 := by
  unfold Gout; exact dif_pos rfl

theorem enter (c : Dev nD) : (Pipeline.ΦDRG osem0 spec0 H0 R0 (V m) (V m) c : sProp 𝕄) ⊢ ΦS m (fun c f => f = V m c main_v1) c := by
  rw [Pipeline.ΦDRG_eq, scopedRest0_eq, ownSems00_eq, hbmPts0_eq, routedPts0_eq]
  unfold ΦS
  iintro ⟨H1, H2, H3, H4, H5⟩
  isplitl [H1]; · iexact H1
  isplitl [H2]; · iexact H2
  isplitl [H3]; · iexact H3
  isplitl [H4]; · iexact H4
  iexists _; isplitr
  swap; · iexact H5
  ipureintro; rfl
theorem leave (c : Dev nD) : ΦS m (fun c f => f = yTo m c 48) c ⊢ (Pipeline.ΦDRG osem0 spec0 H0 R0 (V m) (Gout m) c : sProp 𝕄) := by
  rw [Pipeline.ΦDRG_eq, scopedRest0_eq, ownSems00_eq, hbmPts0_eq, routedPts0_eq, Gout_v1]
  unfold ΦS
  iintro ⟨H1, H2, H3, H4, ⟨%f, %hf, H5⟩⟩
  isplitl [H1]; · iexact H1
  isplitl [H2]; · iexact H2
  isplitl [H3]; · iexact H3
  isplitl [H4]; · iexact H4
  rw [hf]; iexact H5

set_option backward.isDefEq.respectTransparency.types false in
theorem run_at : θ_run defs (onTc (τ := τ) (main (F := Ideal))) ⟨m, fun _ => 0, ρ⟩ (fun r => ∀ c : Dev nD,
      r.2.mem ((c.tc : Thread nD τ).loc main_v1) = yTo m c 48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r (h : Pipeline.FramePostRG cfgs (dats m (fun c f => f = V m c main_v1) (fun c f => f = yTo m c 48)) 0 R0 (V m) (Gout m) r) c =>
      ⟨(h.written c (b := main_v1) (by decide)).trans (Gout_v1 m c), args_of m h.toR c⟩)
    (Pipeline.θ_run_frame_dmaRG cfgs (dats m (fun c f => f = V m c main_v1) (fun c f => f = yTo m c 48)) (0 : Fin 1) launch0 osem0 defs₀ Variants.none ownSemFacts0 H0 R0 H0_sub R0_sub m ρ main
      (hbody := fun c => (body_obligation m (values m) c).loose) (hshare := fun c => (dats m _ _ 0 c).share_full fun _ => rfl)
      (howed := fun _ _ => rfl) (V := V m) (hmain := hmainD m Variants.none) (hA := A_eq m _ _) (G := Gout m)
      (hin := fun c => enter m c) (hout := fun c => leave m c))

theorem idx0 : win0_0.index t0_0 = fun _ => 0 := by decide +kernel
theorem idx1 : win0_1.index t0_0 = fun _ => 0 := by decide +kernel
theorem idx2 : win0_2.index t0_0 = fun _ => 0 := by decide +kernel

theorem blk0_eq (c : Dev nD) : blk0 m c t0_0 = m ((c.tc : Thread nD τ).loc main_arg0) := by
  refine Eq.trans ?_ (V_main_arg0 m c)
  funext i
  blk_point [blk0, iblk, idx0]

theorem blk1_eq (c : Dev nD) : blk1 m c t0_0 = m ((c.tc : Thread nD τ).loc main_arg2) := by
  refine Eq.trans ?_ (V_main_arg2 m c)
  funext i
  blk_point [blk1, iblk, idx1]

theorem blk2_eq (c : Dev nD) : blk2 m c t0_0 = shapeCast S1x5632 (m ((c.tc : Thread nD τ).loc main_arg4)) shapeCasts_S5632_S1x5632 := by
  have e : V m c main_v0 = shapeCast S1x5632 (m ((c.tc : Thread nD τ).loc main_arg4)) shapeCasts_S5632_S1x5632 := by
    entry_read
    rfl
  refine Eq.trans ?_ e
  funext i
  blk_point [blk2, iblk, idx2]

theorem y_eq (c : Dev nD) : V m c main_v1 = m ((c.tc : Thread nD τ).loc main_arg5) := by
  entry_read
  rfl

/-- The array the call leaves, from its arguments. -/
abbrev yOut (c : Dev nD) : Buf (Elt Ideal) ((c.tc : Thread nD τ).loc main_v1) :=
  upTo (m ((c.tc : Thread nD τ).loc main_arg0)) (m ((c.tc : Thread nD τ).loc main_arg1)) (m ((c.tc : Thread nD τ).loc main_arg2)) (m ((c.tc : Thread nD τ).loc main_arg3))
    (shapeCast S1x5632 (m ((c.tc : Thread nD τ).loc main_arg4)) shapeCasts_S5632_S1x5632) (m ((c.tc : Thread nD τ).loc main_arg5)) 48

theorem yTo_eq (c : Dev nD) : yTo m c 48 = yOut m c := by
  unfold yTo yOut
  rw [blk0_eq, blk1_eq, blk2_eq, y_eq, V_main_arg1, V_main_arg3]

end Cert.RepairIdeal.Hand
end
-- ==== Proof.Ideal.Repaired.lean ====
/-
  The reference of the repairing call read at an index over the extended reals: the two leave the same array.
-/
module

public import proofs.«01_k».proof.Defs
public import proofs.«01_k».proof.Proof.Ideal.RepairRun
public import proofs.«01_k».proof.Proof.Gen.RepairedIdeal.Frame

@[expose] public section

set_option maxRecDepth 16384

noncomputable section

namespace Cert.RepairedIdeal.Hand

open Idealize.ShloMosaic Idealize.ShloMosaic.TcCoe Idealize.SL.Sem
open Cert.RepairedIdeal Cert.RepairedIdeal.Gen

theorem pay_raw (x : FVec Ideal S24576x2048 .fp8e4m3) (w : FVec Ideal S2048x5632 .fp8e4m3) (xs : FVec Ideal S24576x1 .f32) (ws : FVec Ideal S1x5632 .f32) (l : IVec S1x1 32) (u : IVec S24576x1 32)
    (l' : IVec S1x1 32) (y : FVec Ideal S24576x5632 .fp8e4m3) (R : Fin 24576) (C : Fin 5632) :
    k0_pay1 (F := Ideal) x w xs ws l u l' y (ix2 R C) = Scalar.select (Scalar.cmpi .eq (u (ix2 R 0)) (l' (ix2 0 0))) (y (ix2 R C))
      (min (Ideal.ofBits .f32 0x43E00000#32) (max (Ideal.ofBits .f32 0xC3E00000#32)
        ((∑ κ : Fin 2048, x (ix2 R κ) * w (ix2 κ C)) * xs (ix2 R 0) * ws (ix2 0 C) * Ideal.ofBits .f32 (l (ix2 0 0))))) := by
  pointwise [k0_pay1]
  rfl

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0])

theorem final7 (c : Dev nD) : (dats m 0 c).arrAt 7 (cfgs 0).N
    = k0_pay1 (F := Ideal) (V m c main_arg1) (V m c main_arg3) (V m c main_v6) (V m c main_v7) (V m c main_v5) (V m c main_v3) (V m c main_v5) (V m c main_arg5) := by
  refine (dats m 0 c).arrAt_eq_of_after_last 7 t0_0 (by decide +kernel) _ fun j => ?_
  blk_simp
  rw [after0_7]; frame_out
  blk_point [iblk, idx t0_0]

theorem rows_eq (c : Dev nD) : V m c main_v3 = shapeCast S24576x1 (broadcastInDim S48x512 ![0, 1] bcast_S48x1_S48x512_0_1
    (shapeCast S48x1 (extractStridedSlice S48 ![0] (m ((c.tc : Thread nD τ).loc main_arg0)) slices_S49_S48_0) shapeCasts_S48_S48x1)) shapeCasts_S48x512_S24576x1 := by
  entry_read
  rfl

theorem last_eq (c : Dev nD) : V m c main_v5 = shapeCast S1x1 (extractStridedSlice S1 ![48] (m ((c.tc : Thread nD τ).loc main_arg0)) slices_S49_S1_48) shapeCasts_S1_S1x1 := by
  entry_read
  rfl

theorem xs_eq (c : Dev nD) : V m c main_v6 = shapeCast S24576x1 (m ((c.tc : Thread nD τ).loc main_arg2)) shapeCasts_S48x1x512_S24576x1 := by
  entry_read
  rfl

theorem ws_eq (c : Dev nD) : V m c main_v7 = shapeCast S1x5632 (m ((c.tc : Thread nD τ).loc main_arg4)) shapeCasts_S5632_S1x5632 := by
  entry_read
  rfl

theorem rows_at (u : IVec S49 32) (R : Fin 24576) :
    shapeCast S24576x1 (broadcastInDim S48x512 ![0, 1] bcast_S48x1_S48x512_0_1 (shapeCast S48x1 (extractStridedSlice S48 ![0] u slices_S49_S48_0) shapeCasts_S48_S48x1)) shapeCasts_S48x512_S24576x1 (ix2 R 0)
      = u (ix1 ⟨R.val / 512, by omega⟩) := by
  pointwise []

theorem last_at (u : IVec S49 32) : shapeCast S1x1 (extractStridedSlice S1 ![48] u slices_S49_S1_48) shapeCasts_S1_S1x1 (ix2 0 0) = u (ix1 (48 : Fin 49)) := by
  pointwise []

theorem lanes_at (v : FVec Ideal S48x1x512 .f32) (R : Fin 24576) :
    shapeCast S24576x1 v shapeCasts_S48x1x512_S24576x1 (ix2 R 0) = v (ix3 ⟨R.val / 512, by omega⟩ 0 ⟨R.val % 512, by omega⟩) := by
  pointwise []

/-- The run of the reference with its result named. -/
theorem run_values (ρ : Dev nD → PrngReg) : θ_run defs (onTc (τ := τ) (main (F := Ideal))) ⟨m, fun _ => 0, ρ⟩ (fun r => ∀ c : Dev nD,
      r.2.mem ((c.tc : Thread nD τ).loc main_v8)
        = k0_pay1 (F := Ideal) (V m c main_arg1) (V m c main_arg3) (V m c main_v6) (V m c main_v7) (V m c main_v5) (V m c main_v3) (V m c main_v5) (V m c main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from run_main m ρ
  · exact final7 m c

end Cert.RepairedIdeal.Hand

namespace Cert

open Idealize.ShloMosaic Idealize.ShloMosaic.TcCoe Idealize.SL.Sem
open RepairIdeal.Hand (upTo elemTo stale made)

theorem pick {α : Type} (a b : BitVec 32) (p q : α) : Scalar.select (Scalar.cmpi .eq a b) p q = if a = b then p else q := by
  by_cases h : a = b
  · subst h; simp [Scalar.select, Scalar.cmpi, IntOp.cmpi]
  · have hb : (a == b) = false := by simpa using h
    simp [Scalar.select, Scalar.cmpi, IntOp.cmpi, h, hb]

/-- What the reference computes is what the tiles looked at one by one become. -/
theorem repaired_eq (u : IVec RepairedIdeal.S49 32) (x : FVec Ideal RepairedIdeal.S24576x2048 .fp8e4m3) (xs : FVec Ideal RepairedIdeal.S48x1x512 .f32)
    (w : FVec Ideal RepairedIdeal.S2048x5632 .fp8e4m3) (ws : FVec Ideal RepairedIdeal.S1x5632 .f32) (y : FVec Ideal RepairedIdeal.S24576x5632 .fp8e4m3)
    (xs' : FVec Ideal RepairedIdeal.S24576x1 .f32) (l : IVec RepairedIdeal.S1x1 32) (r : IVec RepairedIdeal.S24576x1 32)
    (hx : ∀ R : Fin 24576, xs' (ix2 R 0) = xs (ix3 ⟨R.val / 512, by omega⟩ 0 ⟨R.val % 512, by omega⟩)) (hl : l (ix2 0 0) = u (ix1 (48 : Fin 49)))
    (hr : ∀ R : Fin 24576, r (ix2 R 0) = u (ix1 ⟨R.val / 512, by omega⟩)) :
    RepairedIdeal.Gen.k0_pay1 (F := Ideal) x w xs' ws l r l y = upTo u x xs w ws y 48 := by
  funext i
  obtain ⟨R, C, rfl⟩ : ∃ (R : Fin 24576) (C : Fin 5632), i = ix2 R C := ⟨i 0, i 1, eq_ix2 i⟩
  rw [RepairedIdeal.Hand.pay_raw, RepairIdeal.Hand.upTo_at, pick, hx, hl, hr, elemTo]
  by_cases h : u (ix1 ⟨R.val / 512, by omega⟩) = u (ix1 (48 : Fin 49))
  · rw [if_pos h, if_neg (fun q => q.2 h)]
  · rw [if_neg h, if_pos ⟨by omega, h⟩, made, RepairIdeal.Hand.fz]

theorem algebraic_repair : Cert.algebraic_RepairIdeal_RepairedIdeal := by
  intro m g m' g' hpre hagree
  refine ⟨fun c => RepairIdeal.Hand.yOut m c, (θ_run _ _ _).mono (fun r h c => ⟨(h c).1.trans (RepairIdeal.Hand.yTo_eq m c), (h c).2⟩) (RepairIdeal.Hand.run_at m g), ?_⟩
  refine (θ_run _ _ _).mono (fun r h c => ⟨?_, (h c).2⟩) (RepairedIdeal.Hand.run_values m' g')
  obtain ⟨h0, h1, h2, h3, h4, h5⟩ := hagree c
  rw [(h c).1, RepairedIdeal.Gen.V_main_arg1, RepairedIdeal.Gen.V_main_arg3, RepairedIdeal.Gen.V_main_arg5, RepairedIdeal.Hand.xs_eq, RepairedIdeal.Hand.ws_eq, RepairedIdeal.Hand.last_eq,
    RepairedIdeal.Hand.rows_eq, h0, h1, h2, h3, h4, h5]
  exact repaired_eq _ _ _ _ _ _ _ _ _ (fun R => RepairedIdeal.Hand.lanes_at _ R) (RepairedIdeal.Hand.last_at _) (fun R => RepairedIdeal.Hand.rows_at _ R)

end Cert

end
-- ==== Proof.lean ====
/-
  The proof of the certificate's claims: every program runs to the end, leaves its arguments unchanged and every
  semaphore counter at zero; the idealizations rewrite nothing; and over the extended reals each of the two calls and its
  reference leave equal results.
-/
module

public import proofs.«01_k».proof.Defs
public import proofs.«01_k».proof.Proof.MainRun
public import proofs.«01_k».proof.Proof.Ideal.MainRun
public import proofs.«01_k».proof.Proof.Ideal.Algebraic
public import proofs.«01_k».proof.Proof.Gen.ReferenceIdeal.Frame
public import proofs.«01_k».proof.Proof.RepairRegion
public import proofs.«01_k».proof.Proof.Ideal.Repaired

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Repair.Gen.facts, Cert.RepairIdeal.Gen.facts, Cert.RepairedIdeal.Gen.facts,
    fun m ρ _ => Cert.Kernel.Hand.frame m ρ, fun m ρ _ => Cert.KernelIdeal.Hand.frame m ρ,
    fun m ρ _ => Cert.ReferenceIdeal.Gen.frame m ρ,
    fun m ρ _ => Cert.Repair.Hand.frame m ρ, fun m ρ _ => Cert.RepairIdeal.Hand.frame m ρ,
    fun m ρ _ => Cert.RepairedIdeal.Gen.frame m ρ, trivial, Cert.algebraic_hand, trivial, Cert.algebraic_repair⟩

end Cert.Proof

end
